-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![16384, 1024]⟩ ⟨2, ![65536, 1024]⟩ (Layout.meshBlock [2, 2, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S2048 : Shape := ⟨1, ![2048]⟩
abbrev S16384x1024 : Shape := ⟨2, ![16384, 1024]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : IVec S2048 32) (main_arg1 : FVec F S16384x1024 .f32) : IVec S2048 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 65536#32
  let main_v2 : IVec S2048 32 := broadcastInDim S2048 ![] bcast_S_S2048 main_c_0
  let main_v3 : IVec S2048 1 := cmpi .slt main_arg0 main_v2
  let main_v4 : IVec S2048 1 := andi main_v1 main_v3
  main_v4
-- ==== Pre_ids_in_range_ReferenceIdeal.lean ====
abbrev S2048 : Shape := ⟨1, ![2048]⟩
abbrev S65536x1024 : Shape := ⟨2, ![65536, 1024]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : IVec S2048 32) (main_arg1 : FVec F S65536x1024 .f32) : IVec S2048 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 65536#32
  let main_v2 : IVec S2048 32 := broadcastInDim S2048 ![] bcast_S_S2048 main_c_0
  let main_v3 : IVec S2048 1 := cmpi .slt main_arg0 main_v2
  let main_v4 : IVec S2048 1 := andi main_v1 main_v3
  main_v4
-- ==== Kernel.lean ====
abbrev S2048 : Shape := ⟨1, ![2048]⟩
abbrev S16384x1024 : Shape := ⟨2, ![16384, 1024]⟩
abbrev S_ : Shape := ⟨0, ![]⟩
abbrev S512 : Shape := ⟨1, ![512]⟩
abbrev S512x1 : Shape := ⟨2, ![512, 1]⟩
abbrev S2048x1024 : Shape := ⟨2, ![2048, 1024]⟩
abbrev S4x128x1024 : Shape := ⟨3, ![4, 128, 1024]⟩
abbrev S4 : Shape := ⟨1, ![4]⟩
abbrev S4x5x128x1024 : Shape := ⟨4, ![4, 5, 128, 1024]⟩
abbrev S4x4x128x1024 : Shape := ⟨4, ![4, 4, 128, 1024]⟩
abbrev S4x2 : Shape := ⟨2, ![4, 2]⟩
abbrev S1 : Shape := ⟨1, ![1]⟩
abbrev S1x1x1024 : Shape := ⟨3, ![1, 1, 1024]⟩
abbrev S1024 : Shape := ⟨1, ![1024]⟩
abbrev S1x1024 : Shape := ⟨2, ![1, 1024]⟩
abbrev S1x128x1024 : Shape := ⟨3, ![1, 128, 1024]⟩
abbrev S128x1024 : Shape := ⟨2, ![128, 1024]⟩
abbrev S128x1 : Shape := ⟨2, ![128, 1]⟩
abbrev S1x1x128x1024 : Shape := ⟨4, ![1, 1, 128, 1024]⟩
abbrev S1x1 : Shape := ⟨2, ![1, 1]⟩

abbrev nBuf : Space → Nat
  | .hbm => 49
  | .vmem => 5
  | .smem => 1
  | _ => 0

abbrev bufTy : (tb : Table) → Fin (tcTables nBuf tb) → BufTy
  | .hbm, ⟨0, _⟩ => ⟨S2048, .i32⟩
  | .hbm, ⟨1, _⟩ => ⟨S16384x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S_, .i32⟩
  | .hbm, ⟨32, _⟩ => ⟨S_, .i32⟩
  | .hbm, ⟨33, _⟩ => ⟨S512, .i32⟩
  | .hbm, ⟨34, _⟩ => ⟨S512, .i32⟩
  | .hbm, ⟨35, _⟩ => ⟨S_, .i32⟩
  | .hbm, ⟨36, _⟩ => ⟨S512, .i32⟩
  | .hbm, ⟨37, _⟩ => ⟨S512, .i1⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .f32⟩
  | .hbm, ⟨47, _⟩ => ⟨S512x1, .f32⟩
  | .hbm, ⟨48, _⟩ => ⟨S2048x1024, .f32⟩
  | .local _ .vmem, ⟨0, _⟩ => ⟨S512x1, .f32⟩
  | .local _ .vmem, ⟨1, _⟩ => ⟨S2048x1024, .f32⟩
  | .local _ .vmem, ⟨2, _⟩ => ⟨S4x128x1024, .f32⟩
  | .local _ .vmem, ⟨3, _⟩ => ⟨S4x5x128x1024, .bf16⟩
  | .local _ .vmem, ⟨4, _⟩ => ⟨S4x4x128x1024, .bf16⟩
  | .local _ .smem, ⟨0, _⟩ => ⟨S512, .i32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_5 : Ref sig .tc := ⟨.hbm, 20, rfl⟩
abbrev main_v13 : Ref sig .tc := ⟨.hbm, 21, rfl⟩
abbrev main_v14 : Ref sig .tc := ⟨.hbm, 22, rfl⟩
abbrev main_c_6 : Ref sig .tc := ⟨.hbm, 23, rfl⟩
abbrev main_v15 : Ref sig .tc := ⟨.hbm, 24, rfl⟩
abbrev main_c_7 : Ref sig .tc := ⟨.hbm, 25, rfl⟩
abbrev main_v16 : Ref sig .tc := ⟨.hbm, 26, rfl⟩
abbrev main_c_8 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_9 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_10 : Ref sig .tc := ⟨.hbm, 35, rfl⟩
abbrev main_v23 : Ref sig .tc := ⟨.hbm, 36, rfl⟩
abbrev main_v24 : Ref sig .tc := ⟨.hbm, 37, rfl⟩
abbrev main_c_11 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_12 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch2 : Ref sig .tc := ⟨.vmem, 3, rfl⟩
abbrev cc0_scratch3 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v17 : BitVec 32 := Scalar.muli v2 c8_i32_10
  let v18 : BitVec 32 := Scalar.addi c0_i32 v17
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v19 : BitVec 32 := Scalar.muli v5 c4_i32_11
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v12 : BitVec 32 := Scalar.addi v8 c1_i32_4
  let c4_i32_5 : BitVec 32 := 4#32
  let v13 : BitVec 32 := Scalar.remsi v12 c4_i32_5
  let c1_i32_12 : BitVec 32 := 1#32
  let v21 : BitVec 32 := Scalar.muli v13 c1_i32_12
  let v22 : BitVec 32 := Scalar.addi v20 v21
  v22.toNat
def k0_dev2 (d0 : Dev nD) : Nat :=
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_14 : BitVec 32 := 8#32
  let v23 : BitVec 32 := Scalar.muli v2 c8_i32_14
  let v24 : BitVec 32 := Scalar.addi c0_i32_15 v23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_16 : BitVec 32 := 4#32
  let v25 : BitVec 32 := Scalar.muli v5 c4_i32_16
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_6 : BitVec 32 := 4#32
  let v14 : BitVec 32 := Scalar.addi v8 c4_i32_6
  let c1_i32_7 : BitVec 32 := 1#32
  let v15 : BitVec 32 := Scalar.subi v14 c1_i32_7
  let c4_i32_8 : BitVec 32 := 4#32
  let v16 : BitVec 32 := Scalar.remsi v15 c4_i32_8
  let c1_i32_17 : BitVec 32 := 1#32
  let v27 : BitVec 32 := Scalar.muli v16 c1_i32_17
  let v28 : BitVec 32 := Scalar.addi v26 v27
  v28.toNat
def k0_dev3 (d0 : Dev nD) : Nat :=
  let c0_i32_20 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_19 : BitVec 32 := 8#32
  let v29 : BitVec 32 := Scalar.muli v2 c8_i32_19
  let v30 : BitVec 32 := Scalar.addi c0_i32_20 v29
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_21 : BitVec 32 := 4#32
  let v31 : BitVec 32 := Scalar.muli v9 c4_i32_21
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v33 : BitVec 32 := Scalar.muli v8 c1_i32_22
  let v34 : BitVec 32 := Scalar.addi v32 v33
  v34.toNat
def k0_dev4 (d0 : Dev nD) : Nat :=
  let c0_i32_25 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_24 : BitVec 32 := 8#32
  let v35 : BitVec 32 := Scalar.muli v10 c8_i32_24
  let v36 : BitVec 32 := Scalar.addi c0_i32_25 v35
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v37 : BitVec 32 := Scalar.muli v5 c4_i32_26
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v39 : BitVec 32 := Scalar.muli v8 c1_i32_27
  let v40 : BitVec 32 := Scalar.addi v38 v39
  v40.toNat
@[reducible] def k0_t1_loop : Scf.Loop 32 :=
  let c0_i32_36 : BitVec 32 := 0#32
  let c128_i32 : BitVec 32 := 128#32
  let v53 : BitVec 32 := Scalar.addi c0_i32_36 c128_i32
  let c1_i32_37 : BitVec 32 := 1#32
  ⟨c0_i32_36, v53, c1_i32_37⟩
def k0_off1 (k0_t1 : Fin k0_t1_loop.trips) : Fin 1 → Nat :=
  let c0_i32_829 : BitVec 32 := 0#32
  let c0_i32_36 : BitVec 32 := 0#32
  let c1_i32_37 : BitVec 32 := 1#32
  let arg14 : BitVec 32 := Scf.iv c0_i32_36 c1_i32_37 k0_t1
  let v733 : BitVec 32 := Scalar.addi c0_i32_829 arg14
  let v734 : Index := Scalar.indexCast v733
  ![v734.toNat]
def k0_off2 (k0_t1 : Fin k0_t1_loop.trips) : Fin 3 → Nat :=
  let c0_i32_830 : BitVec 32 := 0#32
  let c0_i32_36 : BitVec 32 := 0#32
  let c1_i32_37 : BitVec 32 := 1#32
  let arg14 : BitVec 32 := Scf.iv c0_i32_36 c1_i32_37 k0_t1
  let c0_i32_832 : BitVec 32 := 0#32
  ![0, arg14.toNat, 0]
def k0_off3 (v735 : BitVec 32) : Fin 2 → Nat :=
  let c0_i32_833 : BitVec 32 := 0#32
  ![v735.toNat, 0]

def k0_chk1 (v735 : BitVec 32) : Prop :=
  (∀ a, (k0_off3 v735) a + S1x1024.size a ≤ S16384x1024.size a)
theorem k0_off3_inb : ∀ (v735 : BitVec 32) (k0_hw1 : k0_chk1 v735), ∀ a, (k0_off3 v735) a + S1x1024.size a ≤ S16384x1024.size a := fun v735 k0_hw1 => k0_hw1

@[reducible] def k0_t2_loop : Scf.Loop 32 :=
  let c0_i32_40 : BitVec 32 := 0#32
  let c128_i32_41 : BitVec 32 := 128#32
  let v54 : BitVec 32 := Scalar.addi c0_i32_40 c128_i32_41
  let c1_i32_42 : BitVec 32 := 1#32
  ⟨c0_i32_40, v54, c1_i32_42⟩
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_51 : BitVec 32 := 0#32
  let v65 : BitVec 1 := Scalar.cmpi .eq v8 c0_i32_51
  let v66 : BitVec 32 := Scalar.extui v65
  let c0_i32_52 : BitVec 32 := 0#32
  let v67 : BitVec 1 := Scalar.cmpi .ne v66 c0_i32_52
  v67

def k0_dev5 (d0 : Dev nD) : Nat :=
  let c0_i32_839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_838 : BitVec 32 := 8#32
  let v734 : BitVec 32 := Scalar.muli v2 c8_i32_838
  let v735 : BitVec 32 := Scalar.addi c0_i32_839 v734
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v736 : BitVec 32 := Scalar.muli v5 c4_i32_840
  let v737 : BitVec 32 := Scalar.addi v735 v736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_829 : BitVec 32 := 1#32
  let v733 : BitVec 32 := Scalar.addi v8 c1_i32_829
  let c1_i32_841 : BitVec 32 := 1#32
  let v738 : BitVec 32 := Scalar.muli v733 c1_i32_841
  let v739 : BitVec 32 := Scalar.addi v737 v738
  v739.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v68 : BitVec 1 := Scalar.cmpi .eq v8 c3_i32
  let v69 : BitVec 32 := Scalar.extui v68
  let c0_i32_53 : BitVec 32 := 0#32
  let v70 : BitVec 1 := Scalar.cmpi .ne v69 c0_i32_53
  v70

def k0_dev6 (d0 : Dev nD) : Nat :=
  let c0_i32_839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_838 : BitVec 32 := 8#32
  let v734 : BitVec 32 := Scalar.muli v2 c8_i32_838
  let v735 : BitVec 32 := Scalar.addi c0_i32_839 v734
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v736 : BitVec 32 := Scalar.muli v5 c4_i32_840
  let v737 : BitVec 32 := Scalar.addi v735 v736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_829 : BitVec 32 := 1#32
  let v733 : BitVec 32 := Scalar.subi v8 c1_i32_829
  let c1_i32_841 : BitVec 32 := 1#32
  let v738 : BitVec 32 := Scalar.muli v733 c1_i32_841
  let v739 : BitVec 32 := Scalar.addi v737 v738
  v739.toNat
@[reducible] def k0_t3_loop : Scf.Loop 32 :=
  let c0_i32_54 : BitVec 32 := 0#32
  let c128_i32_55 : BitVec 32 := 128#32
  let v71 : BitVec 32 := Scalar.addi c0_i32_54 c128_i32_55
  let c1_i32_56 : BitVec 32 := 1#32
  ⟨c0_i32_54, v71, c1_i32_56⟩
def k0_off4 (k0_t3 : Fin k0_t3_loop.trips) : Fin 1 → Nat :=
  let c128_i32_829 : BitVec 32 := 128#32
  let c0_i32_54 : BitVec 32 := 0#32
  let c1_i32_56 : BitVec 32 := 1#32
  let arg14 : BitVec 32 := Scf.iv c0_i32_54 c1_i32_56 k0_t3
  let v733 : BitVec 32 := Scalar.addi c128_i32_829 arg14
  let v734 : Index := Scalar.indexCast v733
  ![v734.toNat]
def k0_off5 (k0_t3 : Fin k0_t3_loop.trips) : Fin 3 → Nat :=
  let c1_i32_830 : BitVec 32 := 1#32
  let c0_i32_54 : BitVec 32 := 0#32
  let c1_i32_56 : BitVec 32 := 1#32
  let arg14 : BitVec 32 := Scf.iv c0_i32_54 c1_i32_56 k0_t3
  let c0_i32_832 : BitVec 32 := 0#32
  ![1, arg14.toNat, 0]
def k0_off6 (v735 : BitVec 32) : Fin 2 → Nat :=
  let c0_i32_833 : BitVec 32 := 0#32
  ![v735.toNat, 0]

def k0_chk2 (v735 : BitVec 32) : Prop :=
  (∀ a, (k0_off6 v735) a + S1x1024.size a ≤ S16384x1024.size a)
theorem k0_off6_inb : ∀ (v735 : BitVec 32) (k0_hw2 : k0_chk2 v735), ∀ a, (k0_off6 v735) a + S1x1024.size a ≤ S16384x1024.size a := fun v735 k0_hw2 => k0_hw2

@[reducible] def k0_t4_loop : Scf.Loop 32 :=
  let c0_i32_58 : BitVec 32 := 0#32
  let c128_i32_59 : BitVec 32 := 128#32
  let v72 : BitVec 32 := Scalar.addi c0_i32_58 c128_i32_59
  let c1_i32_60 : BitVec 32 := 1#32
  ⟨c0_i32_58, v72, c1_i32_60⟩
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_68 : BitVec 32 := 0#32
  let v83 : BitVec 1 := Scalar.cmpi .eq v8 c0_i32_68
  let v84 : BitVec 32 := Scalar.extui v83
  let c0_i32_69 : BitVec 32 := 0#32
  let v85 : BitVec 1 := Scalar.cmpi .ne v84 c0_i32_69
  v85

def k0_dev7 (d0 : Dev nD) : Nat :=
  let c0_i32_839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_838 : BitVec 32 := 8#32
  let v734 : BitVec 32 := Scalar.muli v2 c8_i32_838
  let v735 : BitVec 32 := Scalar.addi c0_i32_839 v734
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v736 : BitVec 32 := Scalar.muli v5 c4_i32_840
  let v737 : BitVec 32 := Scalar.addi v735 v736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_829 : BitVec 32 := 1#32
  let v733 : BitVec 32 := Scalar.addi v8 c1_i32_829
  let c1_i32_841 : BitVec 32 := 1#32
  let v738 : BitVec 32 := Scalar.muli v733 c1_i32_841
  let v739 : BitVec 32 := Scalar.addi v737 v738
  v739.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_70 : BitVec 32 := 3#32
  let v86 : BitVec 1 := Scalar.cmpi .eq v8 c3_i32_70
  let v87 : BitVec 32 := Scalar.extui v86
  let c0_i32_71 : BitVec 32 := 0#32
  let v88 : BitVec 1 := Scalar.cmpi .ne v87 c0_i32_71
  v88

def k0_dev8 (d0 : Dev nD) : Nat :=
  let c0_i32_839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_838 : BitVec 32 := 8#32
  let v734 : BitVec 32 := Scalar.muli v2 c8_i32_838
  let v735 : BitVec 32 := Scalar.addi c0_i32_839 v734
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v736 : BitVec 32 := Scalar.muli v5 c4_i32_840
  let v737 : BitVec 32 := Scalar.addi v735 v736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_829 : BitVec 32 := 1#32
  let v733 : BitVec 32 := Scalar.subi v8 c1_i32_829
  let c1_i32_841 : BitVec 32 := 1#32
  let v738 : BitVec 32 := Scalar.muli v733 c1_i32_841
  let v739 : BitVec 32 := Scalar.addi v737 v738
  v739.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v89 : BitVec 1 := Scalar.cmpi .eq v8 c1_i32_72
  let v90 : BitVec 32 := Scalar.extui v89
  let c0_i32_73 : BitVec 32 := 0#32
  let v91 : BitVec 1 := Scalar.cmpi .ne v90 c0_i32_73
  v91

def k0_dev9 (d0 : Dev nD) : Nat :=
  let c0_i32_867 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_866 : BitVec 32 := 8#32
  let v754 : BitVec 32 := Scalar.muli v2 c8_i32_866
  let v755 : BitVec 32 := Scalar.addi c0_i32_867 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_868 : BitVec 32 := 4#32
  let v756 : BitVec 32 := Scalar.muli v5 c4_i32_868
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_857 : BitVec 32 := 1#32
  let v753 : BitVec 32 := Scalar.addi v8 c1_i32_857
  let c1_i32_869 : BitVec 32 := 1#32
  let v758 : BitVec 32 := Scalar.muli v753 c1_i32_869
  let v759 : BitVec 32 := Scalar.addi v757 v758
  v759.toNat
def k0_dev10 (d0 : Dev nD) : Nat :=
  let c0_i32_911 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_910 : BitVec 32 := 8#32
  let v789 : BitVec 32 := Scalar.muli v2 c8_i32_910
  let v790 : BitVec 32 := Scalar.addi c0_i32_911 v789
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_912 : BitVec 32 := 4#32
  let v791 : BitVec 32 := Scalar.muli v5 c4_i32_912
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_901 : BitVec 32 := 1#32
  let v788 : BitVec 32 := Scalar.subi v8 c1_i32_901
  let c1_i32_913 : BitVec 32 := 1#32
  let v793 : BitVec 32 := Scalar.muli v788 c1_i32_913
  let v794 : BitVec 32 := Scalar.addi v792 v793
  v794.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_74 : BitVec 32 := 2#32
  let v92 : BitVec 1 := Scalar.cmpi .eq v8 c2_i32_74
  let v93 : BitVec 32 := Scalar.extui v92
  let c0_i32_75 : BitVec 32 := 0#32
  let v94 : BitVec 1 := Scalar.cmpi .ne v93 c0_i32_75
  v94

def k0_dev11 (d0 : Dev nD) : Nat :=
  let c0_i32_866 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_865 : BitVec 32 := 8#32
  let v754 : BitVec 32 := Scalar.muli v2 c8_i32_865
  let v755 : BitVec 32 := Scalar.addi c0_i32_866 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_867 : BitVec 32 := 4#32
  let v756 : BitVec 32 := Scalar.muli v5 c4_i32_867
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_856 : BitVec 32 := 1#32
  let v753 : BitVec 32 := Scalar.subi v8 c1_i32_856
  let c1_i32_868 : BitVec 32 := 1#32
  let v758 : BitVec 32 := Scalar.muli v753 c1_i32_868
  let v759 : BitVec 32 := Scalar.addi v757 v758
  v759.toNat
def k0_dev12 (d0 : Dev nD) : Nat :=
  let c0_i32_911 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_910 : BitVec 32 := 8#32
  let v789 : BitVec 32 := Scalar.muli v2 c8_i32_910
  let v790 : BitVec 32 := Scalar.addi c0_i32_911 v789
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_912 : BitVec 32 := 4#32
  let v791 : BitVec 32 := Scalar.muli v5 c4_i32_912
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_901 : BitVec 32 := 1#32
  let v788 : BitVec 32 := Scalar.addi v8 c1_i32_901
  let c1_i32_913 : BitVec 32 := 1#32
  let v793 : BitVec 32 := Scalar.muli v788 c1_i32_913
  let v794 : BitVec 32 := Scalar.addi v792 v793
  v794.toNat
@[reducible] def k0_t5_loop : Scf.Loop 32 :=
  let c0_i32_76 : BitVec 32 := 0#32
  let c128_i32_77 : BitVec 32 := 128#32
  let v95 : BitVec 32 := Scalar.addi c0_i32_76 c128_i32_77
  let c1_i32_78 : BitVec 32 := 1#32
  ⟨c0_i32_76, v95, c1_i32_78⟩
def k0_off7 (k0_t5 : Fin k0_t5_loop.trips) : Fin 1 → Nat :=
  let c256_i32_829 : BitVec 32 := 256#32
  let c0_i32_76 : BitVec 32 := 0#32
  let c1_i32_78 : BitVec 32 := 1#32
  let arg14 : BitVec 32 := Scf.iv c0_i32_76 c1_i32_78 k0_t5
  let v733 : BitVec 32 := Scalar.addi c256_i32_829 arg14
  let v734 : Index := Scalar.indexCast v733
  ![v734.toNat]
def k0_off8 (k0_t5 : Fin k0_t5_loop.trips) : Fin 3 → Nat :=
  let c2_i32_830 : BitVec 32 := 2#32
  let c0_i32_76 : BitVec 32 := 0#32
  let c1_i32_78 : BitVec 32 := 1#32
  let arg14 : BitVec 32 := Scf.iv c0_i32_76 c1_i32_78 k0_t5
  let c0_i32_832 : BitVec 32 := 0#32
  ![2, arg14.toNat, 0]
def k0_off9 (v735 : BitVec 32) : Fin 2 → Nat :=
  let c0_i32_833 : BitVec 32 := 0#32
  ![v735.toNat, 0]

def k0_chk3 (v735 : BitVec 32) : Prop :=
  (∀ a, (k0_off9 v735) a + S1x1024.size a ≤ S16384x1024.size a)
theorem k0_off9_inb : ∀ (v735 : BitVec 32) (k0_hw3 : k0_chk3 v735), ∀ a, (k0_off9 v735) a + S1x1024.size a ≤ S16384x1024.size a := fun v735 k0_hw3 => k0_hw3

@[reducible] def k0_t6_loop : Scf.Loop 32 :=
  let c0_i32_80 : BitVec 32 := 0#32
  let c128_i32_81 : BitVec 32 := 128#32
  let v96 : BitVec 32 := Scalar.addi c0_i32_80 c128_i32_81
  let c1_i32_82 : BitVec 32 := 1#32
  ⟨c0_i32_80, v96, c1_i32_82⟩
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_90 : BitVec 32 := 0#32
  let v107 : BitVec 1 := Scalar.cmpi .eq v8 c0_i32_90
  let v108 : BitVec 32 := Scalar.extui v107
  let c0_i32_91 : BitVec 32 := 0#32
  let v109 : BitVec 1 := Scalar.cmpi .ne v108 c0_i32_91
  v109

def k0_dev13 (d0 : Dev nD) : Nat :=
  let c0_i32_839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_838 : BitVec 32 := 8#32
  let v734 : BitVec 32 := Scalar.muli v2 c8_i32_838
  let v735 : BitVec 32 := Scalar.addi c0_i32_839 v734
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v736 : BitVec 32 := Scalar.muli v5 c4_i32_840
  let v737 : BitVec 32 := Scalar.addi v735 v736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_829 : BitVec 32 := 1#32
  let v733 : BitVec 32 := Scalar.addi v8 c1_i32_829
  let c1_i32_841 : BitVec 32 := 1#32
  let v738 : BitVec 32 := Scalar.muli v733 c1_i32_841
  let v739 : BitVec 32 := Scalar.addi v737 v738
  v739.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_92 : BitVec 32 := 3#32
  let v110 : BitVec 1 := Scalar.cmpi .eq v8 c3_i32_92
  let v111 : BitVec 32 := Scalar.extui v110
  let c0_i32_93 : BitVec 32 := 0#32
  let v112 : BitVec 1 := Scalar.cmpi .ne v111 c0_i32_93
  v112

def k0_dev14 (d0 : Dev nD) : Nat :=
  let c0_i32_839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_838 : BitVec 32 := 8#32
  let v734 : BitVec 32 := Scalar.muli v2 c8_i32_838
  let v735 : BitVec 32 := Scalar.addi c0_i32_839 v734
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v736 : BitVec 32 := Scalar.muli v5 c4_i32_840
  let v737 : BitVec 32 := Scalar.addi v735 v736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_829 : BitVec 32 := 1#32
  let v733 : BitVec 32 := Scalar.subi v8 c1_i32_829
  let c1_i32_841 : BitVec 32 := 1#32
  let v738 : BitVec 32 := Scalar.muli v733 c1_i32_841
  let v739 : BitVec 32 := Scalar.addi v737 v738
  v739.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v113 : BitVec 1 := Scalar.cmpi .eq v8 c1_i32_94
  let v114 : BitVec 32 := Scalar.extui v113
  let c0_i32_95 : BitVec 32 := 0#32
  let v115 : BitVec 1 := Scalar.cmpi .ne v114 c0_i32_95
  v115

def k0_dev15 (d0 : Dev nD) : Nat :=
  let c0_i32_867 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_866 : BitVec 32 := 8#32
  let v754 : BitVec 32 := Scalar.muli v2 c8_i32_866
  let v755 : BitVec 32 := Scalar.addi c0_i32_867 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_868 : BitVec 32 := 4#32
  let v756 : BitVec 32 := Scalar.muli v5 c4_i32_868
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_857 : BitVec 32 := 1#32
  let v753 : BitVec 32 := Scalar.addi v8 c1_i32_857
  let c1_i32_869 : BitVec 32 := 1#32
  let v758 : BitVec 32 := Scalar.muli v753 c1_i32_869
  let v759 : BitVec 32 := Scalar.addi v757 v758
  v759.toNat
def k0_dev16 (d0 : Dev nD) : Nat :=
  let c0_i32_911 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_910 : BitVec 32 := 8#32
  let v789 : BitVec 32 := Scalar.muli v2 c8_i32_910
  let v790 : BitVec 32 := Scalar.addi c0_i32_911 v789
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_912 : BitVec 32 := 4#32
  let v791 : BitVec 32 := Scalar.muli v5 c4_i32_912
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_901 : BitVec 32 := 1#32
  let v788 : BitVec 32 := Scalar.subi v8 c1_i32_901
  let c1_i32_913 : BitVec 32 := 1#32
  let v793 : BitVec 32 := Scalar.muli v788 c1_i32_913
  let v794 : BitVec 32 := Scalar.addi v792 v793
  v794.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_96 : BitVec 32 := 2#32
  let v116 : BitVec 1 := Scalar.cmpi .eq v8 c2_i32_96
  let v117 : BitVec 32 := Scalar.extui v116
  let c0_i32_97 : BitVec 32 := 0#32
  let v118 : BitVec 1 := Scalar.cmpi .ne v117 c0_i32_97
  v118

def k0_dev17 (d0 : Dev nD) : Nat :=
  let c0_i32_866 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_865 : BitVec 32 := 8#32
  let v754 : BitVec 32 := Scalar.muli v2 c8_i32_865
  let v755 : BitVec 32 := Scalar.addi c0_i32_866 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_867 : BitVec 32 := 4#32
  let v756 : BitVec 32 := Scalar.muli v5 c4_i32_867
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_856 : BitVec 32 := 1#32
  let v753 : BitVec 32 := Scalar.subi v8 c1_i32_856
  let c1_i32_868 : BitVec 32 := 1#32
  let v758 : BitVec 32 := Scalar.muli v753 c1_i32_868
  let v759 : BitVec 32 := Scalar.addi v757 v758
  v759.toNat
def k0_dev18 (d0 : Dev nD) : Nat :=
  let c0_i32_911 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_910 : BitVec 32 := 8#32
  let v789 : BitVec 32 := Scalar.muli v2 c8_i32_910
  let v790 : BitVec 32 := Scalar.addi c0_i32_911 v789
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_912 : BitVec 32 := 4#32
  let v791 : BitVec 32 := Scalar.muli v5 c4_i32_912
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_901 : BitVec 32 := 1#32
  let v788 : BitVec 32 := Scalar.addi v8 c1_i32_901
  let c1_i32_913 : BitVec 32 := 1#32
  let v793 : BitVec 32 := Scalar.muli v788 c1_i32_913
  let v794 : BitVec 32 := Scalar.addi v792 v793
  v794.toNat
@[reducible] def k0_t7_loop : Scf.Loop 32 :=
  let c0_i32_98 : BitVec 32 := 0#32
  let c128_i32_99 : BitVec 32 := 128#32
  let v119 : BitVec 32 := Scalar.addi c0_i32_98 c128_i32_99
  let c1_i32_100 : BitVec 32 := 1#32
  ⟨c0_i32_98, v119, c1_i32_100⟩
def k0_off10 (k0_t7 : Fin k0_t7_loop.trips) : Fin 1 → Nat :=
  let c384_i32_829 : BitVec 32 := 384#32
  let c0_i32_98 : BitVec 32 := 0#32
  let c1_i32_100 : BitVec 32 := 1#32
  let arg14 : BitVec 32 := Scf.iv c0_i32_98 c1_i32_100 k0_t7
  let v733 : BitVec 32 := Scalar.addi c384_i32_829 arg14
  let v734 : Index := Scalar.indexCast v733
  ![v734.toNat]
def k0_off11 (k0_t7 : Fin k0_t7_loop.trips) : Fin 3 → Nat :=
  let c3_i32_830 : BitVec 32 := 3#32
  let c0_i32_98 : BitVec 32 := 0#32
  let c1_i32_100 : BitVec 32 := 1#32
  let arg14 : BitVec 32 := Scf.iv c0_i32_98 c1_i32_100 k0_t7
  let c0_i32_832 : BitVec 32 := 0#32
  ![3, arg14.toNat, 0]
def k0_off12 (v735 : BitVec 32) : Fin 2 → Nat :=
  let c0_i32_833 : BitVec 32 := 0#32
  ![v735.toNat, 0]

def k0_chk4 (v735 : BitVec 32) : Prop :=
  (∀ a, (k0_off12 v735) a + S1x1024.size a ≤ S16384x1024.size a)
theorem k0_off12_inb : ∀ (v735 : BitVec 32) (k0_hw4 : k0_chk4 v735), ∀ a, (k0_off12 v735) a + S1x1024.size a ≤ S16384x1024.size a := fun v735 k0_hw4 => k0_hw4

@[reducible] def k0_t8_loop : Scf.Loop 32 :=
  let c0_i32_102 : BitVec 32 := 0#32
  let c128_i32_103 : BitVec 32 := 128#32
  let v120 : BitVec 32 := Scalar.addi c0_i32_102 c128_i32_103
  let c1_i32_104 : BitVec 32 := 1#32
  ⟨c0_i32_102, v120, c1_i32_104⟩
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_112 : BitVec 32 := 0#32
  let v131 : BitVec 1 := Scalar.cmpi .eq v8 c0_i32_112
  let v132 : BitVec 32 := Scalar.extui v131
  let c0_i32_113 : BitVec 32 := 0#32
  let v133 : BitVec 1 := Scalar.cmpi .ne v132 c0_i32_113
  v133

def k0_dev19 (d0 : Dev nD) : Nat :=
  let c0_i32_839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_838 : BitVec 32 := 8#32
  let v734 : BitVec 32 := Scalar.muli v2 c8_i32_838
  let v735 : BitVec 32 := Scalar.addi c0_i32_839 v734
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v736 : BitVec 32 := Scalar.muli v5 c4_i32_840
  let v737 : BitVec 32 := Scalar.addi v735 v736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_829 : BitVec 32 := 1#32
  let v733 : BitVec 32 := Scalar.addi v8 c1_i32_829
  let c1_i32_841 : BitVec 32 := 1#32
  let v738 : BitVec 32 := Scalar.muli v733 c1_i32_841
  let v739 : BitVec 32 := Scalar.addi v737 v738
  v739.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_114 : BitVec 32 := 3#32
  let v134 : BitVec 1 := Scalar.cmpi .eq v8 c3_i32_114
  let v135 : BitVec 32 := Scalar.extui v134
  let c0_i32_115 : BitVec 32 := 0#32
  let v136 : BitVec 1 := Scalar.cmpi .ne v135 c0_i32_115
  v136

def k0_dev20 (d0 : Dev nD) : Nat :=
  let c0_i32_839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_838 : BitVec 32 := 8#32
  let v734 : BitVec 32 := Scalar.muli v2 c8_i32_838
  let v735 : BitVec 32 := Scalar.addi c0_i32_839 v734
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v736 : BitVec 32 := Scalar.muli v5 c4_i32_840
  let v737 : BitVec 32 := Scalar.addi v735 v736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_829 : BitVec 32 := 1#32
  let v733 : BitVec 32 := Scalar.subi v8 c1_i32_829
  let c1_i32_841 : BitVec 32 := 1#32
  let v738 : BitVec 32 := Scalar.muli v733 c1_i32_841
  let v739 : BitVec 32 := Scalar.addi v737 v738
  v739.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v137 : BitVec 1 := Scalar.cmpi .eq v8 c1_i32_116
  let v138 : BitVec 32 := Scalar.extui v137
  let c0_i32_117 : BitVec 32 := 0#32
  let v139 : BitVec 1 := Scalar.cmpi .ne v138 c0_i32_117
  v139

def k0_dev21 (d0 : Dev nD) : Nat :=
  let c0_i32_867 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_866 : BitVec 32 := 8#32
  let v754 : BitVec 32 := Scalar.muli v2 c8_i32_866
  let v755 : BitVec 32 := Scalar.addi c0_i32_867 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_868 : BitVec 32 := 4#32
  let v756 : BitVec 32 := Scalar.muli v5 c4_i32_868
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_857 : BitVec 32 := 1#32
  let v753 : BitVec 32 := Scalar.addi v8 c1_i32_857
  let c1_i32_869 : BitVec 32 := 1#32
  let v758 : BitVec 32 := Scalar.muli v753 c1_i32_869
  let v759 : BitVec 32 := Scalar.addi v757 v758
  v759.toNat
def k0_dev22 (d0 : Dev nD) : Nat :=
  let c0_i32_911 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_910 : BitVec 32 := 8#32
  let v789 : BitVec 32 := Scalar.muli v2 c8_i32_910
  let v790 : BitVec 32 := Scalar.addi c0_i32_911 v789
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_912 : BitVec 32 := 4#32
  let v791 : BitVec 32 := Scalar.muli v5 c4_i32_912
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_901 : BitVec 32 := 1#32
  let v788 : BitVec 32 := Scalar.subi v8 c1_i32_901
  let c1_i32_913 : BitVec 32 := 1#32
  let v793 : BitVec 32 := Scalar.muli v788 c1_i32_913
  let v794 : BitVec 32 := Scalar.addi v792 v793
  v794.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_118 : BitVec 32 := 2#32
  let v140 : BitVec 1 := Scalar.cmpi .eq v8 c2_i32_118
  let v141 : BitVec 32 := Scalar.extui v140
  let c0_i32_119 : BitVec 32 := 0#32
  let v142 : BitVec 1 := Scalar.cmpi .ne v141 c0_i32_119
  v142

def k0_dev23 (d0 : Dev nD) : Nat :=
  let c0_i32_866 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_865 : BitVec 32 := 8#32
  let v754 : BitVec 32 := Scalar.muli v2 c8_i32_865
  let v755 : BitVec 32 := Scalar.addi c0_i32_866 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_867 : BitVec 32 := 4#32
  let v756 : BitVec 32 := Scalar.muli v5 c4_i32_867
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_856 : BitVec 32 := 1#32
  let v753 : BitVec 32 := Scalar.subi v8 c1_i32_856
  let c1_i32_868 : BitVec 32 := 1#32
  let v758 : BitVec 32 := Scalar.muli v753 c1_i32_868
  let v759 : BitVec 32 := Scalar.addi v757 v758
  v759.toNat
def k0_dev24 (d0 : Dev nD) : Nat :=
  let c0_i32_911 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_910 : BitVec 32 := 8#32
  let v789 : BitVec 32 := Scalar.muli v2 c8_i32_910
  let v790 : BitVec 32 := Scalar.addi c0_i32_911 v789
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_912 : BitVec 32 := 4#32
  let v791 : BitVec 32 := Scalar.muli v5 c4_i32_912
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_901 : BitVec 32 := 1#32
  let v788 : BitVec 32 := Scalar.addi v8 c1_i32_901
  let c1_i32_913 : BitVec 32 := 1#32
  let v793 : BitVec 32 := Scalar.muli v788 c1_i32_913
  let v794 : BitVec 32 := Scalar.addi v792 v793
  v794.toNat
def k0_off13 (d0 : Dev nD) (c0_i32_131 : BitVec 32) : Fin 2 → Nat :=
  let c2_i32_28 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.muli c2_i32_28 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.addi v41 v5
  let c512_i32 : BitVec 32 := 512#32
  let v157 : BitVec 32 := Scalar.muli v42 c512_i32
  let v158 : BitVec 32 := Scalar.addi v157 c0_i32_131
  let v159 : Index := Scalar.indexCast v158
  let c0_132 : Index := 0#32
  ![v159.toNat, 0]
def k0_dev25 (d0 : Dev nD) : Nat :=
  let c0_i32_142 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_141 : BitVec 32 := 8#32
  let v161 : BitVec 32 := Scalar.muli v2 c8_i32_141
  let v162 : BitVec 32 := Scalar.addi c0_i32_142 v161
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_143 : BitVec 32 := 4#32
  let v163 : BitVec 32 := Scalar.muli v9 c4_i32_143
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v165 : BitVec 32 := Scalar.muli v8 c1_i32_144
  let v166 : BitVec 32 := Scalar.addi v164 v165
  v166.toNat
def k0_dev26 (d0 : Dev nD) : Nat :=
  let c0_i32_158 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_157 : BitVec 32 := 8#32
  let v175 : BitVec 32 := Scalar.muli v10 c8_i32_157
  let v176 : BitVec 32 := Scalar.addi c0_i32_158 v175
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_159 : BitVec 32 := 4#32
  let v177 : BitVec 32 := Scalar.muli v5 c4_i32_159
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v179 : BitVec 32 := Scalar.muli v8 c1_i32_160
  let v180 : BitVec 32 := Scalar.addi v178 v179
  v180.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v200 : BitVec 1 := Scalar.cmpi .eq v8 c1_i32_172
  let v201 : BitVec 32 := Scalar.extui v200
  let c0_i32_173 : BitVec 32 := 0#32
  let v202 : BitVec 1 := Scalar.cmpi .ne v201 c0_i32_173
  v202

def k0_dev27 (d0 : Dev nD) : Nat :=
  let c0_i32_867 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_866 : BitVec 32 := 8#32
  let v754 : BitVec 32 := Scalar.muli v2 c8_i32_866
  let v755 : BitVec 32 := Scalar.addi c0_i32_867 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_868 : BitVec 32 := 4#32
  let v756 : BitVec 32 := Scalar.muli v5 c4_i32_868
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_857 : BitVec 32 := 1#32
  let v753 : BitVec 32 := Scalar.addi v8 c1_i32_857
  let c1_i32_869 : BitVec 32 := 1#32
  let v758 : BitVec 32 := Scalar.muli v753 c1_i32_869
  let v759 : BitVec 32 := Scalar.addi v757 v758
  v759.toNat
def k0_dev28 (d0 : Dev nD) : Nat :=
  let c0_i32_911 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_910 : BitVec 32 := 8#32
  let v789 : BitVec 32 := Scalar.muli v2 c8_i32_910
  let v790 : BitVec 32 := Scalar.addi c0_i32_911 v789
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_912 : BitVec 32 := 4#32
  let v791 : BitVec 32 := Scalar.muli v5 c4_i32_912
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_901 : BitVec 32 := 1#32
  let v788 : BitVec 32 := Scalar.subi v8 c1_i32_901
  let c1_i32_913 : BitVec 32 := 1#32
  let v793 : BitVec 32 := Scalar.muli v788 c1_i32_913
  let v794 : BitVec 32 := Scalar.addi v792 v793
  v794.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_174 : BitVec 32 := 2#32
  let v203 : BitVec 1 := Scalar.cmpi .eq v8 c2_i32_174
  let v204 : BitVec 32 := Scalar.extui v203
  let c0_i32_175 : BitVec 32 := 0#32
  let v205 : BitVec 1 := Scalar.cmpi .ne v204 c0_i32_175
  v205

def k0_dev29 (d0 : Dev nD) : Nat :=
  let c0_i32_866 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_865 : BitVec 32 := 8#32
  let v754 : BitVec 32 := Scalar.muli v2 c8_i32_865
  let v755 : BitVec 32 := Scalar.addi c0_i32_866 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_867 : BitVec 32 := 4#32
  let v756 : BitVec 32 := Scalar.muli v5 c4_i32_867
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_856 : BitVec 32 := 1#32
  let v753 : BitVec 32 := Scalar.subi v8 c1_i32_856
  let c1_i32_868 : BitVec 32 := 1#32
  let v758 : BitVec 32 := Scalar.muli v753 c1_i32_868
  let v759 : BitVec 32 := Scalar.addi v757 v758
  v759.toNat
def k0_dev30 (d0 : Dev nD) : Nat :=
  let c0_i32_911 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_910 : BitVec 32 := 8#32
  let v789 : BitVec 32 := Scalar.muli v2 c8_i32_910
  let v790 : BitVec 32 := Scalar.addi c0_i32_911 v789
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_912 : BitVec 32 := 4#32
  let v791 : BitVec 32 := Scalar.muli v5 c4_i32_912
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_901 : BitVec 32 := 1#32
  let v788 : BitVec 32 := Scalar.addi v8 c1_i32_901
  let c1_i32_913 : BitVec 32 := 1#32
  let v793 : BitVec 32 := Scalar.muli v788 c1_i32_913
  let v794 : BitVec 32 := Scalar.addi v792 v793
  v794.toNat
def k0_dev31 (d0 : Dev nD) : Nat :=
  let c0_i32_199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_198 : BitVec 32 := 8#32
  let v224 : BitVec 32 := Scalar.muli v2 c8_i32_198
  let v225 : BitVec 32 := Scalar.addi c0_i32_199 v224
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_200 : BitVec 32 := 4#32
  let v226 : BitVec 32 := Scalar.muli v9 c4_i32_200
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v228 : BitVec 32 := Scalar.muli v8 c1_i32_201
  let v229 : BitVec 32 := Scalar.addi v227 v228
  v229.toNat
def k0_dev32 (d0 : Dev nD) : Nat :=
  let c0_i32_215 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_214 : BitVec 32 := 8#32
  let v238 : BitVec 32 := Scalar.muli v10 c8_i32_214
  let v239 : BitVec 32 := Scalar.addi c0_i32_215 v238
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_216 : BitVec 32 := 4#32
  let v240 : BitVec 32 := Scalar.muli v5 c4_i32_216
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_217 : BitVec 32 := 1#32
  let v242 : BitVec 32 := Scalar.muli v8 c1_i32_217
  let v243 : BitVec 32 := Scalar.addi v241 v242
  v243.toNat
def k0_dev33 (d0 : Dev nD) : Nat :=
  let c0_i32_254 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_253 : BitVec 32 := 8#32
  let v275 : BitVec 32 := Scalar.muli v10 c8_i32_253
  let v276 : BitVec 32 := Scalar.addi c0_i32_254 v275
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_255 : BitVec 32 := 4#32
  let v277 : BitVec 32 := Scalar.muli v5 c4_i32_255
  let v278 : BitVec 32 := Scalar.addi v276 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v279 : BitVec 32 := Scalar.muli v8 c1_i32_256
  let v280 : BitVec 32 := Scalar.addi v278 v279
  v280.toNat
def k0_off14 (d0 : Dev nD) (c0_i32_266 : BitVec 32) : Fin 2 → Nat :=
  let c2_i32_29 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.muli c2_i32_29 v2
  let c1_i32_30 : BitVec 32 := 1#32
  let v44 : BitVec 32 := Scalar.addi v43 c1_i32_30
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v45 : BitVec 32 := Scalar.subi v44 v5
  let c512_i32_265 : BitVec 32 := 512#32
  let v292 : BitVec 32 := Scalar.muli v45 c512_i32_265
  let v293 : BitVec 32 := Scalar.addi v292 c0_i32_266
  let v294 : Index := Scalar.indexCast v293
  let c0_267 : Index := 0#32
  ![v294.toNat, 0]
def k0_dev34 (d0 : Dev nD) : Nat :=
  let c0_i32_290 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_289 : BitVec 32 := 8#32
  let v314 : BitVec 32 := Scalar.muli v2 c8_i32_289
  let v315 : BitVec 32 := Scalar.addi c0_i32_290 v314
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_291 : BitVec 32 := 4#32
  let v316 : BitVec 32 := Scalar.muli v9 c4_i32_291
  let v317 : BitVec 32 := Scalar.addi v315 v316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v318 : BitVec 32 := Scalar.muli v8 c1_i32_292
  let v319 : BitVec 32 := Scalar.addi v317 v318
  v319.toNat
def k0_dev35 (d0 : Dev nD) : Nat :=
  let c0_i32_306 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_305 : BitVec 32 := 8#32
  let v328 : BitVec 32 := Scalar.muli v10 c8_i32_305
  let v329 : BitVec 32 := Scalar.addi c0_i32_306 v328
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_307 : BitVec 32 := 4#32
  let v330 : BitVec 32 := Scalar.muli v5 c4_i32_307
  let v331 : BitVec 32 := Scalar.addi v329 v330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_308 : BitVec 32 := 1#32
  let v332 : BitVec 32 := Scalar.muli v8 c1_i32_308
  let v333 : BitVec 32 := Scalar.addi v331 v332
  v333.toNat
def k0_dev36 (d0 : Dev nD) : Nat :=
  let c0_i32_345 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_344 : BitVec 32 := 8#32
  let v365 : BitVec 32 := Scalar.muli v2 c8_i32_344
  let v366 : BitVec 32 := Scalar.addi c0_i32_345 v365
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_346 : BitVec 32 := 4#32
  let v367 : BitVec 32 := Scalar.muli v9 c4_i32_346
  let v368 : BitVec 32 := Scalar.addi v366 v367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v369 : BitVec 32 := Scalar.muli v8 c1_i32_347
  let v370 : BitVec 32 := Scalar.addi v368 v369
  v370.toNat
def k0_off15 (d0 : Dev nD) (c128_i32_357 : BitVec 32) : Fin 2 → Nat :=
  let c2_i32_32 : BitVec 32 := 2#32
  let c1_i32_31 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_31 v2
  let v47 : BitVec 32 := Scalar.muli c2_i32_32 v46
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.addi v47 v5
  let c512_i32_356 : BitVec 32 := 512#32
  let v382 : BitVec 32 := Scalar.muli v48 c512_i32_356
  let v383 : BitVec 32 := Scalar.addi v382 c128_i32_357
  let v384 : Index := Scalar.indexCast v383
  let c0_358 : Index := 0#32
  ![v384.toNat, 0]
def k0_dev37 (d0 : Dev nD) : Nat :=
  let c0_i32_381 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_380 : BitVec 32 := 8#32
  let v404 : BitVec 32 := Scalar.muli v2 c8_i32_380
  let v405 : BitVec 32 := Scalar.addi c0_i32_381 v404
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_382 : BitVec 32 := 4#32
  let v406 : BitVec 32 := Scalar.muli v9 c4_i32_382
  let v407 : BitVec 32 := Scalar.addi v405 v406
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_383 : BitVec 32 := 1#32
  let v408 : BitVec 32 := Scalar.muli v8 c1_i32_383
  let v409 : BitVec 32 := Scalar.addi v407 v408
  v409.toNat
def k0_dev38 (d0 : Dev nD) : Nat :=
  let c0_i32_397 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_396 : BitVec 32 := 8#32
  let v418 : BitVec 32 := Scalar.muli v10 c8_i32_396
  let v419 : BitVec 32 := Scalar.addi c0_i32_397 v418
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_398 : BitVec 32 := 4#32
  let v420 : BitVec 32 := Scalar.muli v5 c4_i32_398
  let v421 : BitVec 32 := Scalar.addi v419 v420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_399 : BitVec 32 := 1#32
  let v422 : BitVec 32 := Scalar.muli v8 c1_i32_399
  let v423 : BitVec 32 := Scalar.addi v421 v422
  v423.toNat
def k0_dev39 (d0 : Dev nD) : Nat :=
  let c0_i32_436 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_435 : BitVec 32 := 8#32
  let v455 : BitVec 32 := Scalar.muli v10 c8_i32_435
  let v456 : BitVec 32 := Scalar.addi c0_i32_436 v455
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_437 : BitVec 32 := 4#32
  let v457 : BitVec 32 := Scalar.muli v5 c4_i32_437
  let v458 : BitVec 32 := Scalar.addi v456 v457
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_438 : BitVec 32 := 1#32
  let v459 : BitVec 32 := Scalar.muli v8 c1_i32_438
  let v460 : BitVec 32 := Scalar.addi v458 v459
  v460.toNat
def k0_dev40 (d0 : Dev nD) : Nat :=
  let c0_i32_475 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_474 : BitVec 32 := 8#32
  let v488 : BitVec 32 := Scalar.muli v2 c8_i32_474
  let v489 : BitVec 32 := Scalar.addi c0_i32_475 v488
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_476 : BitVec 32 := 4#32
  let v490 : BitVec 32 := Scalar.muli v9 c4_i32_476
  let v491 : BitVec 32 := Scalar.addi v489 v490
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_477 : BitVec 32 := 1#32
  let v492 : BitVec 32 := Scalar.muli v8 c1_i32_477
  let v493 : BitVec 32 := Scalar.addi v491 v492
  v493.toNat
def k0_off16 (d0 : Dev nD) (c0_i32_533 : BitVec 32) : Fin 2 → Nat :=
  let c2_i32_34 : BitVec 32 := 2#32
  let c1_i32_33 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_33 v2
  let v50 : BitVec 32 := Scalar.muli c2_i32_34 v49
  let c1_i32_35 : BitVec 32 := 1#32
  let v51 : BitVec 32 := Scalar.addi v50 c1_i32_35
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v52 : BitVec 32 := Scalar.subi v51 v5
  let c512_i32_532 : BitVec 32 := 512#32
  let v543 : BitVec 32 := Scalar.muli v52 c512_i32_532
  let v544 : BitVec 32 := Scalar.addi v543 c0_i32_533
  let v545 : Index := Scalar.indexCast v544
  let c0_534 : Index := 0#32
  ![v545.toNat, 0]
abbrev stage0_0 : Fin 1 → Memref sig .tc .smem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048 : Shape := ⟨1, ![2048]⟩
abbrev S65536x1024 : Shape := ⟨2, ![65536, 1024]⟩
abbrev S_ : Shape := ⟨0, ![]⟩
abbrev S2048x1 : Shape := ⟨2, ![2048, 1]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048, .i32⟩
  | .hbm, ⟨1, _⟩ => ⟨S65536x1024, .f32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Prog.lean ====
/-
The kernel's body, written once more in a small vocabulary whose words are generic in the chunk
`ci : Fin 4`: a send, a wait, a load or a store of one slot, and the phases the kernel is made of
(signals, gather of a chunk, start of the z all-reduce, its forwarding step, start of the exchange
between the quarters, its diagonal, its end). `Parts.lean` shows that the printed body is this one.
-/
module

public import proofs.«01_k».proof.Proof.Gen.KernelIdeal.Skeleton
public import proofs.«01_k».proof.Proof.Gen.KernelIdeal.Points

@[expose] public section

noncomputable section

namespace Cert.KernelIdeal.Body

open Idealize.ShloMosaic Idealize.SL.Sem Cert.KernelIdeal.Gen

variable {F : FTy → Type} [FloatOps F]

/-- Programs of a TensorCore of this module. -/
abbrev PG (F : FTy → Type) (α : Type) := Prog (TpuEff nD τ sig (Elt F) Λ₀ .tc) α

/-! ## Buffers, slots and semaphores -/

abbrev zB : Memref sig .tc .vmem S4x5x128x1024 .bf16 := Memref.whole cc0_scratch2
abbrev qB : Memref sig .tc .vmem S4x4x128x1024 .bf16 := Memref.whole cc0_scratch3
abbrev gB : Memref sig .tc .vmem S4x128x1024 .f32 := Memref.whole cc0_scratch0
abbrev eB : Memref sig .tc .hbm S16384x1024 .f32 := Memref.whole main_arg1
abbrev iB : Memref sig .tc .smem S512 .i32 := Memref.whole cc0_stg0_0
abbrev mB : Memref sig .tc .vmem S512x1 .f32 := Memref.whole cc0_stg1_0
abbrev oB : Memref sig .tc .vmem S2048x1024 .f32 := Memref.whole cc0_stg2_0

theorem zinb : ∀ (ci : Fin 4) (s : Fin 5), ∀ a, (![ci.val, s.val, 0, 0] : Fin 4 → Nat) a + S1x1x128x1024.size a ≤ S4x5x128x1024.size a := by decide
theorem qinb : ∀ (ci : Fin 4) (s : Fin 4), ∀ a, (![ci.val, s.val, 0, 0] : Fin 4 → Nat) a + S1x1x128x1024.size a ≤ S4x4x128x1024.size a := by decide
theorem sinb : ∀ (ci : Fin 4) (d : Fin 2), ∀ a, (![ci.val, d.val] : Fin 2 → Nat) a + S1x1.size a ≤ S4x2.size a := by decide
theorem ginb : ∀ (ci : Fin 4), ∀ a, (![ci.val, 0, 0] : Fin 3 → Nat) a + S1x128x1024.size a ≤ S4x128x1024.size a := by decide
theorem minb : ∀ (ci : Fin 4), ∀ a, (![128 * ci.val, 0] : Fin 2 → Nat) a + S128x1.size a ≤ S512x1.size a := by decide
theorem g1inb : ∀ (ci : Fin 4), ∀ a, (![ci.val] : Fin 1 → Nat) a + S1.size a ≤ S4.size a := by decide
theorem grinb : ∀ (ci : Fin 4), ∀ a, (![ci.val, 0, 0] : Fin 3 → Nat) a + S1x1x1024.size a ≤ S4x128x1024.size a := by decide

/-- The rectangle of slot `s` of chunk `ci` of the z buffer, of the quarter buffer, of chunk `ci` of
the gather buffer and of the mask. -/
abbrev zR (ci : Fin 4) (s : Fin 5) : Rect S4x5x128x1024 := Rect.unit (s := S4x5x128x1024) ![ci.val, s.val, 0, 0] S1x1x128x1024.size (zinb ci s)
abbrev qR (ci : Fin 4) (s : Fin 4) : Rect S4x4x128x1024 := Rect.unit (s := S4x4x128x1024) ![ci.val, s.val, 0, 0] S1x1x128x1024.size (qinb ci s)
abbrev gR (ci : Fin 4) : Rect S4x128x1024 := Rect.unit (s := S4x128x1024) ![ci.val, 0, 0] S1x128x1024.size (ginb ci)
abbrev mR (ci : Fin 4) : Rect S512x1 := Rect.unit (s := S512x1) ![128 * ci.val, 0] S128x1.size (minb ci)

theorem zwords : ∀ (ci : Fin 4) (s : Fin 5), (zR ci s).WholeWords (EltTy.packing .bf16) := by decide
theorem qwords : ∀ (ci : Fin 4) (s : Fin 4), (qR ci s).WholeWords (EltTy.packing .bf16) := by decide
theorem zpacked : ∀ (ci : Fin 4) (s : Fin 5), (zR ci s).PackedRows (EltTy.packing .bf16) := by decide
theorem qpacked : ∀ (ci : Fin 4) (s : Fin 4), (qR ci s).PackedRows (EltTy.packing .bf16) := by decide

/-- Slot `s` of chunk `ci` of the z buffer, as a matrix. -/
def zs (ci : Fin 4) (s : Fin 5) : Memref sig .tc .vmem S128x1024 .bf16 :=
  (zB.slice (zR ci s) (fun _ => rfl)).squeeze S128x1024 squeezes_S1x1x128x1024_S128x1024
/-- Slot `s` of chunk `ci` of the quarter buffer, as a matrix. -/
def qs (ci : Fin 4) (s : Fin 4) : Memref sig .tc .vmem S128x1024 .bf16 :=
  (qB.slice (qR ci s) (fun _ => rfl)).squeeze S128x1024 squeezes_S1x1x128x1024_S128x1024

theorem zs_words (ci : Fin 4) (s : Fin 5) : (zs ci s).view.WordExact :=
  ((Memref.isWhole_whole cc0_scratch2).wordExact_slice rfl _ (zwords ci s)).reshape _ _
theorem qs_words (ci : Fin 4) (s : Fin 4) : (qs ci s).view.WordExact :=
  ((Memref.isWhole_whole cc0_scratch3).wordExact_slice rfl _ (qwords ci s)).reshape _ _

/-- Cell `[ci, d]` of a 4×2 array of DMA semaphores. -/
def sm (A : DmaSems sig S4x2) (ci : Fin 4) (d : Fin 2) : DmaSem sig :=
  ((A.slice (Rect.unit (s := S4x2) ![ci.val, d.val] S1x1.size (sinb ci d))).squeeze S_ squeezes_S1x1_S_).sem
/-- Cell `[ci]` of the gather's semaphores. -/
def gsm (ci : Fin 4) : DmaSem sig :=
  ((cc0_scratch1.slice (Rect.unit (s := S4) ![ci.val] S1.size (g1inb ci))).squeeze S_ squeezes_S1_S_).sem

/-! ## Single operations -/

def loadZ (ci : Fin 4) (s : Fin 5) : PG F (Vec F S1x1x128x1024 .bf16) :=
  Prog.lift (.load zB (zR ci s).toLoadRect (View.loadsAt_vmem h_S1x1x128x1024))
def loadQ (ci : Fin 4) (s : Fin 4) : PG F (Vec F S1x1x128x1024 .bf16) :=
  Prog.lift (.load qB (qR ci s).toLoadRect (View.loadsAt_vmem h_S1x1x128x1024))
def storeZ (ci : Fin 4) (s : Fin 5) (v : FVec F S1x1x128x1024 .bf16) : PG F PUnit :=
  Prog.lift (.store zB (zR ci s) v Finset.univ (View.stores_vmem h_S1x1x128x1024 ((Memref.isWhole_whole cc0_scratch2).storeExact_slice rfl _ (zpacked ci s)) (fun _ => rfl)) (.inl rfl))
def storeQ (ci : Fin 4) (s : Fin 4) (v : FVec F S1x1x128x1024 .bf16) : PG F PUnit :=
  Prog.lift (.store qB (qR ci s) v Finset.univ (View.stores_vmem h_S1x1x128x1024 ((Memref.isWhole_whole cc0_scratch3).storeExact_slice rfl _ (qpacked ci s)) (fun _ => rfl)) (.inl rfl))
def loadG (ci : Fin 4) : PG F (Vec F S1x128x1024 .f32) :=
  Prog.lift (.load gB (gR ci).toLoadRect (View.loadsAt_vmem h_S1x128x1024))
def loadM (ci : Fin 4) : PG F (Vec F S128x1 .f32) :=
  Prog.lift (.load mB (mR ci).toLoadRect (View.loadsAt_vmem h_S128x1))

/-- The word `128 * ci`, the offset of chunk `ci` in a quarter. -/
abbrev cw (ci : Fin 4) : BitVec 32 := BitVec.ofNat 32 (128 * ci.val)

/-- Where chunk `ci` of piece `r` of the result lies: the device's own quarter, the y neighbour's,
the x neighbour's, the diagonal one's. -/
def oOff (r : Fin 4) (d : Dev nD) (ci : Fin 4) : Fin 2 → Nat :=
  match r with
  | 0 => k0_off13 d (cw ci)
  | 1 => k0_off14 d (cw ci)
  | 2 => k0_off15 d (cw ci)
  | 3 => k0_off16 d (cw ci)
theorem oinb (r : Fin 4) (d : Dev nD) (ci : Fin 4) : ∀ a, oOff r d ci a + S128x1024.size a ≤ S2048x1024.size a := by
  match r with
  | 0 => exact k0_off13_inb d ci
  | 1 => exact k0_off14_inb d ci
  | 2 => exact k0_off15_inb d ci
  | 3 => exact k0_off16_inb d ci
abbrev oR (r : Fin 4) (d : Dev nD) (ci : Fin 4) : Rect S2048x1024 := Rect.unit (s := S2048x1024) (oOff r d ci) S128x1024.size (oinb r d ci)

def loadO (r : Fin 4) (d : Dev nD) (ci : Fin 4) : PG F (Vec F S128x1024 .f32) :=
  Prog.lift (.load oB (oR r d ci).toLoadRect (View.loadsAt_vmem h_S128x1024))
def storeO (r : Fin 4) (d : Dev nD) (ci : Fin 4) (v : FVec F S128x1024 .f32) : PG F PUnit :=
  Prog.lift (.store oB (oR r d ci) v Finset.univ (View.stores_vmem_bits_univ h_S128x1024 rfl) (.inl rfl))

/-- A remote copy of slot `s` into slot `t` of device `n`'s z buffer, on cells `[ci, d]`. -/
def sendZ (ci : Fin 4) (d : Fin 2) (s t : Fin 5) (n : Dev nD) : PG F PUnit :=
  Prog.lift (.enqueueDma (zs ci s) (.remote (Dev.tc n) (zs ci t) (.dma (sm cc0_scratch4 ci d))) (.dma (sm cc0_scratch5 ci d)) (zs_words ci s) (zs_words ci t) ⟨⟨rfl, Or.inl rfl⟩, trivial⟩)
/-- The same between slots of the quarter buffer, on the send cell `A[ci, d]` and the receive cell `B[ci, d]`. -/
def sendQ (A B : DmaSems sig S4x2) (ci : Fin 4) (d : Fin 2) (s t : Fin 4) (n : Dev nD) : PG F PUnit :=
  Prog.lift (.enqueueDma (qs ci s) (.remote (Dev.tc n) (qs ci t) (.dma (sm A ci d))) (.dma (sm B ci d)) (qs_words ci s) (qs_words ci t) ⟨⟨rfl, Or.inl rfl⟩, trivial⟩)
def waitZ (A : DmaSems sig S4x2) (ci : Fin 4) (d : Fin 2) (s t : Fin 5) : PG F PUnit :=
  Prog.lift (.waitDma2 (sm A ci d) (zs ci s) (zs ci t) (zs_words ci s) (zs_words ci t))
def waitQ (A : DmaSems sig S4x2) (ci : Fin 4) (d : Fin 2) (s t : Fin 4) : PG F PUnit :=
  Prog.lift (.waitDma2 (sm A ci d) (qs ci s) (qs ci t) (qs_words ci s) (qs_words ci t))

/-! ## Conditions on the device's place along z -/

abbrev zw (d : Dev nD) : BitVec 32 := Scalar.remsi (Scalar.divsi (Dev.word d) 1#32) 4#32
abbrev xw (d : Dev nD) : BitVec 32 := Scalar.remsi (Scalar.divsi (Dev.word d) 8#32) 2#32
abbrev yw (d : Dev nD) : BitVec 32 := Scalar.remsi (Scalar.divsi (Dev.word d) 4#32) 2#32
/-- Strictly inside the line of four. -/
def condMM (d : Dev nD) : BitVec 1 := Scalar.cmpi .ne (Scalar.extui (Scalar.andi (Scalar.cmpi .sgt (zw d) 0#32) (Scalar.cmpi .slt (zw d) 3#32))) 0#32

/-! ## Phases -/

/-- The four signals on the neighbours' barrier cells. -/
def signals (d : Dev nD) : PG F PUnit := do
  semSignalWord (⟨k0_dev1 d, k0_dev1_lt d⟩ : Dev nD) barrier0 1#32
  semSignalWord (⟨k0_dev2 d, k0_dev2_lt d⟩ : Dev nD) barrier0 1#32
  semSignalWord (⟨k0_dev3 d, k0_dev3_lt d⟩ : Dev nD) barrier0 1#32
  semSignalWord (⟨k0_dev4 d, k0_dev4_lt d⟩ : Dev nD) barrier0 1#32

def iOff (ci : Fin 4) (k : Fin k0_t1_loop.trips) : Fin 1 → Nat := ![(Scalar.indexCast (Scalar.addi (cw ci) (Scf.iv 0#32 1#32 k)) : Index).toNat]
theorem iinb : ∀ (ci : Fin 4) (k : Fin k0_t1_loop.trips), ∀ a, iOff ci k a + S1.size a ≤ S512.size a := by decide +kernel
def rOff (ci : Fin 4) (k : Fin k0_t1_loop.trips) : Fin 3 → Nat := ![ci.val, (Scf.iv 0#32 1#32 k).toNat, 0]
theorem rinb : ∀ (ci : Fin 4) (k : Fin k0_t1_loop.trips), ∀ a, rOff ci k a + S1x1x1024.size a ≤ S4x128x1024.size a := by decide +kernel

/-- Row `k` of chunk `ci` of the gather buffer. -/
def gRow (ci : Fin 4) (k : Fin k0_t1_loop.trips) : Memref sig .tc .vmem S1024 .f32 :=
  (gB.slice (Rect.unit (s := S4x128x1024) (rOff ci k) S1x1x1024.size (rinb ci k)) (fun _ => rfl)).squeeze S1024 squeezes_S1x1x1024_S1024
/-- Row `v` of the table's block. -/
def eRow (v : BitVec 32) (h : k0_chk1 v) : Memref sig .tc .hbm S1024 .f32 :=
  (eB.slice (Rect.unit (s := S16384x1024) (k0_off3 v) S1x1024.size (k0_off3_inb v h)) (fun _ => rfl)).squeeze S1024 squeezes_S1x1024_S1024

/-- One trip of the loop that starts the copies of a chunk's rows. -/
def issueBody (ci : Fin 4) (k : Fin k0_t1_loop.trips) (_ : Unit) : PG F Unit := do
  let v : Elt F .i32 ← smemLoad iB (Rect.unit (s := S512) (iOff ci k) S1.size (iinb ci k)) numel1_S1 rfl
  have h : k0_chk1 v := (← Prog.lift (TpuEff.assume (k0_chk1 v) (k0_chk1.dec v))).down
  Prog.lift (.enqueueDma (eRow v h) (.here (gRow ci k)) (.dma (gsm ci)) ((View.wordExact_bits rfl).reshape _ _) ((View.wordExact_bits rfl).reshape _ _) ⟨Or.inl rfl, trivial⟩)
  pure ⟨⟩
/-- One trip of the loop that waits for them. -/
def waitBody (ci : Fin 4) (k : Fin k0_t1_loop.trips) (_ : Unit) : PG F Unit := do
  Prog.lift (.waitDma2 (gsm ci)
    ((eB.slice (Rect.unit (s := S16384x1024) ![0, 0] S1x1024.size inb_S16384x1024_S1x1024_0_0) (fun _ => rfl)).squeeze S1024 squeezes_S1x1024_S1024)
    ((gB.slice (Rect.unit (s := S4x128x1024) ![ci.val, 0, 0] S1x1x1024.size (grinb ci)) (fun _ => rfl)).squeeze S1024 squeezes_S1x1x1024_S1024)
    ((View.wordExact_bits rfl).reshape _ _) ((View.wordExact_bits rfl).reshape _ _))
  pure ⟨⟩
def issueLoop (ci : Fin 4) : PG F Unit := Scf.Loop.for k0_t1_loop k0_t1_ok ⟨⟩ (issueBody ci)
def waitLoop (ci : Fin 4) : PG F Unit := Scf.Loop.for k0_t1_loop k0_t1_ok ⟨⟩ (waitBody ci)

/-- After its rows have arrived, chunk `ci`'s masked rows go into slot 0. -/
def fill (ci : Fin 4) : PG F PUnit := do
  let g ← loadG ci
  let w ← loadM ci
  let _ ← loadZ ci 0
  storeZ ci 0 (k0_pay19 g w)

/-- The two ends of the line start the all-reduce of a chunk. -/
def edgeR (ci : Fin 4) (d : Dev nD) : PG F PUnit :=
  if h : k0_cond1 d = 1#1 then sendZ ci 0 0 1 ⟨k0_dev5 d, k0_dev5_lt d h⟩ else pure ⟨⟩
def edgeL (ci : Fin 4) (d : Dev nD) : PG F PUnit :=
  if h : k0_cond2 d = 1#1 then sendZ ci 1 0 2 ⟨k0_dev6 d, k0_dev6_lt d h⟩ else pure ⟨⟩
def edge (ci : Fin 4) (d : Dev nD) : PG F PUnit := do
  edgeR ci d
  edgeL ci d

/-- Forwarding of a partial sum: the one that came in slot `t` goes on, with the chunk's own rows
added, from slot `s`. -/
def fwd (ci : Fin 4) (dd : Fin 2) (t s : Fin 5) (n : Dev nD) : PG F PUnit := do
  waitZ cc0_scratch5 ci dd 0 t
  let a ← loadZ ci 0
  let b ← loadZ ci t
  let _ ← loadZ ci s
  storeZ ci s (k0_pay1 a b)
  sendZ ci dd s t n
def mid1 (ci : Fin 4) (d : Dev nD) : PG F PUnit :=
  if h : k0_cond5 d = 1#1 then do
    fwd ci 0 1 3 ⟨k0_dev9 d, k0_dev9_lt d h⟩
    fwd ci 1 2 4 ⟨k0_dev10 d, k0_dev10_lt d h⟩
  else pure ⟨⟩
def mid2 (ci : Fin 4) (d : Dev nD) : PG F PUnit :=
  if h : k0_cond6 d = 1#1 then do
    fwd ci 1 2 4 ⟨k0_dev11 d, k0_dev11_lt d h⟩
    fwd ci 0 1 3 ⟨k0_dev12 d, k0_dev12_lt d h⟩
  else pure ⟨⟩
def mid (ci : Fin 4) (d : Dev nD) : PG F PUnit := do
  mid1 ci d
  mid2 ci d

/-- The total of a chunk at one end of the line, from what came in slot `t`. -/
def sumE (ci : Fin 4) (dd : Fin 2) (t : Fin 5) : PG F PUnit := do
  waitZ cc0_scratch5 ci dd 0 t
  let a ← loadZ ci 0
  let b ← loadZ ci t
  let _ ← loadQ ci 0
  storeQ ci 0 (k0_pay28 a b)
/-- The total inside the line. -/
def sumM (ci : Fin 4) : PG F PUnit := do
  let a ← loadZ ci 0
  let b ← loadZ ci 1
  let e ← loadZ ci 2
  let _ ← loadQ ci 0
  storeQ ci 0 (k0_pay30 a b e)
def tot0 (ci : Fin 4) (d : Dev nD) : PG F PUnit := if k0_cond1 d = 1#1 then sumE ci 1 2 else pure ⟨⟩
def tot3 (ci : Fin 4) (d : Dev nD) : PG F PUnit := if k0_cond2 d = 1#1 then sumE ci 0 1 else pure ⟨⟩
def totM (ci : Fin 4) (d : Dev nD) : PG F PUnit := if condMM d = 1#1 then sumM ci else pure ⟨⟩

/-- Piece `r` of a chunk goes from the quarter buffer to the result. -/
def piece (r : Fin 4) (ci : Fin 4) (d : Dev nD) : PG F PUnit := do
  let a ← loadQ ci r
  let _ ← loadO r d ci
  storeO r d ci (k0_pay31 a)

def drain0 (ci : Fin 4) (d : Dev nD) : PG F PUnit := if k0_cond1 d = 1#1 then waitZ cc0_scratch4 ci 0 1 0 else pure ⟨⟩
def drainM (ci : Fin 4) (d : Dev nD) : PG F PUnit :=
  if condMM d = 1#1 then do
    waitZ cc0_scratch4 ci 0 1 3
    waitZ cc0_scratch4 ci 1 2 4
  else pure ⟨⟩
def drain3 (ci : Fin 4) (d : Dev nD) : PG F PUnit := if k0_cond2 d = 1#1 then waitZ cc0_scratch4 ci 1 2 0 else pure ⟨⟩

/-- The y and the x neighbour. -/
def py (d : Dev nD) : Dev nD := ⟨k0_dev25 d, k0_dev25_lt d⟩
def px (d : Dev nD) : Dev nD := ⟨k0_dev26 d, k0_dev26_lt d⟩

/-- The exchange of a chunk begins: its total, its own piece of the result, the two direct sends. -/
def start (ci : Fin 4) (d : Dev nD) : PG F PUnit := do
  tot0 ci d
  tot3 ci d
  totM ci d
  piece 0 ci d
  sendQ cc0_scratch6 cc0_scratch7 ci 0 0 1 (py d)
  sendQ cc0_scratch8 cc0_scratch9 ci 0 0 2 (px d)
  drain0 ci d
  drainM ci d
  drain3 ci d

/-- The diagonal forwarding of an even chunk: what came along y goes on along x. -/
def diagE (ci : Fin 4) (d : Dev nD) : PG F PUnit := do
  waitQ cc0_scratch7 ci 0 0 1
  sendQ cc0_scratch8 cc0_scratch9 ci 1 1 3 (px d)
  piece 1 ci d
/-- Of an odd chunk: what came along x goes on along y. -/
def diagO (ci : Fin 4) (d : Dev nD) : PG F PUnit := do
  waitQ cc0_scratch9 ci 0 0 2
  sendQ cc0_scratch6 cc0_scratch7 ci 1 2 3 (py d)
  piece 2 ci d

/-- The end of an even chunk. -/
def finE (ci : Fin 4) (d : Dev nD) : PG F PUnit := do
  waitQ cc0_scratch9 ci 0 0 2
  piece 2 ci d
  waitQ cc0_scratch9 ci 1 1 3
  piece 3 ci d
  waitQ cc0_scratch6 ci 0 0 0
  waitQ cc0_scratch8 ci 0 0 0
  waitQ cc0_scratch8 ci 1 0 1
/-- The end of an odd chunk. -/
def finO (ci : Fin 4) (d : Dev nD) : PG F PUnit := do
  waitQ cc0_scratch7 ci 0 0 1
  piece 1 ci d
  waitQ cc0_scratch7 ci 1 2 3
  piece 3 ci d
  waitQ cc0_scratch6 ci 0 0 0
  waitQ cc0_scratch8 ci 0 0 0
  waitQ cc0_scratch6 ci 1 0 2

/-- A chunk's gather, from the first row's copy to slot 0. -/
def gather (ci : Fin 4) : PG F PUnit := do
  let _ ← issueLoop ci
  let _ ← waitLoop ci
  fill ci

/-- The whole body on device `d`. -/
def bodyOn (d : Dev nD) : PG F PUnit := do
  signals d
  let _ ← issueLoop 0
  semWaitWord barrier0 4#32
  let _ ← waitLoop 0
  fill 0
  edge 0 d
  gather 1
  edge 1 d
  mid 0 d
  gather 2
  edge 2 d
  mid 1 d
  gather 3
  edge 3 d
  mid 2 d
  start 0 d
  mid 3 d
  start 1 d
  diagE 0 d
  start 2 d
  diagO 1 d
  start 3 d
  diagE 2 d
  diagO 3 d
  finE 0 d
  finO 1 d
  finE 2 d
  finO 3 d

/-- The body: the device reads its number first. -/
def body : PG F PUnit := do
  let d ← Prog.lift .deviceId
  bodyOn d

end Cert.KernelIdeal.Body

end
-- ==== Proof.Xfer.lean ====
/-
The transfers of the kernel as a table. A transfer is a pair `(k, ci)`: `k = 0` carries chunk `ci`'s
partial sum to the next device along z, `k = 1` to the previous one, `k = 2` a quarter's chunk to the
y neighbour, `k = 3` to the x neighbour, and `k = 4` forwards what came from the other neighbour to
the diagonal device (even chunks along x, odd ones along y). For each: who takes part, which cells
it completes on, in which slot it lands, which barrier unit opened that slot, its level, and the
order in which a device issues its transfers.
-/
module

public import proofs.«01_k».proof.Proof.Prog

@[expose] public section

namespace Cert.KernelIdeal.Body

open Idealize.ShloMosaic Idealize.SL.Sem Cert.KernelIdeal.Gen

/-! ## Places and neighbours -/

/-- A device's place on the line along z. -/
def zp (c : Dev nD) : Fin 4 := ⟨c.val % 4, Nat.mod_lt _ (by decide)⟩
/-- The next and the previous device on that line (around its ends), the y and the x neighbour. -/
def zn (c : Dev nD) : Dev nD := ⟨(c.val / 4) * 4 + (c.val + 1) % 4, by have := c.isLt; simp only [nD] at this ⊢; omega⟩
def zm (c : Dev nD) : Dev nD := ⟨(c.val / 4) * 4 + (c.val + 3) % 4, by have := c.isLt; simp only [nD] at this ⊢; omega⟩
def yn (c : Dev nD) : Dev nD := ⟨(c.val / 8) * 8 + (c.val + 4) % 8, by have := c.isLt; simp only [nD] at this ⊢; omega⟩
def xn (c : Dev nD) : Dev nD := ⟨(c.val + 8) % 16, Nat.mod_lt _ (by decide)⟩

theorem zn_zm (c : Dev nD) : zn (zm c) = c := by revert c; decide
theorem zm_zn (c : Dev nD) : zm (zn c) = c := by revert c; decide
theorem yn_yn (c : Dev nD) : yn (yn c) = c := by revert c; decide
theorem xn_xn (c : Dev nD) : xn (xn c) = c := by revert c; decide
theorem xn_yn (c : Dev nD) : xn (yn c) = yn (xn c) := by revert c; decide

theorem px_eq (c : Dev nD) : px c = xn c := by revert c; decide
theorem py_eq (c : Dev nD) : py c = yn c := by revert c; decide

/-! ## The table -/

abbrev Tr : Type := Fin 5 × Fin 4

/-- Is the chunk odd? -/
def odd (ci : Fin 4) : Bool := ci.val % 2 == 1

/-- Does device `c` send by `x`; does it receive by `x`? -/
def act (c : Dev nD) (x : Tr) : Bool :=
  match x.1 with
  | 0 => decide ((zp c).val < 3)
  | 1 => decide (0 < (zp c).val)
  | _ => true
def actR (c : Dev nD) (x : Tr) : Bool :=
  match x.1 with
  | 0 => decide (0 < (zp c).val)
  | 1 => decide ((zp c).val < 3)
  | _ => true

/-- Whom `c` sends to by `x`, and who sends to `c`. -/
def dst (c : Dev nD) (x : Tr) : Dev nD :=
  match x.1 with
  | 0 => zn c
  | 1 => zm c
  | 2 => yn c
  | 3 => xn c
  | 4 => if odd x.2 then yn c else xn c
def src (c : Dev nD) (x : Tr) : Dev nD :=
  match x.1 with
  | 0 => zm c
  | 1 => zn c
  | 2 => yn c
  | 3 => xn c
  | 4 => if odd x.2 then yn c else xn c

theorem dst_src : ∀ (x : Tr) (c : Dev nD), dst (src c x) x = c := by decide
theorem src_dst : ∀ (x : Tr) (c : Dev nD), src (dst c x) x = c := by decide
theorem act_dst : ∀ (x : Tr) (c : Dev nD), actR (dst c x) x = act c x := by decide
theorem act_src (x : Tr) (c : Dev nD) : act (src c x) x = actR c x := by rw [← act_dst, dst_src]

/-- Sending by `x` is a permutation of the devices. -/
def dstEquiv (x : Tr) : Dev nD ≃ Dev nD := ⟨fun c => dst c x, fun c => src c x, src_dst x, dst_src x⟩

/-- The receive and the send cell of a transfer. -/
def rS (x : Tr) : DmaSem sig :=
  match x.1 with
  | 0 => sm cc0_scratch5 x.2 0
  | 1 => sm cc0_scratch5 x.2 1
  | 2 => sm cc0_scratch7 x.2 0
  | 3 => sm cc0_scratch9 x.2 0
  | 4 => if odd x.2 then sm cc0_scratch7 x.2 1 else sm cc0_scratch9 x.2 1
def sS (x : Tr) : DmaSem sig :=
  match x.1 with
  | 0 => sm cc0_scratch4 x.2 0
  | 1 => sm cc0_scratch4 x.2 1
  | 2 => sm cc0_scratch6 x.2 0
  | 3 => sm cc0_scratch8 x.2 0
  | 4 => if odd x.2 then sm cc0_scratch6 x.2 1 else sm cc0_scratch8 x.2 1

/-- Both kinds of cells in one family: `(true, x)` the receive cell of `x`, `(false, x)` its send cell. -/
abbrev Cl : Type := Bool × Tr
def cS (b : Cl) : DmaSem sig := if b.1 then rS b.2 else sS b.2

/-- Which cell of the family a DMA semaphore is. -/
noncomputable def decS (n : DmaSem sig) : Option Cl := by
  classical exact if h : ∃ b, cS b = n then some h.choose else none
theorem cS_inj : Function.Injective cS := by
  have h : ∀ b b' : Cl, cS b = cS b' → b = b' := by decide +kernel
  exact h
theorem decS_cS (b : Cl) : decS (cS b) = some b := by
  unfold decS
  rw [dif_pos ⟨b, rfl⟩]
  exact congrArg some (cS_inj (Exists.choose_spec (⟨b, rfl⟩ : ∃ b', cS b' = cS b)))
theorem cS_of_decS {n : DmaSem sig} {b : Cl} (h : decS n = some b) : cS b = n := by
  unfold decS at h
  split at h
  · next h' => rw [← Option.some.inj h]; exact h'.choose_spec
  · exact absurd h (by simp)

/-- The slot a transfer lands in, and the slot device `c` sends it from. -/
def dstM (x : Tr) : Memref sig .tc .vmem S128x1024 .bf16 :=
  match x.1 with
  | 0 => zs x.2 1
  | 1 => zs x.2 2
  | 2 => qs x.2 1
  | 3 => qs x.2 2
  | 4 => qs x.2 3
def srcM (c : Dev nD) (x : Tr) : Memref sig .tc .vmem S128x1024 .bf16 :=
  match x.1 with
  | 0 => if zp c = 0 then zs x.2 0 else zs x.2 3
  | 1 => if zp c = 3 then zs x.2 0 else zs x.2 4
  | 2 => qs x.2 0
  | 3 => qs x.2 0
  | 4 => if odd x.2 then qs x.2 2 else qs x.2 1

/-- Which of the four barrier units opens the transfer's slot to its sender: 0 the one from the
previous device along z, 1 from the next, 2 from the x neighbour, 3 from the y neighbour. -/
def cls (x : Tr) : Fin 4 :=
  match x.1 with
  | 0 => 1
  | 1 => 0
  | 2 => 3
  | 3 => 2
  | 4 => if odd x.2 then 3 else 2
/-- The device that pays unit `j` of `c`'s barrier cell, and the device whose unit `j` `c` pays. -/
def barFrom (c : Dev nD) : Fin 4 → Dev nD | 0 => zm c | 1 => zn c | 2 => xn c | 3 => yn c
def barTo (c : Dev nD) : Fin 4 → Dev nD | 0 => zn c | 1 => zm c | 2 => xn c | 3 => yn c
theorem barTo_from : ∀ (j : Fin 4) (c : Dev nD), barTo (barFrom c j) j = c := by decide
theorem barFrom_to : ∀ (j : Fin 4) (c : Dev nD), barFrom (barTo c j) j = c := by decide
def barEquiv (j : Fin 4) : Dev nD ≃ Dev nD := ⟨fun c => barTo c j, fun c => barFrom c j, barFrom_to j, barTo_from j⟩
theorem dst_cls : ∀ (x : Tr) (c : Dev nD), dst c x = barFrom c (cls x) := by decide
theorem src_cls : ∀ (x : Tr) (c : Dev nD), src c x = barTo c (cls x) := by decide

/-- The level of the receive cell of `x` on device `c`. -/
def lvR (c : Dev nD) (x : Tr) : ℕ :=
  match x.1 with
  | 0 => 2 + 4 * x.2.val + ((zp c).val - 1)
  | 1 => 2 + 4 * x.2.val + (2 - (zp c).val)
  | 2 => 20 + x.2.val
  | 3 => 20 + x.2.val
  | 4 => 24 + x.2.val

theorem sig1 (c : Dev nD) : (⟨k0_dev1 c, k0_dev1_lt c⟩ : Dev nD) = barTo c 0 := by revert c; decide
theorem sig2 (c : Dev nD) : (⟨k0_dev2 c, k0_dev2_lt c⟩ : Dev nD) = barTo c 1 := by revert c; decide
theorem sig3 (c : Dev nD) : (⟨k0_dev3 c, k0_dev3_lt c⟩ : Dev nD) = barTo c 3 := by revert c; decide
theorem sig4 (c : Dev nD) : (⟨k0_dev4 c, k0_dev4_lt c⟩ : Dev nD) = barTo c 2 := by revert c; decide

/-! The places where the printed conditions hold, and the printed neighbours there. -/

theorem cond1_iff : ∀ c : Dev nD, k0_cond1 c = 1#1 ↔ zp c = 0 := by decide
theorem cond2_iff : ∀ c : Dev nD, k0_cond2 c = 1#1 ↔ zp c = 3 := by decide
theorem cond5_iff : ∀ c : Dev nD, k0_cond5 c = 1#1 ↔ zp c = 1 := by decide
theorem cond6_iff : ∀ c : Dev nD, k0_cond6 c = 1#1 ↔ zp c = 2 := by decide
theorem condMM_iff : ∀ c : Dev nD, condMM c = 1#1 ↔ zp c = 1 ∨ zp c = 2 := by decide
theorem dev5_eq : ∀ (c : Dev nD) (h : k0_cond1 c = 1#1), (⟨k0_dev5 c, k0_dev5_lt c h⟩ : Dev nD) = zn c := by decide
theorem dev6_eq : ∀ (c : Dev nD) (h : k0_cond2 c = 1#1), (⟨k0_dev6 c, k0_dev6_lt c h⟩ : Dev nD) = zm c := by decide
theorem dev9_eq : ∀ (c : Dev nD) (h : k0_cond5 c = 1#1), (⟨k0_dev9 c, k0_dev9_lt c h⟩ : Dev nD) = zn c := by decide
theorem dev10_eq : ∀ (c : Dev nD) (h : k0_cond5 c = 1#1), (⟨k0_dev10 c, k0_dev10_lt c h⟩ : Dev nD) = zm c := by decide
theorem dev11_eq : ∀ (c : Dev nD) (h : k0_cond6 c = 1#1), (⟨k0_dev11 c, k0_dev11_lt c h⟩ : Dev nD) = zm c := by decide
theorem dev12_eq : ∀ (c : Dev nD) (h : k0_cond6 c = 1#1), (⟨k0_dev12 c, k0_dev12_lt c h⟩ : Dev nD) = zn c := by decide

/-! ## The order of the sends -/

def edgeOf (z ci : Fin 4) : List Tr :=
  match z with
  | 0 => [(0, ci)]
  | 3 => [(1, ci)]
  | _ => []
def midOf (z ci : Fin 4) : List Tr :=
  match z with
  | 1 => [(0, ci), (1, ci)]
  | 2 => [(1, ci), (0, ci)]
  | _ => []
def startOf (ci : Fin 4) : List Tr := [(2, ci), (3, ci)]
def diagOf (ci : Fin 4) : List Tr := [(4, ci)]

/-- All the sends of a device at place `z`, in program order. -/
def sends (z : Fin 4) : List Tr :=
  edgeOf z 0 ++ (edgeOf z 1 ++ (midOf z 0 ++ (edgeOf z 2 ++ (midOf z 1 ++ (edgeOf z 3 ++ (midOf z 2 ++
    (startOf 0 ++ (midOf z 3 ++ (startOf 1 ++ (diagOf 0 ++ (startOf 2 ++ (diagOf 1 ++ (startOf 3 ++
      (diagOf 2 ++ (diagOf 3 ++ [])))))))))))))))

theorem sends_nodup : ∀ z, (sends z).Nodup := by decide
theorem mem_sends : ∀ (c : Dev nD) (x : Tr), x ∈ sends (zp c) ↔ act c x = true := by decide

end Cert.KernelIdeal.Body

end
-- ==== Proof.Proto.lean ====
/-
The protocol: the resource algebra, the cells and their schedule with the contents each landing
hands over, what a device owes at launch, and the levels that order the waits.
-/
module

public import proofs.«01_k».proof.Proof.Xfer
public import proofs.«01_k».proof.Proof.Gen.KernelIdeal.Regions
public import Idealize.ShloMosaic.Lib.Pipeline.Regions
public import Idealize.ShloMosaic.Lib.Pipeline.RegionTalk
public import Idealize.ShloMosaic.Lib.Rounds
public import Idealize.ShloMosaic.Lib.Batch
public import Idealize.ShloMosaic.Lib.Tactic

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline library's component, the protocol's, and the counters of the local copies. -/
abbrev UU : Type := UR sig nD τ × (URounds (GSem nD τ sig) (Fin 4) × Counters)

local notation "𝕄" => MT nD τ sig Unit (Elt F) ℕ UU ℕ

abbrev EP : Emb (UR sig nD τ) (MT nD τ sig Unit (Elt F) ℕ UU ℕ) := embL
/-- The protocol's component in the machine's algebra. -/
def ER : Emb (URounds (GSem nD τ sig) (Fin 4)) (MT nD τ sig Unit (Elt F) ℕ UU ℕ) :=
  (Emb.inl : Emb (URounds (GSem nD τ sig) (Fin 4)) (URounds (GSem nD τ sig) (Fin 4) × Counters)).trans embR
instance ER_landsIn : (ER : Emb _ 𝕄).LandsIn (upEmb : UEmb _ 𝕄) := by unfold ER; infer_instance

abbrev 𝒱₀ : Variants := Variants.none

/-! ## Cells -/

abbrev bC (c : Dev nD) : GSem nD τ sig := ((c : Thread nD τ), .reg barrier0)
abbrev rC (c : Dev nD) (x : Tr) : GSem nD τ sig := ((c : Thread nD τ), .dma (rS x))
abbrev sC (c : Dev nD) (x : Tr) : GSem nD τ sig := ((c : Thread nD τ), .dma (sS x))

/-- What one landing credits. -/
abbrev N : ℕ := (zs 0 0).view.dmaCredit
theorem N_pos : 0 < N := View.dmaCredit_pos _ (by decide)

/-! ## Contents -/

abbrev V2 (F : FTy → Type) : Type := FVec F S128x1024 .bf16

variable (Z : Dev nD → Fin 4 → V2 F)

/-- The partial sum that device `c` sends on to the next device along z, `n` being the devices before it. -/
def contR (ci : Fin 4) : ℕ → Dev nD → V2 F
  | 0, c => Z c ci
  | n + 1, c => addf (Z c ci) (contR ci n (zm c))
/-- And to the previous one, `n` being the devices after it. -/
def contL (ci : Fin 4) : ℕ → Dev nD → V2 F
  | 0, c => Z c ci
  | n + 1, c => addf (Z c ci) (contL ci n (zn c))
/-- Chunk `ci` summed over the line. -/
def total (ci : Fin 4) (c : Dev nD) : V2 F :=
  match zp c with
  | 0 => addf (Z c ci) (contL Z ci 2 (zn c))
  | 1 => addf (addf (Z c ci) (contR Z ci 0 (zm c))) (contL Z ci 1 (zn c))
  | 2 => addf (addf (Z c ci) (contR Z ci 1 (zm c))) (contL Z ci 0 (zn c))
  | 3 => addf (Z c ci) (contR Z ci 2 (zm c))
/-- What device `c` sends by `x`. -/
def cont (c : Dev nD) (x : Tr) : V2 F :=
  match x.1 with
  | 0 => contR Z x.2 (zp c).val c
  | 1 => contL Z x.2 (3 - (zp c).val) c
  | 2 => total Z x.2 c
  | 3 => total Z x.2 c
  | 4 => if odd x.2 then total Z x.2 (xn c) else total Z x.2 (yn c)
/-- The share of its source that a transfer borrows. -/
def lent (x : Tr) : PosShare TreeShare :=
  match x.1 with
  | 3 => fullShare.right
  | _ => fullShare.left

/-! ## The schedule -/

/-- Device `c` owns slot `M` at share `q`, with contents `X`; at any contents. -/
abbrev own2 (c : Dev nD) (M : Memref sig .tc .vmem S128x1024 .bf16) (q : PosShare TreeShare) (X : V2 F) : sProp 𝕄 :=
  owns (c : Thread nD τ) M q X
def any2 (c : Dev nD) (M : Memref sig .tc .vmem S128x1024 .bf16) : sProp 𝕄 :=
  iprop(∃ f : Buf (Elt F) (M.view.loc (c : Thread nD τ)), (M.view.loc (c : Thread nD τ)) ↦[M.view.set]{fullShare} f)
instance any2_storable (c : Dev nD) (M : Memref sig .tc .vmem S128x1024 .bf16) :
    BI.Storable (upEmb : UEmb _ 𝕄) (any2 (F := F) c M) := by unfold any2; infer_instance

theorem any2_of_own (c : Dev nD) (M : Memref sig .tc .vmem S128x1024 .bf16) (X : V2 F) :
    (own2 c M fullShare X : sProp 𝕄) ⊢ any2 c M := by
  unfold own2 owns any2
  iintro ⟨%f, -, H⟩
  iexists f; iexact H

/-- What a barrier unit hands over for one transfer: its slot on the receiving device, and that
the receive cell there is ready. -/
def slotOf (c : Dev nD) (x : Tr) : sProp 𝕄 := iprop(any2 c (dstM x) ∗ reached ER (rC c x) 0)
/-- Unit `j` of device `c`'s barrier cell opens every slot of class `j` that `c` sends into. -/
def barPay (c : Dev nD) (j : Fin 4) : sProp 𝕄 :=
  bigSep (Finset.univ.filter fun x : Tr => act c x = true ∧ cls x = j) fun x => slotOf (dst c x) x
def recvPay (c : Dev nD) (x : Tr) : sProp 𝕄 := own2 c (dstM x) fullShare (cont Z (src c x) x)
def sendPay (c : Dev nD) (x : Tr) : sProp 𝕄 := own2 c (srcM c x) (lent x) (cont Z c x)

/-- What a DMA cell of the family hands over. -/
def dmaPay (c : Dev nD) (b : Option Cl) : sProp 𝕄 :=
  match b with
  | some (true, x) => recvPay Z c x
  | some (false, x) => sendPay Z c x
  | none => iprop(emp)
/-- Does the cell take part? -/
def busy (c : Dev nD) (b : Option Cl) : Bool :=
  match b with
  | some (true, x) => actR c x
  | some (false, x) => act c x
  | none => false

/-- One round: four units on every barrier cell, one landing on every cell of a transfer that takes place. -/
def Rd : Rounds.Schedule (GSem nD τ sig) (Fin 4) 𝕄 where
  duties g r :=
    if r = 0 then
      match g.2 with
      | .reg s => if s = barrier0 then Finset.univ else ∅
      | .dma n => if busy g.1.1 (decS n) = true then {0} else ∅
    else ∅
  unitless _ := False
  amount g _ _ :=
    match g.2 with
    | .reg _ => 1
    | .dma _ => N
  payload g _ j :=
    match g.2 with
    | .reg _ => barPay g.1.1 j
    | .dma n => dmaPay Z g.1.1 (decS n)
  amount_pos g _ _ _ := by
    split
    · exact Nat.one_pos
    · exact N_pos

instance slotOf_storable (c : Dev nD) (x : Tr) : BI.Storable (upEmb : UEmb _ 𝕄) (slotOf (F := F) c x) := by
  unfold slotOf; infer_instance
instance barPay_storable (c : Dev nD) (j : Fin 4) : BI.Storable (upEmb : UEmb _ 𝕄) (barPay (F := F) c j) := by
  unfold barPay; infer_instance
instance dmaPay_storable (c : Dev nD) (b : Option Cl) : BI.Storable (upEmb : UEmb _ 𝕄) (dmaPay Z c b) := by
  unfold dmaPay recvPay sendPay own2
  split <;> infer_instance
instance payload_storable (g : GSem nD τ sig) (r : ℕ) (d : Fin 4) :
    BI.Storable (upEmb : UEmb _ 𝕄) ((Rd Z).payload g r d) := by
  unfold Rd
  dsimp only
  split <;> infer_instance

section Tables

variable (c : Dev nD) (x : Tr)

theorem decS_rS : decS (rS x) = some (true, x) := decS_cS (true, x)
theorem decS_sS : decS (sS x) = some (false, x) := decS_cS (false, x)

theorem duties_bar : (Rd Z).duties (bC c) 0 = Finset.univ := by
  unfold Rd; dsimp only; rw [if_pos rfl, if_pos rfl]
theorem duties_recv (h : actR c x = true) : (Rd Z).duties (rC c x) 0 = {0} := by
  unfold Rd; dsimp only; rw [if_pos rfl, decS_rS]; exact if_pos h
theorem duties_send (h : act c x = true) : (Rd Z).duties (sC c x) 0 = {0} := by
  unfold Rd; dsimp only; rw [if_pos rfl, decS_sS]; exact if_pos h
theorem duties_recv0 (h : actR c x = false) : (Rd Z).duties (rC c x) 0 = ∅ := by
  unfold Rd; dsimp only; rw [if_pos rfl, decS_rS]; exact if_neg (by simp only [busy, h]; decide)
theorem duties_send0 (h : act c x = false) : (Rd Z).duties (sC c x) 0 = ∅ := by
  unfold Rd; dsimp only; rw [if_pos rfl, decS_sS]; exact if_neg (by simp only [busy, h]; decide)
theorem duties_later (g : GSem nD τ sig) : ∀ r, 1 ≤ r → (Rd Z).duties g r = ∅ := fun r hr => by
  unfold Rd; dsimp only; exact if_neg (by omega)

theorem amount_bar (d : Fin 4) : (Rd Z).amount (bC c) 0 d = 1 := rfl
theorem amount_recv (d : Fin 4) : (Rd Z).amount (rC c x) 0 d = N := rfl
theorem amount_send (d : Fin 4) : (Rd Z).amount (sC c x) 0 d = N := rfl

theorem expect_bar : (Rd Z).expect (bC c) 0 = 4 := by
  unfold Schedule.expect Schedule.amountOf; rw [duties_bar, Finset.sum_congr rfl fun d _ => amount_bar Z c d]; rfl
theorem expect_recv (h : actR c x = true) : (Rd Z).expect (rC c x) 0 = N := by
  unfold Schedule.expect Schedule.amountOf; rw [duties_recv Z c x h, Finset.sum_singleton, amount_recv]
theorem expect_send (h : act c x = true) : (Rd Z).expect (sC c x) 0 = N := by
  unfold Schedule.expect Schedule.amountOf; rw [duties_send Z c x h, Finset.sum_singleton, amount_send]

theorem payload_bar (j : Fin 4) : (Rd Z).payload (bC c) 0 j = barPay c j := rfl
theorem payload_recv (d : Fin 4) : (Rd Z).payload (rC c x) 0 d = recvPay Z c x := by
  unfold Rd; dsimp only; rw [decS_rS]; rfl
theorem payload_send (d : Fin 4) : (Rd Z).payload (sC c x) 0 d = sendPay Z c x := by
  unfold Rd; dsimp only; rw [decS_sS]; rfl

theorem rest_bar : bigSep ((Rd Z).duties (bC c) 0 \ ∅) (fun j => (Rd Z).payload (bC c) 0 j) = bigSep Finset.univ fun j => barPay c j := by
  rw [Finset.sdiff_empty, duties_bar]; rfl
theorem rest_recv (h : actR c x = true) :
    bigSep ((Rd Z).duties (rC c x) 0 \ ∅) (fun j => (Rd Z).payload (rC c x) 0 j) = recvPay Z c x := by
  rw [Finset.sdiff_empty, duties_recv Z c x h, bigSep_singleton, payload_recv]
theorem rest_send (h : act c x = true) :
    bigSep ((Rd Z).duties (sC c x) 0 \ ∅) (fun j => (Rd Z).payload (sC c x) 0 j) = sendPay Z c x := by
  rw [Finset.sdiff_empty, duties_send Z c x h, bigSep_singleton, payload_send]

end Tables

/-! ## What a device owes; the levels -/

/-- The credits device `c` still has to pay for the sends of `l`, the first one outermost. -/
def owedL (c : Dev nD) : List Tr → CellTallies nD τ sig Unit
  | [] => 0
  | x :: l => owedL c l + tallyAt (rC (dst c x) x) () N
/-- At launch: the credits of all its sends, and the four barrier units it pays. -/
def O₀ (c : Dev nD) : CellTallies nD τ sig Unit :=
  owedL c (sends (zp c)) + tallyAt (bC (barTo c 2)) () 1 + tallyAt (bC (barTo c 3)) () 1 + tallyAt (bC (barTo c 1)) () 1 + tallyAt (bC (barTo c 0)) () 1

def L (g : GSem nD τ sig) : Finset Unit := if g.1.2 = .tc then {()} else ∅
def lvS (c : Dev nD) (s : SemLoc sig) : ℕ :=
  match s with
  | .reg s => if s = barrier0 then 1 else 0
  | .dma n =>
    match decS n with
    | some (true, x) => lvR c x
    | _ => 0
def lv (g : GSem nD τ sig) (_ : Unit) : ℕ := lvS g.1.1 g.2

theorem L_of_ne (g : GSem nD τ sig) (h : g.1.2 ≠ .tc) : L g = ∅ := if_neg h
theorem L_tc (c : Dev nD) (s : SemLoc sig) : L ((c : Thread nD τ), s) = {()} := if_pos rfl
theorem lvS_recv (c : Dev nD) (x : Tr) : lvS c (.dma (rS x)) = lvR c x := by unfold lvS; dsimp only; rw [decS_rS]
theorem lvS_send (c : Dev nD) (x : Tr) : lvS c (.dma (sS x)) = 0 := by unfold lvS; dsimp only; rw [decS_sS]

/-- What is owed is owed to the receive cells of the listed sends. -/
theorem owedL_pos {c : Dev nD} {l : List Tr} {g : GSem nD τ sig} {u : Unit} (h : 0 < owedL c l g u) :
    ∃ x ∈ l, g = rC (dst c x) x := by
  induction l with
  | nil => exact absurd h (Nat.lt_irrefl 0)
  | cons x l ih =>
    unfold owedL at h
    rw [Pi.add_apply, Finsupp.add_apply] at h
    rcases Nat.add_pos_iff_pos_or_pos.mp h with h | h
    · obtain ⟨y, hy, e⟩ := ih h
      exact ⟨y, List.mem_cons_of_mem _ hy, e⟩
    · rw [tallyAt_apply] at h
      split at h
      · next hg => exact ⟨x, List.mem_cons_self, hg.1⟩
      · exact absurd h (Nat.lt_irrefl 0)

/-- A device may wait on a cell that lies below every cell it still owes. -/
theorem mayWait_owedL (c : Dev nD) (s : SemLoc sig) (l : List Tr) (h : ∀ x ∈ l, lvS c s < lvR (dst c x) x) :
    (levAts L lv : sProp 𝕄) ⊢ MayWait (c : Thread nD τ) s () (owedL c l) :=
  MayOwe.of_cut (L := L) (lev := lv) (lvS c s)
    (fun p hp => by rw [Finset.mem_singleton.mp hp, L_tc]; exact Finset.mem_singleton_self _)
    (fun g u hg => by
      obtain ⟨x, -, rfl⟩ := owedL_pos hg
      rw [L_tc]; exact Finset.mem_singleton_self _)
    (fun p hp => by rw [Finset.mem_singleton.mp hp]; exact Nat.le_refl _)
    (fun g u hg => by
      obtain ⟨x, hx, rfl⟩ := owedL_pos hg
      show lvS c s < lvS (dst c x) (.dma (rS x))
      rw [lvS_recv]; exact h x hx)

end Cert.KernelIdeal.Body

end
-- ==== Proof.Steps.lean ====
/-
One step of the protocol each: a remote copy, a wait for a landing, a wait for a copy's own end, and
the loads and stores of the slots.
-/
module

public import proofs.«01_k».proof.Proof.Proto

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Z : Dev nD → Fin 4 → V2 F)

/-- Any cell of the family, on device `c`. -/
abbrev cC (c : Dev nD) (b : Cl) : GSem nD τ sig := ((c : Thread nD τ), .dma (cS b))

/-- The invariants of all cells, under one map of names. -/
def recs (K : GSem nD τ sig → ℕ) : sProp 𝕄 :=
  iprop((bigSep Finset.univ fun c : Dev nD => cellInv ER (Rd Z) (K (bC c)) (bC c))
    ∗ bigSep Finset.univ fun cb : Dev nD × Cl => cellInv ER (Rd Z) (K (cC cb.1 cb.2)) (cC cb.1 cb.2))
instance recs_persistent (K : GSem nD τ sig → ℕ) : BI.Persistent (recs Z K) := by unfold recs; infer_instance

theorem recs_bar (K : GSem nD τ sig → ℕ) (c : Dev nD) : recs Z K ⊢ (cellInv ER (Rd Z) (K (bC c)) (bC c) : sProp 𝕄) := by
  unfold recs
  exact sep_elim_left.trans (bigSep_elim (Finset.mem_univ c))
theorem recs_cell (K : GSem nD τ sig → ℕ) (c : Dev nD) (b : Cl) :
    recs Z K ⊢ (cellInv ER (Rd Z) (K (cC c b)) (cC c b) : sProp 𝕄) := by
  unfold recs
  exact sep_elim_right.trans (bigSep_elim (Φ := fun cb : Dev nD × Cl => (cellInv ER (Rd Z) (K (cC cb.1 cb.2)) (cC cb.1 cb.2) : sProp 𝕄))
    (Finset.mem_univ (c, b)))
theorem recs_recv (K : GSem nD τ sig → ℕ) (c : Dev nD) (x : Tr) :
    recs Z K ⊢ (cellInv ER (Rd Z) (K (rC c x)) (rC c x) : sProp 𝕄) := recs_cell Z K c (true, x)
theorem recs_send (K : GSem nD τ sig → ℕ) (c : Dev nD) (x : Tr) :
    recs Z K ⊢ (cellInv ER (Rd Z) (K (sC c x)) (sC c x) : sProp 𝕄) := recs_cell Z K c (false, x)

/-- What every step may consult: the invariants and the levels. -/
def ctx (K : GSem nD τ sig → ℕ) : sProp 𝕄 := iprop(recs Z K ∗ levAts L lv)
instance ctx_persistent (K : GSem nD τ sig → ℕ) : BI.Persistent (ctx Z K) := by unfold ctx; infer_instance

/-- What a device needs to send by `x`; what it holds while the copy is on its way; what it needs
to receive by `x`. -/
def sendRes (c : Dev nD) (x : Tr) : sProp 𝕄 :=
  iprop(dutyTok ER (sC c x) 0 0 ∗ dutyTok ER (rC (dst c x) x) 0 0 ∗ reached ER (sC c x) 0 ∗ atPos ER (sC c x) 0 ∅ 0
    ∗ slotOf (dst c x) x)
def sentRes (c : Dev nD) (x : Tr) : sProp 𝕄 := iprop(cred (tallyAt (sC c x) () N) ∗ atPos ER (sC c x) 0 ∅ 0)
def recvRes (c : Dev nD) (x : Tr) : sProp 𝕄 := iprop(cred (tallyAt (rC c x) () N) ∗ atPos ER (rC c x) 0 ∅ 0)
/-- The cell's round is over. -/
def over (c : Dev nD) (b : Cl) : sProp 𝕄 := atPos ER (cC c b) 1 ∅ 0
/-- What device `c` still owes: the credits of the sends of `l`. -/
def OW (c : Dev nD) (l : List Tr) : sProp 𝕄 := iprop(∃ W, owes (c : Thread nD τ) (owedL c l) W)

/-- The weakest precondition of a program of device `c`. -/
abbrev wpc (c : Dev nD) {α : Type} (p : PG F α) (Q : α → sProp 𝕄) : sProp 𝕄 :=
  wp frame (wpE (defs₀ (F := F)) 𝒱₀ (c : Thread nD τ) none) Set.univ p Q
theorem wpc_bind (c : Dev nD) {α β : Type} (p : PG F α) (k : α → PG F β) (Q : β → sProp 𝕄) :
    wpc c (p >>= k) Q = wpc c p fun a => wpc c (k a) Q := wp_bind ..
theorem wpc_pure (c : Dev nD) {α : Type} (a : α) (Q : α → sProp 𝕄) :
    wpc c (Pure.pure a) Q = iprop(|={Set.univ}[frame]=> Q a) := wp_pure ..

variable (K : GSem nD τ sig → ℕ) (c : Dev nD)

/-- A remote copy: its source is lent, its destination goes to the receiver, and one credit less is owed. -/
theorem wp_sendX (x : Tr) (l : List Tr) (S D : Memref sig .tc .vmem S128x1024 .bf16) (hS : srcM c x = S) (hD : dstM x = D)
    (a b : DmaSem sig) (ha : sS x = a) (hb : rS x = b) (n : Dev nD) (hn : dst c x = n) (hx : act c x = true)
    (q : PosShare TreeShare) (hq : lent x = q) (X : V2 F) (hX : cont Z c x = X) (h1 : S.view.WordExact) (h2 : D.view.WordExact)
    (h3 : DmaTarget.Typed .vmem (.dma b) (.remote (Dev.tc n) D (.dma a) rfl)) (Q : PUnit → sProp 𝕄) :
    iprop(ctx Z K ∗ sendRes c x ∗ own2 c S q X ∗ OW c (x :: l))
      ⊢ iprop(((sentRes c x ∗ OW c l) -∗ Q ⟨⟩) -∗ wpc c (Prog.lift (.enqueueDma S (.remote (Dev.tc n) D (.dma a)) (.dma b) h1 h2 h3)) Q) := by
  subst hS hD ha hb hn hq hX
  unfold ctx sendRes own2 owns OW slotOf any2
  iintro ⟨⟨#HR, -⟩, ⟨Ht1, Ht2, #Hr1, Hat, ⟨%fd, Hd⟩, #Hr2⟩, ⟨%fs, %hfs, Hs⟩, ⟨%W, HO⟩⟩ Hk
  iapply (Rounds.wp_send_pointsTo 𝒱₀ ER (Rd Z) (c : Thread nD τ) none (c' := (dst c x : Thread nD τ)) (src := srcM c x) (dst := dstM x)
      (sS := .dma (sS x)) (sem := .dma (rS x)) (q := lent x) (fs := fs) (κ₁ := K (sC c x)) (κ₂ := K (rC (dst c x) x))
      (r₁ := 0) (r₂ := 0) (d₁ := 0) (d₂ := 0) (fd := fd)
      (by rw [duties_send Z c x hx]; exact Finset.mem_singleton_self _)
      (by rw [duties_recv Z (dst c x) x (by rw [act_dst]; exact hx)]; exact Finset.mem_singleton_self _)
      () () N rfl rfl rfl (owedL c l) rfl (W := W)
      (by
        rw [payload_send]; unfold sendPay own2 owns
        iintro H; iexists fs
        isplitr; · ipureintro; exact hfs
        iexact H)
      (by
        rw [payload_recv, recvPay, src_dst]; unfold own2 owns
        iintro H
        iexists ((dstM x).view.write (Elt F) fd ((srcM c x).view.read (Elt F) fs) Finset.univ)
        isplitr
        · ipureintro; rw [View.read_write_univ]; exact hfs
        iexact H)) $$ [Hs Hd HO Ht1 Ht2]
  · isplitr; · iapply (recs_send Z K c x); iexact HR
    isplitr; · iapply (recs_recv Z K (dst c x) x); iexact HR
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  iapply Hk
  unfold sentRes
  isplitl [Hc Hat]
  · isplitl [Hc] <;> iassumption
  iexists W; iexact HO

/-- A wait for what comes by `x`: the slot, with what the sender sent. -/
theorem wp_recvX (x : Tr) (l : List Tr) (S D : Memref sig .tc .vmem S128x1024 .bf16) (hD : dstM x = D)
    (b : DmaSem sig) (hb : rS x = b) (hx : actR c x = true) (hl : ∀ y ∈ l, lvR c x < lvR (dst c y) y)
    (X : V2 F) (hX : cont Z (src c x) x = X) (h1 : S.view.WordExact) (h2 : D.view.WordExact) (hN : D.view.dmaCredit = N) (Q : PUnit → sProp 𝕄) :
    iprop(ctx Z K ∗ recvRes c x ∗ OW c l)
      ⊢ iprop(((over c (true, x) ∗ own2 c D fullShare X ∗ OW c l) -∗ Q ⟨⟩)
          -∗ wpc c (Prog.lift (.waitDma2 b S D h1 h2)) Q) := by
  subst hb hX hD
  unfold ctx recvRes OW
  iintro ⟨⟨#HR, #Hlev⟩, ⟨Hc, Hat⟩, ⟨%W, HO⟩⟩ Hk
  iapply (Rounds.wp_wait_rest_token 𝒱₀ ER (Rd Z) (c : Thread nD τ) none (κ := K (rC c x))
      (wpE_waitDma2_eq 𝒱₀ (c : Thread nD τ) none Set.univ) (Set.mem_univ _) () (O := owedL c l) (W := W) (R := 0) (m := 0) (T := ∅)
      (by rw [Nat.zero_add, expect_recv Z c x hx, hN])) $$ [Hc HO Hat]
  · isplitr; · iapply (recs_recv Z K c x); iexact HR
    isplitl [Hc]; · iexact Hc
    isplitl [HO]; · iexact HO
    isplitr; · iapply (mayWait_owedL c (.dma (rS x)) l (by rw [lvS_recv]; exact hl)); iexact Hlev
    iexact Hat
  iintro ⟨HO, Hat, -, Hpay⟩
  ihave Hp := (Entails.of_eq (rest_recv Z c x hx)) $$ Hpay
  rw [wp_ret]; imodintro
  iapply Hk
  unfold over recvPay own2
  isplitl [Hat]; · iexact Hat
  isplitl [Hp]; · iexact Hp
  iexists (insert (SemLoc.dma (rS x), ()) W); iexact HO

theorem lvR_pos (d : Dev nD) (y : Tr) : 0 < lvR d y := by unfold lvR; split <;> omega

/-- A wait for the end of the device's own copy: what was lent comes back. -/
theorem wp_sentX (x : Tr) (l : List Tr) (S D : Memref sig .tc .vmem S128x1024 .bf16)
    (a : DmaSem sig) (ha : sS x = a) (hx : act c x = true) (S' : Memref sig .tc .vmem S128x1024 .bf16) (hS : srcM c x = S')
    (q : PosShare TreeShare) (hq : lent x = q) (X : V2 F) (hX : cont Z c x = X) (h1 : S.view.WordExact) (h2 : D.view.WordExact) (hN : D.view.dmaCredit = N) (Q : PUnit → sProp 𝕄) :
    iprop(ctx Z K ∗ sentRes c x ∗ OW c l)
      ⊢ iprop(((over c (false, x) ∗ own2 c S' q X ∗ OW c l) -∗ Q ⟨⟩)
          -∗ wpc c (Prog.lift (.waitDma2 a S D h1 h2)) Q) := by
  subst ha hS hq hX
  unfold ctx sentRes OW
  iintro ⟨⟨#HR, #Hlev⟩, ⟨Hc, Hat⟩, ⟨%W, HO⟩⟩ Hk
  iapply (Rounds.wp_wait_rest_token 𝒱₀ ER (Rd Z) (c : Thread nD τ) none (κ := K (sC c x))
      (wpE_waitDma2_eq 𝒱₀ (c : Thread nD τ) none Set.univ) (Set.mem_univ _) () (O := owedL c l) (W := W) (R := 0) (m := 0) (T := ∅)
      (by rw [Nat.zero_add, expect_send Z c x hx, hN])) $$ [Hc HO Hat]
  · isplitr; · iapply (recs_send Z K c x); iexact HR
    isplitl [Hc]; · iexact Hc
    isplitl [HO]; · iexact HO
    isplitr; · iapply (mayWait_owedL c (.dma (sS x)) l (by rw [lvS_send]; exact fun y _ => lvR_pos _ y)); iexact Hlev
    iexact Hat
  iintro ⟨HO, Hat, -, Hpay⟩
  ihave Hp := (Entails.of_eq (rest_send Z c x hx)) $$ Hpay
  rw [wp_ret]; imodintro
  iapply Hk
  unfold over sendPay own2
  isplitl [Hat]; · iexact Hat
  isplitl [Hp]; · iexact Hp
  iexists (insert (SemLoc.dma (sS x), ()) W); iexact HO

end Cert.KernelIdeal.Body

end
-- ==== Proof.Slots.lean ====
/-
Loads and stores of the slots, with what they hold written as matrices; a slot held in two halves.
-/
module

public import proofs.«01_k».proof.Proof.Steps

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-- A slot as a matrix, from what a load gives, and back. -/
abbrev flat4 (Y : Vec F S1x1x128x1024 .bf16) : V2 F := shapeCast S128x1024 Y shapeCasts_S1x1x128x1024_S128x1024
abbrev un4 (X : V2 F) : FVec F S1x1x128x1024 .bf16 := shapeCast S1x1x128x1024 X shapeCasts_S128x1024_S1x1x128x1024

theorem flat4_un4 (X : V2 F) : flat4 (un4 X) = X := funext fun i => congrArg X (by
  show Shape.reshapeEquiv _ (Shape.reshapeEquiv _ i) = i
  rw [Shape.reshapeEquiv_reshapeEquiv, Shape.reshapeEquiv_self])
theorem un4_flat4 (Y : Vec F S1x1x128x1024 .bf16) : un4 (flat4 Y) = Y := funext fun i => congrArg Y (by
  show Shape.reshapeEquiv _ (Shape.reshapeEquiv _ i) = i
  rw [Shape.reshapeEquiv_reshapeEquiv, Shape.reshapeEquiv_self])

theorem zs_set (ci : Fin 4) (s : Fin 5) : (zs ci s).view.set = (zB.access (zR ci s)).set := View.set_reshape _ _
theorem qs_set (ci : Fin 4) (s : Fin 4) : (qs ci s).view.set = (qB.access (qR ci s)).set := View.set_reshape _ _
theorem zs_read (ci : Fin 4) (s : Fin 5) (f : zB.view.ty.Contents (Elt F)) :
    (zs ci s).view.read (Elt F) f = flat4 ((zB.access (zR ci s)).read (Elt F) f) := rfl
theorem qs_read (ci : Fin 4) (s : Fin 4) (f : qB.view.ty.Contents (Elt F)) :
    (qs ci s).view.read (Elt F) f = flat4 ((qB.access (qR ci s)).read (Elt F) f) := rfl

/-- A load of a slot that holds `X` gives `X`, under four axes. -/
theorem wp_loadZ (ci : Fin 4) (s : Fin 5) (q : PosShare TreeShare) (X : V2 F) (Q : Vec F S1x1x128x1024 .bf16 → sProp 𝕄) :
    own2 c (zs ci s) q X ⊢ iprop((∀ Y, ⌜flat4 Y = X⌝ -∗ own2 c (zs ci s) q X -∗ Q Y) -∗ wpc c (loadZ ci s) Q) := by
  unfold own2 owns
  iintro ⟨%f, %hf, H⟩ Hk
  ihave H := (show ((zs ci s).view.loc (c : Thread nD τ) ↦[(zs ci s).view.set]{q} f : sProp 𝕄)
    ⊢ ((zB.access (zR ci s)).loc (c : Thread nD τ) ↦[(zs ci s).view.set]{q} f) from .rfl) $$ H
  iapply (wp_load_rect 𝒱₀ (c : Thread nD τ) none Set.univ (m := zB) (r := zR ci s) (S := (zs ci s).view.set) (q := q) (f := f)
    (by rw [zs_set])) $$ H
  iintro H
  rw [wp_ret]; imodintro
  iapply Hk
  · ipureintro; rw [← hf]; exact (zs_read ci s f).symm
  iexists f
  isplitr; · ipureintro; exact hf
  iexact H
theorem wp_loadQ (ci : Fin 4) (s : Fin 4) (q : PosShare TreeShare) (X : V2 F) (Q : Vec F S1x1x128x1024 .bf16 → sProp 𝕄) :
    own2 c (qs ci s) q X ⊢ iprop((∀ Y, ⌜flat4 Y = X⌝ -∗ own2 c (qs ci s) q X -∗ Q Y) -∗ wpc c (loadQ ci s) Q) := by
  unfold own2 owns
  iintro ⟨%f, %hf, H⟩ Hk
  ihave H := (show ((qs ci s).view.loc (c : Thread nD τ) ↦[(qs ci s).view.set]{q} f : sProp 𝕄)
    ⊢ ((qB.access (qR ci s)).loc (c : Thread nD τ) ↦[(qs ci s).view.set]{q} f) from .rfl) $$ H
  iapply (wp_load_rect 𝒱₀ (c : Thread nD τ) none Set.univ (m := qB) (r := qR ci s) (S := (qs ci s).view.set) (q := q) (f := f)
    (by rw [qs_set])) $$ H
  iintro H
  rw [wp_ret]; imodintro
  iapply Hk
  · ipureintro; rw [← hf]; exact (qs_read ci s f).symm
  iexists f
  isplitr; · ipureintro; exact hf
  iexact H

/-- A store into a slot sets what it holds. -/
theorem wp_storeZ (ci : Fin 4) (s : Fin 5) (v : FVec F S1x1x128x1024 .bf16) (Q : PUnit → sProp 𝕄) :
    any2 c (zs ci s) ⊢ iprop((own2 c (zs ci s) fullShare (flat4 v) -∗ Q ⟨⟩) -∗ wpc c (storeZ ci s v) Q) := by
  unfold own2 owns any2
  iintro ⟨%f, H⟩ Hk
  ihave H := (show ((zs ci s).view.loc (c : Thread nD τ) ↦[(zs ci s).view.set]{fullShare} f : sProp 𝕄)
    ⊢ ((zB.access (zR ci s)).loc (c : Thread nD τ) ↦[(zs ci s).view.set]{fullShare} f) from .rfl) $$ H
  iapply (wp_store 𝒱₀ (c : Thread nD τ) none Set.univ (m := zB) (r := zR ci s) (Mk := Finset.univ) (S := (zs ci s).view.set) (f := f)
    (by rw [zs_set, View.setOn_univ])) $$ H
  iintro H
  rw [wp_ret]; imodintro
  iapply Hk
  iexists ((zB.access (zR ci s)).write (Elt F) f v Finset.univ)
  isplitr; · ipureintro; rw [zs_read]; exact congrArg flat4 (View.read_write_univ (v := zB.access (zR ci s)) f v)
  iexact H
theorem wp_storeQ (ci : Fin 4) (s : Fin 4) (v : FVec F S1x1x128x1024 .bf16) (Q : PUnit → sProp 𝕄) :
    any2 c (qs ci s) ⊢ iprop((own2 c (qs ci s) fullShare (flat4 v) -∗ Q ⟨⟩) -∗ wpc c (storeQ ci s v) Q) := by
  unfold own2 owns any2
  iintro ⟨%f, H⟩ Hk
  ihave H := (show ((qs ci s).view.loc (c : Thread nD τ) ↦[(qs ci s).view.set]{fullShare} f : sProp 𝕄)
    ⊢ ((qB.access (qR ci s)).loc (c : Thread nD τ) ↦[(qs ci s).view.set]{fullShare} f) from .rfl) $$ H
  iapply (wp_store 𝒱₀ (c : Thread nD τ) none Set.univ (m := qB) (r := qR ci s) (Mk := Finset.univ) (S := (qs ci s).view.set) (f := f)
    (by rw [qs_set, View.setOn_univ])) $$ H
  iintro H
  rw [wp_ret]; imodintro
  iapply Hk
  iexists ((qB.access (qR ci s)).write (Elt F) f v Finset.univ)
  isplitr; · ipureintro; rw [qs_read]; exact congrArg flat4 (View.read_write_univ (v := qB.access (qR ci s)) f v)
  iexact H

/-- A load whose result is dropped. -/
theorem wp_loadZA (ci : Fin 4) (s : Fin 5) (Q : Vec F S1x1x128x1024 .bf16 → sProp 𝕄) :
    any2 c (zs ci s) ⊢ iprop((∀ Y, any2 c (zs ci s) -∗ Q Y) -∗ wpc c (loadZ ci s) Q) := by
  iintro H Hk
  unfold any2
  icases H with ⟨%f, H⟩
  iapply (wp_loadZ c ci s fullShare ((zs ci s).view.read (Elt F) f) Q) $$ [H]
  · unfold own2 owns
    iexists f
    isplitr; · ipureintro; rfl
    iexact H
  iintro %Y - H
  iapply Hk
  unfold own2 owns
  icases H with ⟨%g, -, H⟩
  iexists g; iexact H
theorem wp_loadQA (ci : Fin 4) (s : Fin 4) (Q : Vec F S1x1x128x1024 .bf16 → sProp 𝕄) :
    any2 c (qs ci s) ⊢ iprop((∀ Y, any2 c (qs ci s) -∗ Q Y) -∗ wpc c (loadQ ci s) Q) := by
  iintro H Hk
  unfold any2
  icases H with ⟨%f, H⟩
  iapply (wp_loadQ c ci s fullShare ((qs ci s).view.read (Elt F) f) Q) $$ [H]
  · unfold own2 owns
    iexists f
    isplitr; · ipureintro; rfl
    iexact H
  iintro %Y - H
  iapply Hk
  unfold own2 owns
  icases H with ⟨%g, -, H⟩
  iexists g; iexact H

/-! ## What is computed between -/

theorem pay1_flat (a b : Vec F S1x1x128x1024 .bf16) : flat4 (k0_pay1 a b) = addf (flat4 a) (flat4 b) := flat4_un4 _
theorem pay28_flat (a b : Vec F S1x1x128x1024 .bf16) : flat4 (k0_pay28 a b) = addf (flat4 a) (flat4 b) := flat4_un4 _
theorem pay30_flat (a b e : Vec F S1x1x128x1024 .bf16) : flat4 (k0_pay30 a b e) = addf (addf (flat4 a) (flat4 b)) (flat4 e) := flat4_un4 _

/-! ## Halves -/

variable (M : Memref sig .tc .vmem S128x1024 .bf16)

/-- A slot in its two halves, -/
theorem own2_split (X : V2 F) :
    own2 c M fullShare X ⊢ (iprop(own2 c M fullShare.left X ∗ own2 c M fullShare.right X) : sProp 𝕄) := by
  unfold own2 owns
  iintro ⟨%f, %hf, H⟩
  icases H with ⟨H, H'⟩
  isplitl [H]
  · iexists f
    isplitr; · ipureintro; exact hf
    iexact H
  iexists f
  isplitr; · ipureintro; exact hf
  iexact H'

/-- and whole again: what the halves hold is the same. -/
theorem own2_join (X Y : V2 F) :
    iprop(own2 c M fullShare.left X ∗ own2 c M fullShare.right Y) ⊢ (own2 c M fullShare X : sProp 𝕄) := by
  unfold own2 owns
  iintro ⟨⟨%f, %hf, H⟩, ⟨%g, %hg, H'⟩⟩
  icombine H H' as HH
  ihave %hag := BI.Region.is_agree $$ HH
  icases HH with ⟨H, H'⟩
  ihave H2 := (Entails.of_eq (pointsTo_congr (f := g) (g := f) fun i hi => ((hag i (Finset.mem_inter.mpr ⟨hi, hi⟩)).1).symm)) $$ H'
  icombine H H2 as HH
  iexists f
  isplitr; · ipureintro; exact hf
  iexact HH

end Cert.KernelIdeal.Body

end
-- ==== Proof.PhaseZ.lean ====
/-
The all-reduce of a chunk along z: what a device holds between the phases, and each phase.
-/
module

public import proofs.«01_k».proof.Proof.Slots

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Z : Dev nD → Fin 4 → V2 F) (K : GSem nD τ sig → ℕ) (c : Dev nD) (ci : Fin 4)

/-! ## What a device holds -/

/-- A cell of the family that has no more rounds. -/
def rest (b : Cl) : sProp 𝕄 := iprop(∃ R : ℕ, ⌜∀ r, R ≤ r → (Rd Z).duties (cC c b) r = ∅⌝ ∗ atPos ER (cC c b) R ∅ 0)
theorem rest_of_over (b : Cl) : over c b ⊢ (rest Z c b : sProp 𝕄) := by
  unfold over rest
  iintro H
  iexists 1
  isplitr; · ipureintro; exact duties_later Z _
  iexact H

/-- The means to send, to receive, by `x`, if the device does. -/
def sendI (x : Tr) : sProp 𝕄 := if act c x = true then sendRes c x else rest Z c (false, x)
def recvI (x : Tr) : sProp 𝕄 := if actR c x = true then recvRes c x else rest Z c (true, x)
/-- The slot of `x`, if nothing comes there. -/
def keep (x : Tr) : sProp 𝕄 := if actR c x = true then iprop(emp) else any2 c (dstM x)

/-- The slots of a chunk's all-reduce, with its transfers still to come, but for slot 0. -/
def ZR : sProp 𝕄 :=
  iprop(any2 c (zs ci 3) ∗ any2 c (zs ci 4) ∗ sendI Z c (0, ci) ∗ sendI Z c (1, ci) ∗ recvI Z c (0, ci) ∗ recvI Z c (1, ci)
    ∗ keep c (0, ci) ∗ keep c (1, ci))
/-- Slot 0 filled; -/
def ZA : sProp 𝕄 := iprop(own2 c (zs ci 0) fullShare (Z c ci) ∗ ZR Z c ci)
/-- the ends have sent; -/
def ZB0 : sProp 𝕄 :=
  iprop(own2 c (zs ci 0) fullShare.right (Z c ci) ∗ sentRes c (0, ci) ∗ rest Z c (false, (1, ci)) ∗ rest Z c (true, (0, ci))
    ∗ recvRes c (1, ci) ∗ any2 c (zs ci 1) ∗ any2 c (zs ci 3) ∗ any2 c (zs ci 4))
def ZB3 : sProp 𝕄 :=
  iprop(own2 c (zs ci 0) fullShare.right (Z c ci) ∗ sentRes c (1, ci) ∗ rest Z c (false, (0, ci)) ∗ rest Z c (true, (1, ci))
    ∗ recvRes c (0, ci) ∗ any2 c (zs ci 2) ∗ any2 c (zs ci 3) ∗ any2 c (zs ci 4))
def ZBM : sProp 𝕄 :=
  iprop(own2 c (zs ci 0) fullShare (Z c ci) ∗ sendRes c (0, ci) ∗ sendRes c (1, ci)
    ∗ recvRes c (0, ci) ∗ recvRes c (1, ci) ∗ any2 c (zs ci 3) ∗ any2 c (zs ci 4))
def ZB : sProp 𝕄 := if zp c = 0 then ZB0 Z c ci else if zp c = 3 then ZB3 Z c ci else ZBM Z c ci
/-- those inside have forwarded; -/
def ZCM : sProp 𝕄 :=
  iprop(own2 c (zs ci 0) fullShare (Z c ci) ∗ sentRes c (0, ci) ∗ sentRes c (1, ci)
    ∗ rest Z c (true, (0, ci)) ∗ rest Z c (true, (1, ci))
    ∗ own2 c (zs ci 1) fullShare (cont Z (zm c) (0, ci)) ∗ own2 c (zs ci 2) fullShare (cont Z (zn c) (1, ci))
    ∗ own2 c (zs ci 3) fullShare.right (cont Z c (0, ci)) ∗ own2 c (zs ci 4) fullShare.right (cont Z c (1, ci)))
def ZC : sProp 𝕄 := if zp c = 0 then ZB0 Z c ci else if zp c = 3 then ZB3 Z c ci else ZCM Z c ci
/-- all is over. -/
def ZD : sProp 𝕄 :=
  iprop(any2 c (zs ci 0) ∗ any2 c (zs ci 1) ∗ any2 c (zs ci 2) ∗ any2 c (zs ci 3) ∗ any2 c (zs ci 4)
    ∗ rest Z c (false, (0, ci)) ∗ rest Z c (false, (1, ci)) ∗ rest Z c (true, (0, ci)) ∗ rest Z c (true, (1, ci)))

/-! ## Places -/

variable {c}

theorem act0_iff : act c (0, ci) = true ↔ zp c ≠ 3 := by revert c ci; decide
theorem act1_iff : act c (1, ci) = true ↔ zp c ≠ 0 := by revert c ci; decide
theorem actR0_iff : actR c (0, ci) = true ↔ zp c ≠ 0 := by revert c ci; decide
theorem actR1_iff : actR c (1, ci) = true ↔ zp c ≠ 3 := by revert c ci; decide
theorem place : zp c = 0 ∨ zp c = 3 ∨ (zp c ≠ 0 ∧ zp c ≠ 3) := by revert c; decide

theorem ZR_0 (h : zp c = 0) : ZR Z c ci = iprop(any2 c (zs ci 3) ∗ any2 c (zs ci 4) ∗ sendRes c (0, ci) ∗ rest Z c (false, (1, ci))
    ∗ rest Z c (true, (0, ci)) ∗ recvRes c (1, ci) ∗ any2 c (zs ci 1) ∗ emp) := by
  unfold ZR sendI recvI keep
  simp only [act0_iff, act1_iff, actR0_iff, actR1_iff, h]
  rfl
theorem ZR_3 (h : zp c = 3) : ZR Z c ci = iprop(any2 c (zs ci 3) ∗ any2 c (zs ci 4) ∗ rest Z c (false, (0, ci)) ∗ sendRes c (1, ci)
    ∗ recvRes c (0, ci) ∗ rest Z c (true, (1, ci)) ∗ emp ∗ any2 c (zs ci 2)) := by
  unfold ZR sendI recvI keep
  simp only [act0_iff, act1_iff, actR0_iff, actR1_iff, h]
  rfl
theorem ZR_M (h : zp c ≠ 0 ∧ zp c ≠ 3) : ZR Z c ci = iprop(any2 c (zs ci 3) ∗ any2 c (zs ci 4) ∗ sendRes c (0, ci) ∗ sendRes c (1, ci)
    ∗ recvRes c (0, ci) ∗ recvRes c (1, ci) ∗ emp ∗ emp) := by
  unfold ZR sendI recvI keep
  simp only [act0_iff, act1_iff, actR0_iff, actR1_iff, h.1, h.2, ne_eq, not_false_eq_true, if_true]

/-! ## The edges -/

theorem cont0_0 (h : zp c = 0) : cont Z c (0, ci) = Z c ci := by unfold cont; dsimp only; rw [h]; rfl
theorem cont1_3 (h : zp c = 3) : cont Z c (1, ci) = Z c ci := by unfold cont; dsimp only; rw [h]; rfl

theorem edge_spec (l : List Tr) (Q : PUnit → sProp 𝕄) :
    iprop(ctx Z K ∗ ZA Z c ci ∗ OW c (edgeOf (zp c) ci ++ l))
      ⊢ iprop(((ZB Z c ci ∗ OW c l) -∗ Q ⟨⟩) -∗ wpc c (edge ci c) Q) := by
  unfold edge edgeR edgeL ZA ZB
  rw [wpc_bind]
  obtain h | h | h := place (c := c)
  · have c1 : k0_cond1 c = 1#1 := (cond1_iff c).2 h
    have c2 : ¬ k0_cond2 c = 1#1 := fun e => absurd (h.symm.trans ((cond2_iff c).1 e)) (by decide)
    simp only [dif_pos c1, dif_neg c2, if_pos h, wpc_pure]
    rw [ZR_0 Z ci h, show edgeOf (zp c) ci ++ l = (0, ci) :: l by rw [h]; rfl]
    unfold ZB0
    iintro ⟨#HC, ⟨Hz, H3, H4, Hs, Hr1, Hr2, Hrv, H1, -⟩, HO⟩ Hk
    ihave Hz := (own2_split c (zs ci 0) (Z c ci)) $$ Hz
    icases Hz with ⟨Hz, Hz'⟩
    iapply (wp_sendX Z K c (0, ci) l (zs ci 0) (zs ci 1) (if_pos h) rfl _ _ rfl rfl _ (dev5_eq c c1).symm ((act0_iff ci).2 (by rw [h]; decide))
      fullShare.left rfl _ (cont0_0 Z ci h) _ _ _ _) $$ [Hs Hz HO]
    · iframe #; iframe
    iintro ⟨Hs, HO⟩
    imodintro
    iapply Hk
    iframe
  · have c1 : ¬ k0_cond1 c = 1#1 := fun e => absurd (h.symm.trans ((cond1_iff c).1 e)) (by decide)
    have c2 : k0_cond2 c = 1#1 := (cond2_iff c).2 h
    have h0 : ¬ zp c = 0 := fun e => absurd (h.symm.trans e) (by decide)
    simp only [dif_neg c1, dif_pos c2, if_neg h0, if_pos h, wpc_pure]
    rw [ZR_3 Z ci h, show edgeOf (zp c) ci ++ l = (1, ci) :: l by rw [h]; rfl]
    unfold ZB3
    iintro ⟨#HC, ⟨Hz, H3, H4, Hr1, Hs, Hrv, Hr2, -, H2⟩, HO⟩ Hk
    ihave Hz := (own2_split c (zs ci 0) (Z c ci)) $$ Hz
    icases Hz with ⟨Hz, Hz'⟩
    imodintro
    iapply (wp_sendX Z K c (1, ci) l (zs ci 0) (zs ci 2) (if_pos h) rfl _ _ rfl rfl _ (dev6_eq c c2).symm ((act1_iff ci).2 (by rw [h]; decide))
      fullShare.left rfl _ (cont1_3 Z ci h) _ _ _ _) $$ [Hs Hz HO]
    · iframe #; iframe
    iintro ⟨Hs, HO⟩
    iapply Hk
    iframe
  · have c1 : ¬ k0_cond1 c = 1#1 := fun e => h.1 ((cond1_iff c).1 e)
    have c2 : ¬ k0_cond2 c = 1#1 := fun e => h.2 ((cond2_iff c).1 e)
    simp only [dif_neg c1, dif_neg c2, if_neg h.1, if_neg h.2, wpc_pure]
    rw [ZR_M Z ci h, show edgeOf (zp c) ci ++ l = l by revert h; generalize zp c = z; revert z; intro z; fin_cases z <;> simp [edgeOf]]
    unfold ZBM
    iintro ⟨#HC, ⟨Hz, H3, H4, Hs0, Hs1, Hr0, Hr1, -, -⟩, HO⟩ Hk
    imodintro
    imodintro
    iapply Hk
    iframe

/-! ## Forwarding -/

/-- One forwarding: what comes by `x` lands in slot `t`; with the own rows added it goes on from slot `s`. -/
theorem fwd_spec (x : Tr) (dd : Fin 2) (t s : Fin 5) (n : Dev nD) (l : List Tr) (hci : x.2 = ci)
    (hS : srcM c x = zs ci s) (hD : dstM x = zs ci t) (ha : sS x = sm cc0_scratch4 ci dd) (hb : rS x = sm cc0_scratch5 ci dd)
    (hn : dst c x = n) (hx : act c x = true) (hr : actR c x = true) (hl : ∀ y ∈ x :: l, lvR c x < lvR (dst c y) y) (hq : lent x = fullShare.left)
    (hX : cont Z c x = addf (Z c ci) (cont Z (src c x) x)) (Q : PUnit → sProp 𝕄) :
    iprop(ctx Z K ∗ (own2 c (zs ci 0) fullShare (Z c ci) ∗ sendRes c x ∗ recvRes c x ∗ any2 c (zs ci s)) ∗ OW c (x :: l))
      ⊢ iprop(((own2 c (zs ci 0) fullShare (Z c ci) ∗ sentRes c x ∗ rest Z c (true, x) ∗ own2 c (zs ci t) fullShare (cont Z (src c x) x)
          ∗ own2 c (zs ci s) fullShare.right (cont Z c x) ∗ OW c l) -∗ Q ⟨⟩) -∗ wpc c (fwd ci dd t s n) Q) := by
  unfold fwd
  simp only [wpc_bind]
  iintro ⟨#HC, ⟨Hz, Hs, Hr, Ha⟩, HO⟩ Hk
  iapply (wp_recvX Z K c x (x :: l) _ (zs ci t) hD _ hb hr hl _ rfl _ _ rfl _) $$ [Hr HO]
  · iframe #; iframe
  iintro ⟨Hov, Ht, HO⟩
  iapply (wp_loadZ c ci 0 _ _ _) $$ Hz
  iintro %Y0 %e0 Hz
  iapply (wp_loadZ c ci t _ _ _) $$ Ht
  iintro %Y1 %e1 Ht
  iapply (wp_loadZA c ci s _) $$ Ha
  iintro %Y2 Ha
  iapply (wp_storeZ c ci s _ _) $$ Ha
  iintro Ha
  rw [pay1_flat, e0, e1, ← hX]
  ihave Ha := (own2_split c (zs ci s) _) $$ Ha
  icases Ha with ⟨Ha, Ha'⟩
  iapply (wp_sendX Z K c x l (zs ci s) (zs ci t) hS hD _ _ ha hb _ hn hx _ hq _ rfl _ _ _ _) $$ [Hs Ha HO]
  · iframe #; iframe
  iintro ⟨Hs, HO⟩
  iapply Hk
  ihave Hov := (rest_of_over Z c (true, x)) $$ Hov
  iframe

theorem cont_step0 (h : zp c ≠ 0) : cont Z c (0, ci) = addf (Z c ci) (cont Z (zm c) (0, ci)) := by
  have e : (zp c).val = (zp (zm c)).val + 1 := by revert c; decide
  unfold cont; dsimp only; rw [e]; rfl
theorem cont_step1 (h : zp c ≠ 3) : cont Z c (1, ci) = addf (Z c ci) (cont Z (zn c) (1, ci)) := by
  have e : 3 - (zp c).val = 3 - (zp (zn c)).val + 1 := by revert c; decide
  unfold cont; dsimp only; rw [e]; rfl

theorem mid_lev1 : ∀ (ci : Fin 4) (c : Dev nD), zp c = 1 → (∀ y ∈ [((0 : Fin 5), ci), (1, ci)], lvR c (0, ci) < lvR (dst c y) y)
    ∧ ∀ y ∈ [((1 : Fin 5), ci)], lvR c (1, ci) < lvR (dst c y) y := by decide
theorem mid_lev2 : ∀ (ci : Fin 4) (c : Dev nD), zp c = 2 → (∀ y ∈ [((1 : Fin 5), ci), (0, ci)], lvR c (1, ci) < lvR (dst c y) y)
    ∧ ∀ y ∈ [((0 : Fin 5), ci)], lvR c (0, ci) < lvR (dst c y) y := by decide

theorem mid_spec (l : List Tr) (hl : ∀ y ∈ l, lvR c (0, ci) < lvR (dst c y) y ∧ lvR c (1, ci) < lvR (dst c y) y) (Q : PUnit → sProp 𝕄) :
    iprop(ctx Z K ∗ ZB Z c ci ∗ OW c (midOf (zp c) ci ++ l))
      ⊢ iprop(((ZC Z c ci ∗ OW c l) -∗ Q ⟨⟩) -∗ wpc c (mid ci c) Q) := by
  unfold mid mid1 mid2 ZB ZC
  rw [wpc_bind]
  have hz : ∀ z : Fin 4, z = 0 ∨ z = 3 ∨ z = 1 ∨ z = 2 := by decide
  obtain h | h | h | h := hz (zp c)
  · have c1 : ¬ k0_cond5 c = 1#1 := fun e => absurd (h.symm.trans ((cond5_iff c).1 e)) (by decide)
    have c2 : ¬ k0_cond6 c = 1#1 := fun e => absurd (h.symm.trans ((cond6_iff c).1 e)) (by decide)
    simp only [dif_neg c1, dif_neg c2, if_pos h, wpc_pure]
    rw [show midOf (zp c) ci ++ l = l by rw [h]; rfl]
    iintro ⟨#HC, HZ, HO⟩ Hk
    imodintro
    imodintro
    iapply Hk
    iframe
  · have c1 : ¬ k0_cond5 c = 1#1 := fun e => absurd (h.symm.trans ((cond5_iff c).1 e)) (by decide)
    have c2 : ¬ k0_cond6 c = 1#1 := fun e => absurd (h.symm.trans ((cond6_iff c).1 e)) (by decide)
    have h0 : ¬ zp c = 0 := fun e => absurd (h.symm.trans e) (by decide)
    simp only [dif_neg c1, dif_neg c2, if_neg h0, if_pos h, wpc_pure]
    rw [show midOf (zp c) ci ++ l = l by rw [h]; rfl]
    iintro ⟨#HC, HZ, HO⟩ Hk
    imodintro
    imodintro
    iapply Hk
    iframe
  · have c1 : k0_cond5 c = 1#1 := (cond5_iff c).2 h
    have c2 : ¬ k0_cond6 c = 1#1 := fun e => absurd (h.symm.trans ((cond6_iff c).1 e)) (by decide)
    have h0 : ¬ zp c = 0 := fun e => absurd (h.symm.trans e) (by decide)
    have h3 : ¬ zp c = 3 := fun e => absurd (h.symm.trans e) (by decide)
    have hlev := mid_lev1 ci c h
    simp only [dif_pos c1, dif_neg c2, if_neg h0, if_neg h3, wpc_pure, wpc_bind]
    rw [show midOf (zp c) ci ++ l = (0, ci) :: (1, ci) :: l by rw [h]; rfl]
    unfold ZBM ZCM
    iintro ⟨#HC, ⟨Hz, Hs0, Hs1, Hr0, Hr1, H3, H4⟩, HO⟩ Hk
    iapply (fwd_spec Z K ci (0, ci) 0 1 3 _ ((1, ci) :: l) rfl (if_neg h0) rfl rfl rfl (dev9_eq c c1).symm ((act0_iff ci).2 h3) ((actR0_iff ci).2 h0)
      (List.forall_mem_append.2 ⟨hlev.1, fun y hy => (hl y hy).1⟩) rfl (cont_step0 Z ci h0)) $$ [Hz Hs0 Hr0 H3 HO]
    · iframe #; iframe
    iintro ⟨Hz, Hs0, Hv0, H1, H3, HO⟩
    iapply (fwd_spec Z K ci (1, ci) 1 2 4 _ l rfl (if_neg h3) rfl rfl rfl (dev10_eq c c1).symm ((act1_iff ci).2 h0) ((actR1_iff ci).2 h3)
      (List.forall_mem_append (l₁ := [(1, ci)]).2 ⟨hlev.2, fun y hy => (hl y hy).2⟩) rfl (cont_step1 Z ci h3)) $$ [Hz Hs1 Hr1 H4 HO]
    · iframe #; iframe
    iintro ⟨Hz, Hs1, Hv1, H2, H4, HO⟩
    imodintro
    iapply Hk
    rw [show src c (0, ci) = zm c from rfl, show src c (1, ci) = zn c from rfl]
    iframe
  · have c1 : ¬ k0_cond5 c = 1#1 := fun e => absurd (h.symm.trans ((cond5_iff c).1 e)) (by decide)
    have c2 : k0_cond6 c = 1#1 := (cond6_iff c).2 h
    have h0 : ¬ zp c = 0 := fun e => absurd (h.symm.trans e) (by decide)
    have h3 : ¬ zp c = 3 := fun e => absurd (h.symm.trans e) (by decide)
    have hlev := mid_lev2 ci c h
    simp only [dif_neg c1, dif_pos c2, if_neg h0, if_neg h3, wpc_pure, wpc_bind]
    rw [show midOf (zp c) ci ++ l = (1, ci) :: (0, ci) :: l by rw [h]; rfl]
    unfold ZBM ZCM
    iintro ⟨#HC, ⟨Hz, Hs0, Hs1, Hr0, Hr1, H3, H4⟩, HO⟩ Hk
    imodintro
    iapply (fwd_spec Z K ci (1, ci) 1 2 4 _ ((0, ci) :: l) rfl (if_neg h3) rfl rfl rfl (dev11_eq c c2).symm ((act1_iff ci).2 h0) ((actR1_iff ci).2 h3)
      (List.forall_mem_append.2 ⟨hlev.1, fun y hy => (hl y hy).2⟩) rfl (cont_step1 Z ci h3)) $$ [Hz Hs1 Hr1 H4 HO]
    · iframe #; iframe
    iintro ⟨Hz, Hs1, Hv1, H2, H4, HO⟩
    iapply (fwd_spec Z K ci (0, ci) 0 1 3 _ l rfl (if_neg h0) rfl rfl rfl (dev12_eq c c2).symm ((act0_iff ci).2 h3) ((actR0_iff ci).2 h0)
      (List.forall_mem_append (l₁ := [(0, ci)]).2 ⟨hlev.2, fun y hy => (hl y hy).1⟩) rfl (cont_step0 Z ci h0)) $$ [Hz Hs0 Hr0 H3 HO]
    · iframe #; iframe
    iintro ⟨Hz, Hs0, Hv0, H1, H3, HO⟩
    iapply Hk
    rw [show src c (0, ci) = zm c from rfl, show src c (1, ci) = zn c from rfl]
    iframe

end Cert.KernelIdeal.Body

end
-- ==== Proof.PhaseQ.lean ====
/-
The totals of a chunk, their exchange over x and y, and the pieces of the result.
-/
module

public import proofs.«01_k».proof.Proof.PhaseZ

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Z : Dev nD → Fin 4 → V2 F) (K : GSem nD τ sig → ℕ) (c : Dev nD) (ci : Fin 4)

/-! ## The result's pieces -/

/-- The device whose totals make piece `r`, and the quarter of the result that they are. -/
def pdev (r : Fin 4) (c : Dev nD) : Dev nD :=
  match r with
  | 0 => c
  | 1 => yn c
  | 2 => xn c
  | 3 => xn (yn c)
def qd (c : Dev nD) : ℕ := c.val / 4
theorem oOff_row : ∀ (r : Fin 4) (c : Dev nD) (ci : Fin 4), oOff r c ci 0 = 128 * (4 * qd (pdev r c) + ci.val) := by decide +kernel
theorem oOff_col : ∀ (r : Fin 4) (c : Dev nD) (ci : Fin 4), oOff r c ci 1 = 0 := by decide +kernel
theorem qd_pdev_inj : ∀ (c : Dev nD) (r r' : Fin 4), qd (pdev r c) = qd (pdev r' c) → r = r' := by decide

/-- Piece `p.1` of chunk `p.2`: the total, at the wider format. -/
def pval (p : Fin 4 × Fin 4) : FVec F S128x1024 .f32 := extf .f32 (total Z p.2 (pdev p.1 c)) bitsLt_bf16_f32

theorem piece_disjoint (p p' : Fin 4 × Fin 4) (h : p ≠ p') : Disjoint (oR p.1 c p.2).set (oR p'.1 c p'.2).set := by
  refine Rect.unit_disjoint (s := S2048x1024) 0 ?_
  rw [oOff_row, oOff_row]
  show 128 * _ + 128 ≤ 128 * _ ∨ 128 * _ + 128 ≤ 128 * _
  have h1 := p.2.isLt
  have h2 := p'.2.isLt
  by_cases hq : qd (pdev p.1 c) = qd (pdev p'.1 c)
  · have e := qd_pdev_inj c _ _ hq
    have : p.2.val ≠ p'.2.val := fun e' => h (Prod.ext e (Fin.ext e'))
    omega
  · omega

/-- The result's buffer, with the pieces of `S` in place. -/
def outI (S : Finset (Fin 4 × Fin 4)) : sProp 𝕄 :=
  iprop(∃ f : Buf (Elt F) (oB.view.loc (c : Thread nD τ)),
    ⌜∀ p ∈ S, (oB.access (oR p.1 c p.2)).read (Elt F) f = pval Z c p⌝ ∗ oB.view.loc (c : Thread nD τ) ↦[oB.view.set]{fullShare} f)

theorem pay31_flat (a : Vec F S1x1x128x1024 .bf16) : k0_pay31 a = extf .f32 (flat4 a) bitsLt_bf16_f32 := rfl

theorem piece_spec (r : Fin 4) (q : PosShare TreeShare) (X : V2 F) (hX : X = total Z ci (pdev r c)) (S : Finset (Fin 4 × Fin 4)) (Q : PUnit → sProp 𝕄) :
    iprop(own2 c (qs ci r) q X ∗ outI Z c S)
      ⊢ iprop(((own2 c (qs ci r) q X ∗ outI Z c (insert (r, ci) S)) -∗ Q ⟨⟩) -∗ wpc c (piece r ci c) Q) := by
  unfold piece
  simp only [wpc_bind]
  iintro ⟨Hq, HO⟩ Hk
  iapply (wp_loadQ c ci r _ _ _) $$ Hq
  iintro %Y %e Hq
  unfold outI
  icases HO with ⟨%f, %hf, HO⟩
  iapply (wp_load_rect 𝒱₀ (c : Thread nD τ) none Set.univ (m := oB) (r := oR r c ci) (S := oB.view.set) (q := fullShare) (f := f)
    (View.set_slice_subset _ _)) $$ HO
  iintro HO
  rw [wp_ret]; imodintro
  iapply (wp_store 𝒱₀ (c : Thread nD τ) none Set.univ (m := oB) (r := oR r c ci) (Mk := Finset.univ) (S := oB.view.set) (f := f)
    (View.set_slice_subset _ _)) $$ HO
  iintro HO
  rw [wp_ret]; imodintro
  iapply Hk
  iframe Hq
  iexists ((oB.access (oR r c ci)).write (Elt F) f (k0_pay31 Y) Finset.univ)
  isplitr
  · ipureintro
    intro p hp
    by_cases hpp : p = (r, ci)
    · subst hpp
      rw [View.read_write_univ, pay31_flat, e, hX]; rfl
    · rw [View.read_slice_write_slice_of_disjoint]
      · exact hf p ((Finset.mem_insert.1 hp).resolve_left hpp)
      · rw [View.setOn_univ, View.set_slice, View.set_slice]; exact (Finset.disjoint_map _).mpr (piece_disjoint c p (r, ci) hpp)
  iexact HO

/-! ## The totals -/

/-- A chunk's all-reduce after the total is made: the copies of the device's own are still out. -/
def ZE0 : sProp 𝕄 :=
  iprop(own2 c (zs ci 0) fullShare.right (Z c ci) ∗ sentRes c (0, ci) ∗ rest Z c (false, (1, ci)) ∗ rest Z c (true, (0, ci))
    ∗ rest Z c (true, (1, ci)) ∗ any2 c (zs ci 1) ∗ any2 c (zs ci 2) ∗ any2 c (zs ci 3) ∗ any2 c (zs ci 4))
def ZE3 : sProp 𝕄 :=
  iprop(own2 c (zs ci 0) fullShare.right (Z c ci) ∗ sentRes c (1, ci) ∗ rest Z c (false, (0, ci)) ∗ rest Z c (true, (1, ci))
    ∗ rest Z c (true, (0, ci)) ∗ any2 c (zs ci 1) ∗ any2 c (zs ci 2) ∗ any2 c (zs ci 3) ∗ any2 c (zs ci 4))
def ZE : sProp 𝕄 := if zp c = 0 then ZE0 Z c ci else if zp c = 3 then ZE3 Z c ci else ZCM Z c ci

variable {c}

/-- The total at an end of the line. -/
theorem sumE_spec (x : Tr) (dd : Fin 2) (t : Fin 5) (l : List Tr) (hD : dstM x = zs ci t) (hb : rS x = sm cc0_scratch5 ci dd)
    (hr : actR c x = true) (hl : ∀ y ∈ l, lvR c x < lvR (dst c y) y) (q : PosShare TreeShare)
    (hX : total Z ci c = addf (Z c ci) (cont Z (src c x) x)) (Q : PUnit → sProp 𝕄) :
    iprop(ctx Z K ∗ (own2 c (zs ci 0) q (Z c ci) ∗ recvRes c x ∗ any2 c (qs ci 0)) ∗ OW c l)
      ⊢ iprop(((own2 c (zs ci 0) q (Z c ci) ∗ rest Z c (true, x) ∗ any2 c (zs ci t) ∗ own2 c (qs ci 0) fullShare (total Z ci c) ∗ OW c l) -∗ Q ⟨⟩)
          -∗ wpc c (sumE ci dd t) Q) := by
  unfold sumE
  simp only [wpc_bind]
  iintro ⟨#HC, ⟨Hz, Hr, Ha⟩, HO⟩ Hk
  iapply (wp_recvX Z K c x l _ (zs ci t) hD _ hb hr hl _ rfl _ _ rfl _) $$ [Hr HO]
  · iframe #; iframe
  iintro ⟨Hov, Ht, HO⟩
  iapply (wp_loadZ c ci 0 _ _ _) $$ Hz
  iintro %Y0 %e0 Hz
  iapply (wp_loadZ c ci t _ _ _) $$ Ht
  iintro %Y1 %e1 Ht
  iapply (wp_loadQA c ci 0 _) $$ Ha
  iintro %Y2 Ha
  iapply (wp_storeQ c ci 0 _ _) $$ Ha
  iintro Ha
  rw [pay28_flat, e0, e1, ← hX]
  iapply Hk
  ihave Hov := (rest_of_over Z c (true, x)) $$ Hov
  ihave Ht := (any2_of_own c (zs ci t) _) $$ Ht
  iframe

theorem total_0 (h : zp c = 0) : total Z ci c = addf (Z c ci) (cont Z (zn c) (1, ci)) := by
  have e : 3 - (zp (zn c)).val = 2 := by revert c; decide
  unfold total cont; dsimp only; rw [h, e]
theorem total_3 (h : zp c = 3) : total Z ci c = addf (Z c ci) (cont Z (zm c) (0, ci)) := by
  have e : (zp (zm c)).val = 2 := by revert c; decide
  unfold total cont; dsimp only; rw [h, e]
theorem total_M (h : zp c ≠ 0 ∧ zp c ≠ 3) : total Z ci c = addf (addf (Z c ci) (cont Z (zm c) (0, ci))) (cont Z (zn c) (1, ci)) := by
  have e : zp c = 1 ∧ (zp (zm c)).val = 0 ∧ 3 - (zp (zn c)).val = 1 ∨ zp c = 2 ∧ (zp (zm c)).val = 1 ∧ 3 - (zp (zn c)).val = 0 := by
    revert c; decide
  unfold total cont; dsimp only
  obtain ⟨h, e1, e2⟩ | ⟨h, e1, e2⟩ := e <;> rw [h, e1, e2]

theorem tot_spec (l : List Tr) (hl : ∀ y ∈ l, lvR c (0, ci) < lvR (dst c y) y ∧ lvR c (1, ci) < lvR (dst c y) y) (Q : PUnit → sProp 𝕄) :
    iprop(ctx Z K ∗ (ZC Z c ci ∗ any2 c (qs ci 0)) ∗ OW c l)
      ⊢ iprop(((ZE Z c ci ∗ own2 c (qs ci 0) fullShare (total Z ci c) ∗ OW c l) -∗ Q ⟨⟩)
          -∗ wpc c (tot0 ci c) fun _ => wpc c (tot3 ci c) fun _ => wpc c (totM ci c) Q) := by
  unfold tot0 tot3 totM ZC ZE
  obtain h | h | h := place (c := c)
  · have c1 : k0_cond1 c = 1#1 := (cond1_iff c).2 h
    have c2 : ¬ k0_cond2 c = 1#1 := fun e => absurd (h.symm.trans ((cond2_iff c).1 e)) (by decide)
    have c3 : ¬ condMM c = 1#1 := fun e => ((condMM_iff c).1 e).elim (fun e => absurd (h.symm.trans e) (by decide)) (fun e => absurd (h.symm.trans e) (by decide))
    simp only [if_pos c1, if_neg c2, if_neg c3, if_pos h, wpc_pure]
    unfold ZB0 ZE0
    iintro ⟨#HC, ⟨⟨Hz, Hs, Hr1, Hr2, Hrv, H1, H3, H4⟩, Hq⟩, HO⟩ Hk
    iapply (sumE_spec Z K ci (1, ci) 1 2 l rfl rfl ((actR1_iff ci).2 (by rw [h]; decide)) (fun y hy => (hl y hy).2) _ (total_0 Z ci h)) $$ [Hz Hrv Hq HO]
    · iframe #; iframe
    iintro ⟨Hz, Hov, H2, Hq, HO⟩
    imodintro; imodintro
    iapply Hk
    iframe
  · have c1 : ¬ k0_cond1 c = 1#1 := fun e => absurd (h.symm.trans ((cond1_iff c).1 e)) (by decide)
    have c2 : k0_cond2 c = 1#1 := (cond2_iff c).2 h
    have c3 : ¬ condMM c = 1#1 := fun e => ((condMM_iff c).1 e).elim (fun e => absurd (h.symm.trans e) (by decide)) (fun e => absurd (h.symm.trans e) (by decide))
    have h0 : ¬ zp c = 0 := fun e => absurd (h.symm.trans e) (by decide)
    simp only [if_neg c1, if_pos c2, if_neg c3, if_neg h0, if_pos h, wpc_pure]
    unfold ZB3 ZE3
    iintro ⟨#HC, ⟨⟨Hz, Hs, Hr1, Hr2, Hrv, H2, H3, H4⟩, Hq⟩, HO⟩ Hk
    imodintro
    iapply (sumE_spec Z K ci (0, ci) 0 1 l rfl rfl ((actR0_iff ci).2 h0) (fun y hy => (hl y hy).1) _ (total_3 Z ci h)) $$ [Hz Hrv Hq HO]
    · iframe #; iframe
    iintro ⟨Hz, Hov, H1, Hq, HO⟩
    imodintro
    iapply Hk
    iframe
  · have c1 : ¬ k0_cond1 c = 1#1 := fun e => h.1 ((cond1_iff c).1 e)
    have c2 : ¬ k0_cond2 c = 1#1 := fun e => h.2 ((cond2_iff c).1 e)
    have c3 : condMM c = 1#1 := (condMM_iff c).2 (by revert h; generalize zp c = z; revert z; decide)
    simp only [if_neg c1, if_neg c2, if_pos c3, if_neg h.1, if_neg h.2, wpc_pure]
    unfold ZCM sumM
    simp only [wpc_bind]
    iintro ⟨#HC, ⟨⟨Hz, Hs0, Hs1, Hv0, Hv1, H1, H2, H3, H4⟩, Hq⟩, HO⟩ Hk
    imodintro; imodintro
    iapply (wp_loadZ c ci 0 _ _ _) $$ Hz
    iintro %Y0 %e0 Hz
    iapply (wp_loadZ c ci 1 _ _ _) $$ H1
    iintro %Y1 %e1 H1
    iapply (wp_loadZ c ci 2 _ _ _) $$ H2
    iintro %Y2 %e2 H2
    iapply (wp_loadQA c ci 0 _) $$ Hq
    iintro %Y3 Hq
    iapply (wp_storeQ c ci 0 _ _) $$ Hq
    iintro Hq
    rw [pay30_flat, e0, e1, e2, ← total_M Z ci h]
    iapply Hk
    iframe

/-! ## The device's own copies along z have ended -/

theorem drain_spec (l : List Tr) (Q : PUnit → sProp 𝕄) :
    iprop(ctx Z K ∗ ZE Z c ci ∗ OW c l)
      ⊢ iprop(((ZD Z c ci ∗ OW c l) -∗ Q ⟨⟩)
          -∗ wpc c (drain0 ci c) fun _ => wpc c (drainM ci c) fun _ => wpc c (drain3 ci c) Q) := by
  unfold drain0 drainM drain3 ZE ZD
  obtain h | h | h := place (c := c)
  · have c1 : k0_cond1 c = 1#1 := (cond1_iff c).2 h
    have c2 : ¬ k0_cond2 c = 1#1 := fun e => absurd (h.symm.trans ((cond2_iff c).1 e)) (by decide)
    have c3 : ¬ condMM c = 1#1 := fun e => ((condMM_iff c).1 e).elim (fun e => absurd (h.symm.trans e) (by decide)) (fun e => absurd (h.symm.trans e) (by decide))
    simp only [if_pos c1, if_neg c2, if_neg c3, if_pos h, wpc_pure]
    unfold ZE0
    iintro ⟨#HC, ⟨Hz, Hs, Hr1, Hr2, Hr3, H1, H2, H3, H4⟩, HO⟩ Hk
    iapply (wp_sentX Z K c (0, ci) l _ (zs ci 0) _ rfl ((act0_iff ci).2 (by rw [h]; decide)) (zs ci 0) (if_pos h) fullShare.left rfl _ rfl _ _ rfl _) $$ [Hs HO]
    · iframe #; iframe
    iintro ⟨Hov, Hz', HO⟩
    imodintro; imodintro
    iapply Hk
    ihave Hov := (rest_of_over Z c (false, (0, ci))) $$ Hov
    ihave Hz := (own2_join c (zs ci 0) _ _) $$ [Hz' Hz]
    · iframe
    ihave Hz := (any2_of_own c (zs ci 0) _) $$ Hz
    iframe
  · have c1 : ¬ k0_cond1 c = 1#1 := fun e => absurd (h.symm.trans ((cond1_iff c).1 e)) (by decide)
    have c2 : k0_cond2 c = 1#1 := (cond2_iff c).2 h
    have c3 : ¬ condMM c = 1#1 := fun e => ((condMM_iff c).1 e).elim (fun e => absurd (h.symm.trans e) (by decide)) (fun e => absurd (h.symm.trans e) (by decide))
    have h0 : ¬ zp c = 0 := fun e => absurd (h.symm.trans e) (by decide)
    simp only [if_neg c1, if_pos c2, if_neg c3, if_neg h0, if_pos h, wpc_pure]
    unfold ZE3
    iintro ⟨#HC, ⟨Hz, Hs, Hr1, Hr2, Hr3, H1, H2, H3, H4⟩, HO⟩ Hk
    imodintro; imodintro
    iapply (wp_sentX Z K c (1, ci) l _ (zs ci 0) _ rfl ((act1_iff ci).2 h0) (zs ci 0) (if_pos h) fullShare.left rfl _ rfl _ _ rfl _) $$ [Hs HO]
    · iframe #; iframe
    iintro ⟨Hov, Hz', HO⟩
    iapply Hk
    ihave Hov := (rest_of_over Z c (false, (1, ci))) $$ Hov
    ihave Hz := (own2_join c (zs ci 0) _ _) $$ [Hz' Hz]
    · iframe
    ihave Hz := (any2_of_own c (zs ci 0) _) $$ Hz
    iframe
  · have c1 : ¬ k0_cond1 c = 1#1 := fun e => h.1 ((cond1_iff c).1 e)
    have c2 : ¬ k0_cond2 c = 1#1 := fun e => h.2 ((cond2_iff c).1 e)
    have c3 : condMM c = 1#1 := (condMM_iff c).2 (by revert h; generalize zp c = z; revert z; decide)
    simp only [if_neg c1, if_neg c2, if_pos c3, if_neg h.1, if_neg h.2, wpc_pure, wpc_bind]
    unfold ZCM
    iintro ⟨#HC, ⟨Hz, Hs0, Hs1, Hv0, Hv1, H1, H2, H3, H4⟩, HO⟩ Hk
    imodintro
    iapply (wp_sentX Z K c (0, ci) l _ (zs ci 3) _ rfl ((act0_iff ci).2 h.2) (zs ci 3) (if_neg h.1) fullShare.left rfl _ rfl _ _ rfl _) $$ [Hs0 HO]
    · iframe #; iframe
    iintro ⟨Hov0, H3', HO⟩
    iapply (wp_sentX Z K c (1, ci) l _ (zs ci 4) _ rfl ((act1_iff ci).2 h.1) (zs ci 4) (if_neg h.2) fullShare.left rfl _ rfl _ _ rfl _) $$ [Hs1 HO]
    · iframe #; iframe
    iintro ⟨Hov1, H4', HO⟩
    imodintro
    iapply Hk
    ihave Hov0 := (rest_of_over Z c (false, (0, ci))) $$ Hov0
    ihave Hov1 := (rest_of_over Z c (false, (1, ci))) $$ Hov1
    ihave H3 := (own2_join c (zs ci 3) _ _) $$ [H3' H3]
    · iframe
    ihave H4 := (own2_join c (zs ci 4) _ _) $$ [H4' H4]
    · iframe
    ihave H0 := (any2_of_own c (zs ci 0) _) $$ Hz
    ihave H1 := (any2_of_own c (zs ci 1) _) $$ H1
    ihave H2 := (any2_of_own c (zs ci 2) _) $$ H2
    ihave H3 := (any2_of_own c (zs ci 3) _) $$ H3
    ihave H4 := (any2_of_own c (zs ci 4) _) $$ H4
    iframe

end Cert.KernelIdeal.Body

end
-- ==== Proof.PhaseX.lean ====
/-
The exchange of a chunk over x and y: its start, the diagonal forwarding, its end.
-/
module

public import proofs.«01_k».proof.Proof.PhaseQ

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Z : Dev nD → Fin 4 → V2 F) (K : GSem nD τ sig → ℕ) (c : Dev nD) (ci : Fin 4)

/-- The exchange of a chunk still to come, but for slot 0 of the quarter buffer; -/
def QR : sProp 𝕄 :=
  iprop(sendRes c (2, ci) ∗ sendRes c (3, ci) ∗ sendRes c (4, ci) ∗ recvRes c (2, ci) ∗ recvRes c (3, ci) ∗ recvRes c (4, ci))
/-- the total sent to both neighbours; -/
def QB : sProp 𝕄 :=
  iprop(sentRes c (2, ci) ∗ sentRes c (3, ci) ∗ sendRes c (4, ci) ∗ recvRes c (2, ci) ∗ recvRes c (3, ci) ∗ recvRes c (4, ci))
/-- one neighbour's total sent on to the other (an even and an odd chunk); -/
def QCE : sProp 𝕄 :=
  iprop(sentRes c (2, ci) ∗ sentRes c (3, ci) ∗ sentRes c (4, ci) ∗ rest Z c (true, (2, ci)) ∗ recvRes c (3, ci) ∗ recvRes c (4, ci)
    ∗ own2 c (qs ci 1) fullShare.right (total Z ci (yn c)))
def QCO : sProp 𝕄 :=
  iprop(sentRes c (2, ci) ∗ sentRes c (3, ci) ∗ sentRes c (4, ci) ∗ recvRes c (2, ci) ∗ rest Z c (true, (3, ci)) ∗ recvRes c (4, ci)
    ∗ own2 c (qs ci 2) fullShare.right (total Z ci (xn c)))
/-- all is over. -/
def QD : sProp 𝕄 :=
  iprop(any2 c (qs ci 0) ∗ any2 c (qs ci 1) ∗ any2 c (qs ci 2) ∗ any2 c (qs ci 3)
    ∗ rest Z c (false, (2, ci)) ∗ rest Z c (false, (3, ci)) ∗ rest Z c (false, (4, ci))
    ∗ rest Z c (true, (2, ci)) ∗ rest Z c (true, (3, ci)) ∗ rest Z c (true, (4, ci)))

theorem start_lev : ∀ (ci : Fin 4) (c : Dev nD), ∀ y ∈ startOf ci, lvR c (0, ci) < lvR (dst c y) y ∧ lvR c (1, ci) < lvR (dst c y) y := by
  decide

theorem start_spec (S : Finset (Fin 4 × Fin 4)) (l : List Tr) (Q : PUnit → sProp 𝕄) (hl : ∀ y ∈ l, lvR c (0, ci) < lvR (dst c y) y ∧ lvR c (1, ci) < lvR (dst c y) y) :
    iprop(ctx Z K ∗ (ZC Z c ci ∗ any2 c (qs ci 0) ∗ QR c ci ∗ outI Z c S) ∗ OW c (startOf ci ++ l))
      ⊢ iprop(((ZD Z c ci ∗ QB c ci ∗ outI Z c (insert (0, ci) S) ∗ OW c l) -∗ Q ⟨⟩) -∗ wpc c (start ci c) Q) := by
  unfold start QR QB
  simp only [wpc_bind]
  iintro ⟨#HC, ⟨HZ, Hq, ⟨Hs2, Hs3, Hs4, Hr2, Hr3, Hr4⟩, HF⟩, HO⟩ Hk
  iapply (tot_spec Z K ci (startOf ci ++ l) (List.forall_mem_append.2 ⟨start_lev ci c, hl⟩) _) $$ [HZ Hq HO]
  · iframe #; iframe
  iintro ⟨HZ, Hq, HO⟩
  iapply (piece_spec Z c ci 0 fullShare (total Z ci c) rfl S _) $$ [Hq HF]
  · iframe
  iintro ⟨Hq, HF⟩
  ihave Hq := (own2_split c (qs ci 0) _) $$ Hq
  icases Hq with ⟨Hq, Hq'⟩
  iapply (wp_sendX Z K c (2, ci) ((3, ci) :: l) (qs ci 0) (qs ci 1) rfl rfl _ _ rfl rfl _ (py_eq c).symm rfl fullShare.left rfl (total Z ci c) rfl _ _ _ _)
    $$ [Hs2 Hq HO]
  · iframe #; iframe Hs2; iframe Hq; iexact HO
  iintro ⟨Hs2, HO⟩
  iapply (wp_sendX Z K c (3, ci) l (qs ci 0) (qs ci 2) rfl rfl _ _ rfl rfl _ (px_eq c).symm rfl fullShare.right rfl (total Z ci c) rfl _ _ _ _)
    $$ [Hs3 Hq' HO]
  · iframe #; iframe
  iintro ⟨Hs3, HO⟩
  iapply (drain_spec Z K ci l _) $$ [HZ HO]
  · iframe #; iframe
  iintro ⟨HZ, HO⟩
  iapply Hk
  iframe

theorem diagE_spec (S : Finset (Fin 4 × Fin 4)) (l : List Tr) (Q : PUnit → sProp 𝕄) (ho : odd ci = false) (hl : ∀ y ∈ (4, ci) :: l, lvR c (2, ci) < lvR (dst c y) y) :
    iprop(ctx Z K ∗ (QB c ci ∗ outI Z c S) ∗ OW c (diagOf ci ++ l))
      ⊢ iprop(((QCE Z c ci ∗ outI Z c (insert (1, ci) S) ∗ OW c l) -∗ Q ⟨⟩) -∗ wpc c (diagE ci c) Q) := by
  have hn : ¬ odd ci = true := by rw [ho]; decide
  unfold diagE QB QCE
  simp only [wpc_bind]
  iintro ⟨#HC, ⟨⟨Hs2, Hs3, Hs4, Hr2, Hr3, Hr4⟩, HF⟩, HO⟩ Hk
  iapply (wp_recvX Z K c (2, ci) ((4, ci) :: l) _ (qs ci 1) rfl _ rfl rfl hl (total Z ci (yn c)) rfl _ _ rfl _) $$ [Hr2 HO]
  · iframe #; iframe Hr2; iexact HO
  iintro ⟨Hv2, Hq, HO⟩
  ihave Hq := (own2_split c (qs ci 1) _) $$ Hq
  icases Hq with ⟨Hq, Hq'⟩
  iapply (wp_sendX Z K c (4, ci) l (qs ci 1) (qs ci 3) (if_neg hn) rfl _ _ (if_neg hn) (if_neg hn) _ ((if_neg hn).trans (px_eq c).symm) rfl fullShare.left rfl
    (total Z ci (yn c)) (if_neg hn) _ _ _ _) $$ [Hs4 Hq HO]
  · iframe #; iframe
  iintro ⟨Hs4, HO⟩
  iapply (piece_spec Z c ci 1 fullShare.right (total Z ci (yn c)) rfl S _) $$ [Hq' HF]
  · iframe
  iintro ⟨Hq', HF⟩
  iapply Hk
  ihave Hv2 := (rest_of_over Z c (true, (2, ci))) $$ Hv2
  iframe

theorem diagO_spec (S : Finset (Fin 4 × Fin 4)) (l : List Tr) (Q : PUnit → sProp 𝕄) (ho : odd ci = true) (hl : ∀ y ∈ (4, ci) :: l, lvR c (3, ci) < lvR (dst c y) y) :
    iprop(ctx Z K ∗ (QB c ci ∗ outI Z c S) ∗ OW c (diagOf ci ++ l))
      ⊢ iprop(((QCO Z c ci ∗ outI Z c (insert (2, ci) S) ∗ OW c l) -∗ Q ⟨⟩) -∗ wpc c (diagO ci c) Q) := by
  unfold diagO QB QCO
  simp only [wpc_bind]
  iintro ⟨#HC, ⟨⟨Hs2, Hs3, Hs4, Hr2, Hr3, Hr4⟩, HF⟩, HO⟩ Hk
  iapply (wp_recvX Z K c (3, ci) ((4, ci) :: l) _ (qs ci 2) rfl _ rfl rfl hl (total Z ci (xn c)) rfl _ _ rfl _) $$ [Hr3 HO]
  · iframe #; iframe Hr3; iexact HO
  iintro ⟨Hv3, Hq, HO⟩
  ihave Hq := (own2_split c (qs ci 2) _) $$ Hq
  icases Hq with ⟨Hq, Hq'⟩
  iapply (wp_sendX Z K c (4, ci) l (qs ci 2) (qs ci 3) (if_pos ho) rfl _ _ (if_pos ho) (if_pos ho) _ ((if_pos ho).trans (py_eq c).symm) rfl fullShare.left rfl
    (total Z ci (xn c)) (if_pos ho) _ _ _ _) $$ [Hs4 Hq HO]
  · iframe #; iframe
  iintro ⟨Hs4, HO⟩
  iapply (piece_spec Z c ci 2 fullShare.right (total Z ci (xn c)) rfl S _) $$ [Hq' HF]
  · iframe
  iintro ⟨Hq', HF⟩
  iapply Hk
  ihave Hv3 := (rest_of_over Z c (true, (3, ci))) $$ Hv3
  iframe

theorem finE_spec (S : Finset (Fin 4 × Fin 4)) (Q : PUnit → sProp 𝕄) (ho : odd ci = false) :
    iprop(ctx Z K ∗ (QCE Z c ci ∗ outI Z c S) ∗ OW c [])
      ⊢ iprop(((QD Z c ci ∗ outI Z c (insert (3, ci) (insert (2, ci) S)) ∗ OW c []) -∗ Q ⟨⟩) -∗ wpc c (finE ci c) Q) := by
  have hn : ¬ odd ci = true := by rw [ho]; decide
  unfold finE QCE QD
  simp only [wpc_bind]
  iintro ⟨#HC, ⟨⟨Hs2, Hs3, Hs4, Hv2, Hr3, Hr4, Hq1⟩, HF⟩, HO⟩ Hk
  iapply (wp_recvX Z K c (3, ci) [] _ (qs ci 2) rfl _ rfl rfl (fun y hy => absurd hy List.not_mem_nil) (total Z ci (xn c)) rfl _ _ rfl _) $$ [Hr3 HO]
  · iframe #; iframe
  iintro ⟨Hv3, Hq2, HO⟩
  iapply (piece_spec Z c ci 2 fullShare (total Z ci (xn c)) rfl S _) $$ [Hq2 HF]
  · iframe
  iintro ⟨Hq2, HF⟩
  iapply (wp_recvX Z K c (4, ci) [] _ (qs ci 3) rfl _ (if_neg hn) rfl (fun y hy => absurd hy List.not_mem_nil) (total Z ci (yn (xn c)))
    (by rw [show src c (4, ci) = xn c from if_neg hn]; exact if_neg hn) _ _ rfl _) $$ [Hr4 HO]
  · iframe #; iframe
  iintro ⟨Hv4, Hq3, HO⟩
  iapply (piece_spec Z c ci 3 fullShare (total Z ci (yn (xn c))) (congrArg (total Z ci) (xn_yn c).symm) _ _) $$ [Hq3 HF]
  · iframe
  iintro ⟨Hq3, HF⟩
  iapply (wp_sentX Z K c (2, ci) [] _ (qs ci 0) _ rfl rfl (qs ci 0) rfl fullShare.left rfl (total Z ci c) rfl _ _ rfl _) $$ [Hs2 HO]
  · iframe #; iframe
  iintro ⟨Hw2, Hq0, HO⟩
  iapply (wp_sentX Z K c (3, ci) [] _ (qs ci 0) _ rfl rfl (qs ci 0) rfl fullShare.right rfl (total Z ci c) rfl _ _ rfl _) $$ [Hs3 HO]
  · iframe #; iframe
  iintro ⟨Hw3, Hq0', HO⟩
  iapply (wp_sentX Z K c (4, ci) [] _ (qs ci 1) _ (if_neg hn) rfl (qs ci 1) (if_neg hn) fullShare.left rfl (total Z ci (yn c)) (if_neg hn) _ _ rfl _) $$ [Hs4 HO]
  · iframe #; iframe
  iintro ⟨Hw4, Hq1', HO⟩
  iapply Hk
  ihave Hv3 := (rest_of_over Z c (true, (3, ci))) $$ Hv3
  ihave Hv4 := (rest_of_over Z c (true, (4, ci))) $$ Hv4
  ihave Hw2 := (rest_of_over Z c (false, (2, ci))) $$ Hw2
  ihave Hw3 := (rest_of_over Z c (false, (3, ci))) $$ Hw3
  ihave Hw4 := (rest_of_over Z c (false, (4, ci))) $$ Hw4
  ihave Hq0 := (own2_join c (qs ci 0) _ _) $$ [Hq0 Hq0']
  · iframe
  ihave Hq1 := (own2_join c (qs ci 1) _ _) $$ [Hq1' Hq1]
  · iframe
  ihave Hq0 := (any2_of_own c (qs ci 0) _) $$ Hq0
  ihave Hq1 := (any2_of_own c (qs ci 1) _) $$ Hq1
  ihave Hq2 := (any2_of_own c (qs ci 2) _) $$ Hq2
  ihave Hq3 := (any2_of_own c (qs ci 3) _) $$ Hq3
  iframe

theorem finO_spec (S : Finset (Fin 4 × Fin 4)) (Q : PUnit → sProp 𝕄) (ho : odd ci = true) :
    iprop(ctx Z K ∗ (QCO Z c ci ∗ outI Z c S) ∗ OW c [])
      ⊢ iprop(((QD Z c ci ∗ outI Z c (insert (3, ci) (insert (1, ci) S)) ∗ OW c []) -∗ Q ⟨⟩) -∗ wpc c (finO ci c) Q) := by
  unfold finO QCO QD
  simp only [wpc_bind]
  iintro ⟨#HC, ⟨⟨Hs2, Hs3, Hs4, Hr2, Hv3, Hr4, Hq2⟩, HF⟩, HO⟩ Hk
  iapply (wp_recvX Z K c (2, ci) [] _ (qs ci 1) rfl _ rfl rfl (fun y hy => absurd hy List.not_mem_nil) (total Z ci (yn c)) rfl _ _ rfl _) $$ [Hr2 HO]
  · iframe #; iframe
  iintro ⟨Hv2, Hq1, HO⟩
  iapply (piece_spec Z c ci 1 fullShare (total Z ci (yn c)) rfl S _) $$ [Hq1 HF]
  · iframe
  iintro ⟨Hq1, HF⟩
  iapply (wp_recvX Z K c (4, ci) [] _ (qs ci 3) rfl _ (if_pos ho) rfl (fun y hy => absurd hy List.not_mem_nil) (total Z ci (xn (yn c)))
    (by rw [show src c (4, ci) = yn c from if_pos ho]; exact if_pos ho) _ _ rfl _) $$ [Hr4 HO]
  · iframe #; iframe
  iintro ⟨Hv4, Hq3, HO⟩
  iapply (piece_spec Z c ci 3 fullShare (total Z ci (xn (yn c))) rfl _ _) $$ [Hq3 HF]
  · iframe
  iintro ⟨Hq3, HF⟩
  iapply (wp_sentX Z K c (2, ci) [] _ (qs ci 0) _ rfl rfl (qs ci 0) rfl fullShare.left rfl (total Z ci c) rfl _ _ rfl _) $$ [Hs2 HO]
  · iframe #; iframe
  iintro ⟨Hw2, Hq0, HO⟩
  iapply (wp_sentX Z K c (3, ci) [] _ (qs ci 0) _ rfl rfl (qs ci 0) rfl fullShare.right rfl (total Z ci c) rfl _ _ rfl _) $$ [Hs3 HO]
  · iframe #; iframe
  iintro ⟨Hw3, Hq0', HO⟩
  iapply (wp_sentX Z K c (4, ci) [] _ (qs ci 2) _ (if_pos ho) rfl (qs ci 2) (if_pos ho) fullShare.left rfl (total Z ci (xn c)) (if_pos ho) _ _ rfl _) $$ [Hs4 HO]
  · iframe #; iframe
  iintro ⟨Hw4, Hq2', HO⟩
  iapply Hk
  ihave Hv2 := (rest_of_over Z c (true, (2, ci))) $$ Hv2
  ihave Hv4 := (rest_of_over Z c (true, (4, ci))) $$ Hv4
  ihave Hw2 := (rest_of_over Z c (false, (2, ci))) $$ Hw2
  ihave Hw3 := (rest_of_over Z c (false, (3, ci))) $$ Hw3
  ihave Hw4 := (rest_of_over Z c (false, (4, ci))) $$ Hw4
  ihave Hq0 := (own2_join c (qs ci 0) _ _) $$ [Hq0 Hq0']
  · iframe
  ihave Hq2 := (own2_join c (qs ci 2) _ _) $$ [Hq2' Hq2]
  · iframe
  ihave Hq0 := (any2_of_own c (qs ci 0) _) $$ Hq0
  ihave Hq1 := (any2_of_own c (qs ci 1) _) $$ Hq1
  ihave Hq2 := (any2_of_own c (qs ci 2) _) $$ Hq2
  ihave Hq3 := (any2_of_own c (qs ci 3) _) $$ Hq3
  iframe

end Cert.KernelIdeal.Body

end
-- ==== Proof.Bar.lean ====
/-
The barrier: the four signals, the wait, and what each device holds after it.
-/
module

public import proofs.«01_k».proof.Proof.PhaseX

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Z : Dev nD → Fin 4 → V2 F) (K : GSem nD τ sig → ℕ) (c : Dev nD)

theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- Two facts about iterated conjunctions, in the form in which they are used here. -/
theorem big_filter {I : Type} (s : Finset I) (p : I → Prop) [DecidablePred p] (Φ : I → sProp 𝕄) :
    bigSep (s.filter p) Φ = bigSep s fun i => if p i then Φ i else iprop(emp) := bigSep_filter s p Φ
theorem big_emp {I : Type} (s : Finset I) : bigSep s (fun _ : I => (iprop(emp) : sProp 𝕄)) = iprop(emp) := bigSep_emp_const s
theorem big_mono {I : Type} (s : Finset I) {Φ Ψ : I → sProp 𝕄} (h : ∀ i, Φ i ⊢ Ψ i) : bigSep s Φ ⊢ bigSep s Ψ :=
  bigSep_mono fun i _ => h i

/-! ## Signals -/

/-- What device `c` needs to pay unit `j` of its neighbour's barrier cell. -/
def sigRes (j : Fin 4) : sProp 𝕄 :=
  iprop(dutyTok ER (bC (barTo c j)) 0 j ∗ reached ER (bC (barTo c j)) 0 ∗ barPay (barTo c j) j)
/-- What it owes, as a tally. -/
def OWt (O : CellTallies nD τ sig Unit) : sProp 𝕄 := iprop(∃ W, owes (c : Thread nD τ) O W)

theorem wp_sig (j : Fin 4) (n : Dev nD) (hn : n = barTo c j) (O : CellTallies nD τ sig Unit) (Q : PUnit → sProp 𝕄) :
    iprop(ctx Z K ∗ sigRes c j ∗ OWt c (O + tallyAt (bC (barTo c j)) () 1))
      ⊢ iprop((OWt c O -∗ Q ⟨⟩) -∗ wpc c (semSignalWord n barrier0 1#32) Q) := by
  subst hn
  unfold ctx sigRes OWt semSignalWord
  iintro ⟨⟨#HR, -⟩, ⟨Ht, Hr, Hp⟩, ⟨%W, HO⟩⟩ Hk
  iapply (Rounds.wp_signal 𝒱₀ ER (Rd Z) (c : Thread nD τ) none (dst := ((barTo c j : Dev nD) : Thread nD τ)) (sem := barrier0) (r := 0) (d := j) (k' := 1)
    (κ := K (bC (barTo c j))) (by rw [duties_bar]; exact Finset.mem_univ _) (amount_bar Z _ j) () O rfl (W := W)) $$ [HO Ht Hr Hp]
  · isplitr; · iapply (recs_bar Z K (barTo c j)); iexact HR
    iframe HO Ht Hr
    rw [payload_bar Z (barTo c j) j]
    iexact Hp
  iintro HO
  rw [wp_ret]; imodintro
  iapply Hk
  iexists W; iexact HO

theorem signals_spec (Q : PUnit → sProp 𝕄) :
    iprop(ctx Z K ∗ bigSep Finset.univ (sigRes c) ∗ OWt c (O₀ c))
      ⊢ iprop((OW c (sends (zp c)) -∗ Q ⟨⟩) -∗ wpc c (signals c) Q) := by
  unfold signals
  simp only [wpc_bind]
  rw [fin4]
  unfold O₀
  iintro ⟨#HC, ⟨H0, H1, H2, H3⟩, HO⟩ Hk
  iapply (wp_sig Z K c 0 _ (sig1 c) _ _) $$ [H0 HO]
  · iframe #; iframe
  iintro HO
  iapply (wp_sig Z K c 1 _ (sig2 c) _ _) $$ [H1 HO]
  · iframe #; iframe
  iintro HO
  iapply (wp_sig Z K c 3 _ (sig3 c) _ _) $$ [H3 HO]
  · iframe #; iframe
  iintro HO
  iapply (wp_sig Z K c 2 _ (sig4 c) _ _) $$ [H2 HO]
  · iframe #; iframe
  iintro HO
  iapply Hk
  unfold OW OWt
  iexact HO

/-! ## The wait -/

/-- What is waited for at the barrier. -/
def barRes : sProp 𝕄 := iprop(cred (tallyAt (bC c) () 4) ∗ atPos ER (bC c) 0 ∅ 0)
def barOver : sProp 𝕄 := atPos ER (bC c) 1 ∅ 0

theorem bar_low : ∀ (c : Dev nD), ∀ y ∈ sends (zp c), 1 < lvR (dst c y) y := by decide
theorem lvS_bar : lvS c (.reg barrier0) = 1 := by unfold lvS; dsimp only; rw [if_pos rfl]

theorem bar_spec (Q : PUnit → sProp 𝕄) :
    iprop(ctx Z K ∗ barRes c ∗ OW c (sends (zp c)))
      ⊢ iprop(((barOver c ∗ bigSep Finset.univ (fun j => barPay c j) ∗ OW c (sends (zp c))) -∗ Q ⟨⟩)
        -∗ wpc c (semWaitWord barrier0 4#32) Q) := by
  unfold ctx barRes barOver OW semWaitWord
  iintro ⟨⟨#HR, #Hlev⟩, ⟨Hc, Hat⟩, ⟨%W, HO⟩⟩ Hk
  iapply (Rounds.wp_wait_rest_token 𝒱₀ ER (Rd Z) (c : Thread nD τ) none (κ := K (bC c)) (sm := .reg barrier0) (k' := 4)
      (wpE_semWait_eq 𝒱₀ (c : Thread nD τ) none Set.univ) (Set.mem_univ _) () (O := owedL c (sends (zp c))) (W := W) (R := 0) (m := 0) (T := ∅)
      (by rw [Nat.zero_add]; exact (expect_bar Z c).symm)) $$ [Hc HO Hat]
  · isplitr; · iapply (recs_bar Z K c); iexact HR
    isplitl [Hc]; · iexact Hc
    isplitl [HO]; · iexact HO
    isplitr; · iapply (mayWait_owedL c (.reg barrier0) (sends (zp c)) (by rw [lvS_bar]; exact bar_low c)); iexact Hlev
    iexact Hat
  iintro ⟨HO, Hat, -, Hpay⟩
  ihave Hp := (Entails.of_eq (rest_bar Z c)) $$ Hpay
  rw [wp_ret]; imodintro
  iapply Hk
  iframe Hat Hp
  iexists (insert (SemLoc.reg barrier0, ()) W); iexact HO

/-! ## Which slots go where -/

/-- The slots that `c` opens by its four units are those it receives in. -/
theorem barPay_to (j : Fin 4) :
    barPay (F := F) (barTo c j) j = bigSep Finset.univ fun x : Tr => if actR c x = true ∧ cls x = j then slotOf c x else iprop(emp) := by
  unfold barPay
  rw [big_filter]
  refine bigSep_congr fun x _ => ?_
  by_cases h : cls x = j
  · subst h
    have h1 : act (barTo c (cls x)) x = actR c x := by rw [← src_cls, act_src]
    have h2 : dst (barTo c (cls x)) x = c := by rw [← src_cls, dst_src]
    rw [h1, h2]
  · rw [if_neg (fun e => h e.2), if_neg (fun e => h e.2)]

theorem by_cls (p : Tr → Prop) [DecidablePred p] (Φ : Tr → sProp 𝕄) :
    bigSep Finset.univ (fun j : Fin 4 => bigSep Finset.univ fun x : Tr => if p x ∧ cls x = j then Φ x else iprop(emp))
      = bigSep Finset.univ fun x : Tr => if p x then Φ x else iprop(emp) := by
  rw [bigSep_univ_comm]
  refine bigSep_congr fun x _ => ?_
  by_cases h : p x
  · rw [if_pos h]
    refine Eq.trans ?_ (bigSep_singleton (Φ := fun _ : Fin 4 => Φ x) (i := cls x))
    rw [show ({cls x} : Finset (Fin 4)) = Finset.univ.filter (fun j => cls x = j) by ext j; simp [eq_comm], big_filter]
    refine bigSep_congr fun j _ => ?_
    by_cases e : cls x = j
    · rw [if_pos ⟨h, e⟩, if_pos e]
    · rw [if_neg (fun a => e a.2), if_neg e]
  · rw [if_neg h]
    refine Eq.trans ?_ (big_emp (Finset.univ : Finset (Fin 4)))
    exact bigSep_congr fun j _ => if_neg fun a : p x ∧ cls x = j => h a.1

/-- All the slots of `c` that something may land in, dealt: to the senders, and what is kept. -/
theorem slots_deal :
    iprop(bigSep Finset.univ (fun x : Tr => any2 (F := F) c (dstM x)) ∗ bigSep Finset.univ (fun x : Tr => (reached ER (rC c x) 0 : sProp 𝕄)))
      ⊢ iprop(bigSep Finset.univ (fun j : Fin 4 => barPay (F := F) (barTo c j) j) ∗ bigSep Finset.univ (fun x : Tr => keep (F := F) c x)) := by
  rw [bigSep_congr fun j _ => barPay_to c j, by_cls (fun x => actR c x = true), ← bigSep_sep', ← bigSep_sep']
  refine big_mono _ fun x => ?_
  unfold keep slotOf
  by_cases h : actR c x = true
  · rw [if_pos h, if_pos h]
    iintro ⟨H, Hr⟩
    iframe
  · rw [if_neg h, if_neg h]
    iintro ⟨H, Hr⟩
    iframe

/-- What `c` gets at the barrier are the slots it sends into. -/
theorem barPay_all :
    bigSep Finset.univ (fun j : Fin 4 => barPay (F := F) c j)
      = bigSep Finset.univ fun x : Tr => if act c x = true then slotOf (dst c x) x else iprop(emp) := by
  rw [← by_cls (fun x => act c x = true) (fun x => slotOf (dst c x) x)]
  refine bigSep_congr fun j _ => ?_
  unfold barPay
  rw [big_filter]

/-- A device's tokens and its place on a send cell. -/
def sendTok (x : Tr) : sProp 𝕄 :=
  iprop(dutyTok ER (sC c x) 0 0 ∗ dutyTok ER (rC (dst c x) x) 0 0 ∗ reached ER (sC c x) 0 ∗ atPos ER (sC c x) 0 ∅ 0)

theorem none_send (x : Tr) (h : act c x = false) : ∀ r, 0 ≤ r → (Rd Z).duties (cC c (false, x)) r = ∅ := fun r _ => by
  rcases Nat.eq_zero_or_pos r with rfl | hr
  · exact duties_send0 Z c x h
  · exact duties_later Z _ r hr
theorem none_recv (x : Tr) (h : actR c x = false) : ∀ r, 0 ≤ r → (Rd Z).duties (cC c (true, x)) r = ∅ := fun r _ => by
  rcases Nat.eq_zero_or_pos r with rfl | hr
  · exact duties_recv0 Z c x h
  · exact duties_later Z _ r hr

theorem sends_ready :
    iprop(bigSep Finset.univ (sendTok (F := F) c) ∗ bigSep Finset.univ (fun j : Fin 4 => barPay (F := F) c j))
      ⊢ (bigSep Finset.univ (sendI Z c) : sProp 𝕄) := by
  rw [barPay_all, ← bigSep_sep']
  refine big_mono _ fun x => ?_
  unfold sendTok sendI
  by_cases h : act c x = true
  · rw [if_pos h, if_pos h]
    unfold sendRes
    iintro ⟨⟨H1, H2, H3, H4⟩, H5⟩
    iframe
  · rw [if_neg h, if_neg h]
    unfold rest
    iintro ⟨⟨-, -, -, H4⟩, -⟩
    iexists 0
    isplitr; · ipureintro; exact none_send Z c x (by simpa using h)
    iexact H4

theorem recvs_ready :
    iprop(bigSep Finset.univ (fun x : Tr => (atPos ER (rC c x) 0 ∅ 0 : sProp 𝕄))
        ∗ bigSep Finset.univ (fun x : Tr => if actR c x = true then (cred (tallyAt (rC c x) () N) : sProp 𝕄) else iprop(emp)))
      ⊢ (bigSep Finset.univ (recvI Z c) : sProp 𝕄) := by
  rw [← bigSep_sep']
  refine big_mono _ fun x => ?_
  unfold recvI
  by_cases h : actR c x = true
  · rw [if_pos h, if_pos h]
    unfold recvRes
    iintro ⟨H1, H2⟩
    iframe
  · rw [if_neg h, if_neg h]
    unfold rest
    iintro ⟨H4, -⟩
    iexists 0
    isplitr; · ipureintro; exact none_recv Z c x (by simpa using h)
    iexact H4

/-- The transfers, chunk by chunk. -/
theorem chunks_ready :
    iprop(bigSep Finset.univ (sendI Z c) ∗ bigSep Finset.univ (recvI Z c) ∗ bigSep Finset.univ (fun x : Tr => keep (F := F) c x)
        ∗ bigSep Finset.univ (fun ci : Fin 4 => any2 (F := F) c (zs ci 3)) ∗ bigSep Finset.univ (fun ci : Fin 4 => any2 (F := F) c (zs ci 4)))
      ⊢ (iprop(bigSep Finset.univ (ZR Z c) ∗ bigSep Finset.univ (QR (F := F) c)) : sProp 𝕄) := by
  simp only [bigSep_univ_prod (α := Fin 5) (β := Fin 4), fin5]
  have hs : ∀ (ci : Fin 4), sendI Z c (2, ci) = sendRes c (2, ci) ∧ sendI Z c (3, ci) = sendRes c (3, ci) ∧ sendI Z c (4, ci) = sendRes c (4, ci) :=
    fun ci => ⟨if_pos rfl, if_pos rfl, if_pos rfl⟩
  have hr : ∀ (ci : Fin 4), recvI Z c (2, ci) = recvRes c (2, ci) ∧ recvI Z c (3, ci) = recvRes c (3, ci) ∧ recvI Z c (4, ci) = recvRes c (4, ci) :=
    fun ci => ⟨if_pos rfl, if_pos rfl, if_pos rfl⟩
  simp only [(hs _).1, (hs _).2.1, (hs _).2.2, (hr _).1, (hr _).2.1, (hr _).2.2]
  unfold ZR QR
  simp only [bigSep_sep']
  iintro ⟨⟨H1, H2, H3, H4, H5⟩, ⟨H6, H7, H8, H9, H10⟩, ⟨H11, H12, -⟩, H13, H14⟩
  iframe

end Cert.KernelIdeal.Body

end
-- ==== Proof.Gather.lean ====
/-
The gather of a chunk: its rows of the table copied one by one, waited for, masked and put into slot 0.
-/
module

public import proofs.«01_k».proof.Proof.Slots

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

abbrev T : ℕ := k0_t1_loop.trips
def t0 : Fin T := ⟨0, by decide⟩
theorem T_eq : T = 128 := by decide

/-- The word that names row `k` of chunk `ci`. -/
def idw (fI : Buf (Elt F) (iB.view.loc (c : Thread nD τ))) (ci : Fin 4) (k : Fin T) : BitVec 32 :=
  (iB.access (Rect.unit (s := S512) (iOff ci k) S1.size (iinb ci k))).read (Elt F) fI (Shape.Idx.first (numel1_S1.symm ▸ Nat.one_pos))

variable (fI : Buf (Elt F) (iB.view.loc (c : Thread nD τ))) (hI : ∀ ci k, k0_chk1 (idw c fI ci k))
  (fE : Buf (Elt F) (eB.view.loc (c : Thread nD τ))) (ci : Fin 4)

/-- What one row's copy credits. -/
abbrev N1 : ℕ := (gRow 0 t0).view.dmaCredit
theorem N1_pos : 0 < N1 := View.dmaCredit_pos _ (by decide)

/-- The row of the table that row `k` of chunk `ci` is read from. -/
abbrev eR (k : Fin T) : Memref sig .tc .hbm S1024 .f32 := eRow (idw c fI ci k) (hI ci k)
/-- The gather buffer's contents seen from a row's view, the table's from a row's. -/
def gAs (k : Fin T) (f : Buf (Elt F) (gB.view.loc (c : Thread nD τ))) : Buf (Elt F) ((gRow ci k).view.loc (c : Thread nD τ)) := f
def eAs (k : Fin T) (f : Buf (Elt F) (eB.view.loc (c : Thread nD τ))) : Buf (Elt F) ((eR c fI hI ci k).view.loc (c : Thread nD τ)) := f
/-- The buffer after row `k`'s copy alone. -/
def landed (fd : Buf (Elt F) (gB.view.loc (c : Thread nD τ))) (k : Fin T) : Buf (Elt F) ((gRow ci k).view.loc (c : Thread nD τ)) :=
  (gRow ci k).view.write (Elt F) (gAs c ci k fd) ((eR c fI hI ci k).view.read (Elt F) (eAs c fI hI ci k fE)) Finset.univ
/-- A row owned at share `q`. -/
def at1 {sp : Space} (M : Memref sig .tc sp S1024 .f32) (q : PosShare TreeShare) (f : Buf (Elt F) (M.view.loc (c : Thread nD τ))) : sProp 𝕄 :=
  M.view.loc (c : Thread nD τ) ↦[M.view.set]{q} f
instance at1_storable {sp : Space} (M : Memref sig .tc sp S1024 .f32) (q : PosShare TreeShare) (f : Buf (Elt F) (M.view.loc (c : Thread nD τ))) :
    BI.Storable (upEmb : UEmb _ 𝕄) (at1 c M q f) := by unfold at1; infer_instance
/-- What row `k`'s copy delivers: the row, and the share of the table that it was lent. -/
def D (fd : Buf (Elt F) (gB.view.loc (c : Thread nD τ))) (k : Fin T) : sProp 𝕄 :=
  iprop(at1 c (gRow ci k) fullShare (landed c fI hI fE ci fd k)
    ∗ at1 c (eR c fI hI ci k) (Transfers.shareTok fullShare T k) (eAs c fI hI ci k fE))
instance D_storable (fd : Buf (Elt F) (gB.view.loc (c : Thread nD τ))) (k : Fin T) :
    BI.Storable (upEmb : UEmb _ 𝕄) (D c fI hI fE ci fd k) := by unfold D; infer_instance
/-- What it starts from. -/
def D₀ (fd : Buf (Elt F) (gB.view.loc (c : Thread nD τ))) (k : Fin T) : sProp 𝕄 :=
  iprop(at1 c (gRow ci k) fullShare (gAs c ci k fd)
    ∗ at1 c (eR c fI hI ci k) (Transfers.shareTok fullShare T k) (eAs c fI hI ci k fE))

theorem pend_succ (Φ : Fin T → sProp 𝕄) (k : Fin T) :
    bigSep (Transfers.pending k.val) Φ = iprop(Φ k ∗ bigSep (Transfers.pending (k.val + 1)) Φ) := by
  rw [Transfers.pending_succ k.isLt, bigSep_insert (Transfers.not_mem_pending_succ k.isLt)]; rfl

/-- The chunk's part of the gather buffer is its rows. -/
theorem gRow_set (k : Fin T) :
    (gRow ci k).view.set = (gB.access (Rect.unit (s := S4x128x1024) (rOff ci k) S1x1x1024.size (rinb ci k))).set := View.set_reshape _ _
theorem rOff_1 : ∀ (ci : Fin 4) (k : Fin T), rOff ci k 1 = k.val := by decide +kernel
theorem rows_disjoint (k k' : Fin T) (h : k ≠ k') : Disjoint (gRow ci k).view.set (gRow ci k').view.set := by
  rw [gRow_set, gRow_set, View.set_slice, View.set_slice]
  refine (Finset.disjoint_map _).mpr (Rect.unit_disjoint (s := S4x128x1024) 1 ?_)
  rw [rOff_1, rOff_1]
  show _ + 1 ≤ _ ∨ _ + 1 ≤ _
  have : k.val ≠ k'.val := fun e => h (Fin.ext e)
  omega
theorem rows_union : Finset.univ.biUnion (fun k => (gRow ci k).view.set) = (gB.access (gR ci)).set := by
  ext i
  simp only [Finset.mem_biUnion, Finset.mem_univ, true_and, gRow_set]
  rw [View.set_slice]
  simp only [View.set_slice, Finset.mem_map]
  constructor
  · rintro ⟨k, j, hj, rfl⟩
    refine ⟨j, Rect.mem_set_unit.2 fun a => ?_, rfl⟩
    have h := Rect.mem_set_unit.1 hj a
    revert h
    match a with
    | 0 => exact id
    | 1 => intro _; exact ⟨Nat.zero_le _, by have := (j 1).isLt; exact this.trans_le (show 128 ≤ 0 + 128 by decide)⟩
    | 2 => exact id
  · rintro ⟨j, hj, rfl⟩
    refine ⟨⟨(j 1).val, (j 1).isLt.trans_eq T_eq.symm⟩, j, Rect.mem_set_unit.2 fun a => ?_, rfl⟩
    have h := Rect.mem_set_unit.1 hj a
    revert h
    match a with
    | 0 => exact id
    | 1 => intro _; rw [rOff_1]; exact ⟨Nat.le_refl _, Nat.lt_succ_self _⟩
    | 2 => exact id

/-- The table, at the full share, between the start of a chunk's copies and their end. -/
def Eout : sProp 𝕄 :=
  iprop((eB.view.loc (c : Thread nD τ) ↦[Finset.univ]{Transfers.shareDrop fullShare T} fE)
    ∗ bigSep Finset.univ fun k : Fin T =>
        eB.view.loc (c : Thread nD τ) ↦[Finset.univ \ (eR c fI hI ci k).view.set]{Transfers.shareTok fullShare T k} fE)

abbrev EC : UEmb Counters 𝕄 := countersEmb (U := UU)

/-- The list of words, read. -/
def idsI (qI : PosShare TreeShare) : sProp 𝕄 := iB.view.loc (c : Thread nD τ) ↦[Finset.univ]{qI} fI

/-- A read of the list gives the word that names the row. -/
theorem wp_ids (qI : PosShare TreeShare) (k : Fin T) (Q : Elt F .i32 → sProp 𝕄) :
    idsI c fI qI ⊢ iprop((idsI c fI qI -∗ Q (idw c fI ci k))
      -∗ wpc c (smemLoad iB (Rect.unit (s := S512) (iOff ci k) S1.size (iinb ci k)) numel1_S1 rfl) Q) := by
  unfold idsI idw
  iintro HI Hk
  iapply (wp_smemLoadElt 𝒱₀ (c : Thread nD τ) none Set.univ (m := iB) (r := Rect.unit (s := S512) (iOff ci k) S1.size (iinb ci k))
    (S := Finset.univ) (q := qI) (f := fI) (Finset.subset_univ _)) $$ HI
  iintro HI
  rw [wp_ret]; imodintro
  iapply Hk
  iexact HI
theorem wp_holds {P : Prop} {d : Decidable P} (h : P) (Q : PLift P → sProp 𝕄) :
    Q ⟨h⟩ ⊢ wpc c (Prog.lift (TpuEff.assume P d) : PG F (PLift P)) Q := by
  iintro H
  iapply (wp_assume 𝒱₀ (c : Thread nD τ) none Set.univ h)
  rw [wp_ret]; imodintro
  iexact H

abbrev batch (fd : Buf (Elt F) (gB.view.loc (c : Thread nD τ))) (j u : ℕ) : sProp 𝕄 :=
  Transfers.Batch EC (c : Thread nD τ) (.dma (gsm ci)) () N1 (D c fI hI fE ci fd) j u

theorem gRow_credit (k : Fin T) : (gRow ci k).view.amount (.dma (gsm ci)) = N1 := by
  unfold View.amount; rfl
theorem D_intro (fd : Buf (Elt F) (gB.view.loc (c : Thread nD τ))) (k : Fin T) :
    iprop(at1 c (gRow ci k) fullShare ((gRow ci k).view.write (Elt F) (gAs c ci k fd)
          (ReadAs.same.apply ((eR c fI hI ci k).view.read (Elt F) (eAs c fI hI ci k fE))) Finset.univ)
      ∗ at1 c (eR c fI hI ci k) (Transfers.shareTok fullShare T k) (eAs c fI hI ci k fE))
      ⊢ D c fI hI fE ci fd k := by
  unfold D landed
  exact .rfl

/-- The copy of one row starts. -/
theorem wp_row (fd : Buf (Elt F) (gB.view.loc (c : Thread nD τ))) (k : Fin T)
    (Q : PUnit → sProp 𝕄) :
    iprop(D₀ c fI hI fE ci fd k ∗ batch c fI hI fE ci fd k.val 0)
      ⊢ iprop((batch c fI hI fE ci fd (k.val + 1) 0 -∗ Q ⟨⟩)
        -∗ wpc c (Prog.lift (.enqueueDma (eR c fI hI ci k) (.here (gRow ci k)) (.dma (gsm ci))
          ((View.wordExact_bits rfl).reshape _ _) ((View.wordExact_bits rfl).reshape _ _) ⟨Or.inl rfl, trivial⟩)) Q) := by
  unfold D₀ at1 batch
  iintro ⟨⟨Hg, He⟩, HB⟩ Hk
  iapply (Transfers.wp_dmaBatch EC 𝒱₀ (c : Thread nD τ) none (src := eR c fI hI ci k) (dst := gRow ci k) (sm := .dma (gsm ci))
    (Sd := (gRow ci k).view.set) (fs := eAs c fI hI ci k fE) (fd := gAs c ci k fd) (q := Transfers.shareTok fullShare T k) (D := D c fI hI fE ci fd)
    () N1 (gRow_credit ci k) subset_rfl (j := k.val) (u := 0) k.isLt (Nat.zero_le _) (D_intro c fI hI fE ci fd k)) $$ [Hg He HB]
  · isplitl [He]; · iexact He
    isplitl [Hg]; · iexact Hg
    iexact HB
  iintro HB
  rw [wp_ret]; imodintro
  iapply Hk
  iexact HB

theorem issue_step (qI : PosShare TreeShare) (fd : Buf (Elt F) (gB.view.loc (c : Thread nD τ))) (k : Fin T) (acc : Unit) :
    iprop(idsI c fI qI ∗ batch c fI hI fE ci fd k.val 0 ∗ bigSep (Transfers.pending k.val) (D₀ c fI hI fE ci fd))
    ⊢ wpc c (issueBody ci k acc) fun _ =>
      iprop(idsI c fI qI ∗ batch c fI hI fE ci fd (k.val + 1) 0 ∗ bigSep (Transfers.pending (k.val + 1)) (D₀ c fI hI fE ci fd)) := by
  unfold issueBody
  simp only [wpc_bind]
  rw [pend_succ]
  iintro ⟨HI, HB, ⟨HD, HP⟩⟩
  iapply (wp_ids c fI ci qI k _) $$ HI
  iintro HI
  iapply (wp_holds c (hI ci k) _)
  iapply (wp_row c fI hI fE ci fd k _) $$ [HD HB]
  · iframe
  iintro HB
  rw [wpc_pure]; imodintro
  iframe

theorem rows_pts (fd : Buf (Elt F) (gB.view.loc (c : Thread nD τ))) :
    (gB.view.loc (c : Thread nD τ) ↦[(gB.access (gR ci)).set]{fullShare} fd : sProp 𝕄)
      = bigSep Finset.univ fun k : Fin T => at1 c (gRow ci k) fullShare (gAs c ci k fd) :=
  (congrArg (fun S : Finset (Idx (gB.view.loc (c : Thread nD τ))) => (gB.view.loc (c : Thread nD τ) ↦[S]{fullShare} fd : sProp 𝕄)) (rows_union ci).symm).trans
    (pointsTo_biUnion (ℓ := gB.view.loc (c : Thread nD τ)) (q := fullShare) (f := fd) Finset.univ (fun k : Fin T => (gRow ci k).view.set)
      (fun k _ k' _ h => rows_disjoint ci k k' h))

theorem eR_split (k : Fin T) :
    (eB.view.loc (c : Thread nD τ) ↦[Finset.univ]{Transfers.shareTok fullShare T k} fE : sProp 𝕄)
      ⊢ iprop(at1 c (eR c fI hI ci k) (Transfers.shareTok fullShare T k) (eAs c fI hI ci k fE)
        ∗ eB.view.loc (c : Thread nD τ) ↦[Finset.univ \ (eR c fI hI ci k).view.set]{Transfers.shareTok fullShare T k} fE) :=
  (pointsTo_split_subset (ℓ := eB.view.loc (c : Thread nD τ)) (f := fE) (I := (eR c fI hI ci k).view.set) (Finset.subset_univ _)).1
theorem eR_join (k : Fin T) :
    iprop(at1 c (eR c fI hI ci k) (Transfers.shareTok fullShare T k) (eAs c fI hI ci k fE)
        ∗ eB.view.loc (c : Thread nD τ) ↦[Finset.univ \ (eR c fI hI ci k).view.set]{Transfers.shareTok fullShare T k} fE)
      ⊢ (eB.view.loc (c : Thread nD τ) ↦[Finset.univ]{Transfers.shareTok fullShare T k} fE : sProp 𝕄) :=
  (pointsTo_split_subset (ℓ := eB.view.loc (c : Thread nD τ)) (f := fE) (I := (eR c fI hI ci k).view.set) (Finset.subset_univ _)).2

/-- The tokens of the table, each in the row's part and the rest; and back. -/
theorem toks_split :
    bigSep Finset.univ (fun k : Fin T => (eB.view.loc (c : Thread nD τ) ↦[Finset.univ]{Transfers.shareTok fullShare T k} fE : sProp 𝕄))
      ⊢ iprop(bigSep Finset.univ (fun k : Fin T => at1 c (eR c fI hI ci k) (Transfers.shareTok fullShare T k) (eAs c fI hI ci k fE))
        ∗ bigSep Finset.univ (fun k : Fin T => (eB.view.loc (c : Thread nD τ) ↦[Finset.univ \ (eR c fI hI ci k).view.set]{Transfers.shareTok fullShare T k} fE : sProp 𝕄))) := by
  refine BIBase.Entails.trans (bigSep_mono fun k _ => eR_split c fI hI fE ci k) ?_
  rw [bigSep_sep']
theorem toks_join :
    iprop(bigSep Finset.univ (fun k : Fin T => at1 c (eR c fI hI ci k) (Transfers.shareTok fullShare T k) (eAs c fI hI ci k fE))
        ∗ bigSep Finset.univ (fun k : Fin T => (eB.view.loc (c : Thread nD τ) ↦[Finset.univ \ (eR c fI hI ci k).view.set]{Transfers.shareTok fullShare T k} fE : sProp 𝕄)))
      ⊢ bigSep Finset.univ (fun k : Fin T => (eB.view.loc (c : Thread nD τ) ↦[Finset.univ]{Transfers.shareTok fullShare T k} fE : sProp 𝕄)) := by
  refine BIBase.Entails.trans ?_ (bigSep_mono fun k _ => eR_join c fI hI fE ci k)
  rw [bigSep_sep']

/-- The table and the chunk's rows, made ready; and put together again. -/
theorem rows_ready (fd : Buf (Elt F) (gB.view.loc (c : Thread nD τ))) :
    iprop((eB.view.loc (c : Thread nD τ) ↦[Finset.univ]{fullShare} fE)
        ∗ gB.view.loc (c : Thread nD τ) ↦[(gB.access (gR ci)).set]{fullShare} fd)
      ⊢ (iprop(Eout c fI hI fE ci ∗ bigSep Finset.univ (D₀ c fI hI fE ci fd)) : sProp 𝕄) := by
  unfold Eout D₀
  rw [bigSep_sep', rows_pts]
  iintro ⟨HE, HG⟩
  ihave HE := (Transfers.pointsTo_toks_split fullShare T) $$ HE
  icases HE with ⟨HE, HT⟩
  ihave HT := (toks_split c fI hI fE ci) $$ HT
  icases HT with ⟨HT1, HT2⟩
  isplitl [HE HT2]
  · isplitl [HE]; · iexact HE
    iexact HT2
  isplitl [HG]; · iexact HG
  iexact HT1

end Cert.KernelIdeal.Body

end
-- ==== Proof.Rows.lean ====
/-
A chunk of rows: all its copies started, all waited for, the rows masked and put into slot 0.
-/
module

public import proofs.«01_k».proof.Proof.Gather
public import Idealize.ShloMosaic.Lib.ValueLayout

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (c : Dev nD)
variable (fI : Buf (Elt F) (iB.view.loc (c : Thread nD τ))) (hI : ∀ ci k, k0_chk1 (idw c fI ci k))
  (fE : Buf (Elt F) (eB.view.loc (c : Thread nD τ))) (ci : Fin 4)

/-- All the copies of a chunk's rows start. -/
theorem issue_spec (qI : PosShare TreeShare) (fd : Buf (Elt F) (gB.view.loc (c : Thread nD τ))) (Q : Unit → sProp 𝕄) :
    iprop(idsI c fI qI ∗ batch c fI hI fE ci fd 0 0 ∗ bigSep Finset.univ (D₀ c fI hI fE ci fd))
      ⊢ iprop(((idsI c fI qI ∗ batch c fI hI fE ci fd T 0) -∗ Q ⟨⟩) -∗ wpc c (issueLoop ci) Q) := by
  unfold issueLoop
  iintro ⟨HI, HB, HD⟩ Hk
  iapply (Scf.wp_for frame (wpE (defs₀ (F := F)) 𝒱₀ (c : Thread nD τ) none) Set.univ _ _ _ k0_t1_ok ⟨⟩ (issueBody ci)
    (fun k _ => iprop(idsI c fI qI ∗ batch c fI hI fE ci fd k 0 ∗ bigSep (Transfers.pending k) (D₀ c fI hI fE ci fd)))
    (fun k acc => issue_step c fI hI fE ci qI fd k acc))
  rw [Transfers.pending_zero]
  iframe
  iintro %acc ⟨HI, HB, -⟩
  iapply Hk
  iframe

theorem gsem_low (l : List Tr) :
    (levAts L lv : sProp 𝕄) ⊢ MayWait (c : Thread nD τ) (.dma (gsm ci)) () (owedL c l) := by
  refine mayWait_owedL c (.dma (gsm ci)) l ?_
  have h : ∀ ci : Fin 4, decS (gsm ci) = none := by decide
  intro y _
  unfold lvS
  dsimp only
  rw [h ci]
  exact lvR_pos _ _

/-- Where a chunk stands after `k` of its rows have been waited for. -/
def waited (fd : Buf (Elt F) (gB.view.loc (c : Thread nD τ))) (k : ℕ) : sProp 𝕄 :=
  if k < T then batch c fI hI fE ci fd T (k * N1)
  else iprop(bigSep Finset.univ (D c fI hI fE ci fd) ∗ semVal ((c : Thread nD τ), SemLoc.dma (gsm ci)) 0)

theorem waited_all (fd : Buf (Elt F) (gB.view.loc (c : Thread nD τ))) :
    waited c fI hI fE ci fd T = iprop(bigSep Finset.univ (D c fI hI fE ci fd) ∗ semVal ((c : Thread nD τ), SemLoc.dma (gsm ci)) 0) :=
  if_neg (Nat.lt_irrefl T)

theorem wait_credit : ((gB.slice (Rect.unit (s := S4x128x1024) ![ci.val, 0, 0] S1x1x1024.size (grinb ci)) (fun _ => rfl)).squeeze S1024 squeezes_S1x1x1024_S1024).view.dmaCredit
    = N1 := gRow_credit ci t0

theorem wait_step (fd : Buf (Elt F) (gB.view.loc (c : Thread nD τ))) (l : List Tr) (k : Fin T) (acc : Unit) :
    iprop(levAts L lv ∗ waited c fI hI fE ci fd k.val ∗ OW c l)
      ⊢ wpc c (waitBody ci k acc) fun _ => iprop(levAts L lv ∗ waited c fI hI fE ci fd (k.val + 1) ∗ OW c l) := by
  unfold waitBody
  simp only [wpc_bind]
  unfold waited OW
  rw [if_pos k.isLt]
  iintro ⟨#HL, HB, ⟨%W, HO⟩⟩
  ihave HM := (gsem_low c ci l) $$ HL
  by_cases h : k.val + 1 < T
  · rw [if_pos h]
    iapply (Transfers.wp_waitBatchO EC 𝒱₀ (c : Thread nD τ) none () (N := N1) (D := D c fI hI fE ci fd) (u := k.val * N1) (wait_credit ci)
      (by rw [Nat.mul_comm N1, ← Nat.succ_mul]; exact Nat.mul_lt_mul_of_pos_right h N1_pos) (O := owedL c l) (W := W)) $$ [HB HO HM]
    · iframe #; iframe
    iintro ⟨HB, HO⟩
    rw [wp_ret]; imodintro
    rw [wpc_pure]; imodintro
    rw [Nat.succ_mul]
    iframe #
    iframe HB
    iexists _; iexact HO
  · rw [if_neg h]
    iapply (Transfers.wp_waitBatchLastO EC 𝒱₀ (c : Thread nD τ) none () (N := N1) (D := D c fI hI fE ci fd) (u := k.val * N1) (wait_credit ci) N1_pos
      (by have h' : k.val + 1 = T := by have := k.isLt; omega
          rw [← Nat.succ_mul, Nat.mul_comm N1]; exact congrArg (· * N1) h') (O := owedL c l) (W := W)) $$ [HB HO HM]
    · iframe #; iframe
    iintro ⟨HD, HS, HO⟩
    rw [wp_ret]; imodintro
    rw [wpc_pure]; imodintro
    iframe #
    iframe HD HS
    iexists _; iexact HO

/-- All of them are waited for. -/
theorem wait_spec (fd : Buf (Elt F) (gB.view.loc (c : Thread nD τ))) (l : List Tr) (Q : Unit → sProp 𝕄) :
    iprop(levAts L lv ∗ batch c fI hI fE ci fd T 0 ∗ OW c l)
      ⊢ iprop(((bigSep Finset.univ (D c fI hI fE ci fd) ∗ semVal ((c : Thread nD τ), SemLoc.dma (gsm ci)) 0 ∗ OW c l) -∗ Q ⟨⟩)
        -∗ wpc c (waitLoop ci) Q) := by
  unfold waitLoop
  iintro ⟨#HL, HB, HO⟩ Hk
  iapply (Scf.wp_for frame (wpE (defs₀ (F := F)) 𝒱₀ (c : Thread nD τ) none) Set.univ _ _ _ k0_t1_ok ⟨⟩ (waitBody ci)
    (fun k _ => iprop(levAts L lv ∗ waited c fI hI fE ci fd k ∗ OW c l))
    (fun k acc => wait_step c fI hI fE ci fd l k acc))
  isplitl [HB HO]
  · iframe #
    unfold waited
    rw [if_pos (by decide : 0 < T), Nat.zero_mul]
    iframe
  iintro %acc ⟨-, HB, HO⟩
  ihave HB := (Entails.of_eq (waited_all c fI hI fE ci fd)) $$ HB
  icases HB with ⟨HD, HS⟩
  iapply Hk
  iframe

/-! ## The rows together -/

def kk (j : Fin 128) : Fin T := ⟨j.val, by rw [T_eq]; exact j.isLt⟩
/-- Row `k` of chunk `ci`, as it stands in the table. -/
def rowAt (k : Fin T) : FVec F S1024 .f32 := (eR c fI hI ci k).view.read (Elt F) (eAs c fI hI ci k fE)
/-- The chunk's rows. -/
def rowsOf : Vec F S1x128x1024 .f32 := fun i => rowAt c fI hI fE ci (kk (i 1)) (ix1 (n := 1024) (i 2))

/-- An index of the chunk's part of the gather buffer is one of a row of it. -/
theorem row_emb (i : S1x128x1024.Idx) :
    (gR ci).emb i = (Rect.unit (s := S4x128x1024) (rOff ci (kk (i 1))) S1x1x1024.size (rinb ci (kk (i 1)))).emb
      (Shape.reshapeEquiv squeezes_S1x1x1024_S1024.numel_eq (ix1 (n := 1024) (i 2))) := by
  have e : Shape.reshapeEquiv squeezes_S1x1x1024_S1024.numel_eq (ix1 (n := 1024) (i 2))
      = ix3 (⟨0, Nat.one_pos⟩ : Fin 1) (⟨0, Nat.one_pos⟩ : Fin 1) (show Fin 1024 from i 2) :=
    Shape.reshapeEquiv_eq_of_rowMajor _ (by
      rw [Shape.rowMajor_val_three, Shape.rowMajor_val_one]
      show ((0 * 1 + 0) * 1024 + (i 2).val) = (i 2).val
      omega)
  rw [e]
  have h1 := rOff_1 ci (kk (i 1))
  have h0 : (i 0).val = 0 := by have : (i 0).val < 1 := (i 0).isLt; omega
  funext a
  apply Fin.ext
  show _ + 1 * (i a).val = rOff ci (kk (i 1)) a + 1 * _
  match a with
  | ⟨0, _⟩ =>
    show ci.val + 1 * (i 0).val = ci.val + 1 * 0
    omega
  | ⟨1, _⟩ =>
    show 0 + 1 * (i 1).val = rOff ci (kk (i 1)) 1 + 1 * 0
    rw [h1]
    show 0 + 1 * (i 1).val = (i 1).val + 1 * 0
    omega
  | ⟨2, _⟩ => show 0 + 1 * (i 2).val = 0 + 1 * (i 2).val; rfl

theorem rows_read (g fd : Buf (Elt F) (gB.view.loc (c : Thread nD τ)))
    (hg : ∀ k : Fin T, ∀ i ∈ (gRow ci k).view.set, gAs c ci k g i = landed c fI hI fE ci fd k i) :
    (gB.access (gR ci)).read (Elt F) g = rowsOf c fI hI fE ci := by
  funext i
  have h : (gRow ci (kk (i 1))).view.read (Elt F) (gAs c ci (kk (i 1)) g) = rowAt c fI hI fE ci (kk (i 1)) := by
    rw [View.read_congr (hg (kk (i 1)))]
    exact View.read_write_univ _ _
  have h2 := congrFun h (ix1 (n := 1024) (i 2))
  refine Eq.trans ?_ h2
  show g ((gR ci).emb i) = g ((Rect.unit (s := S4x128x1024) (rOff ci (kk (i 1))) S1x1x1024.size (rinb ci (kk (i 1)))).emb _)
  exact congrArg g (row_emb ci i)

theorem rows_gather (fd : Buf (Elt F) (gB.view.loc (c : Thread nD τ))) :
    bigSep Finset.univ (fun k : Fin T => at1 c (gRow ci k) fullShare (landed c fI hI fE ci fd k))
      ⊢ (iprop(∃ g : Buf (Elt F) (gB.view.loc (c : Thread nD τ)), ⌜(gB.access (gR ci)).read (Elt F) g = rowsOf c fI hI fE ci⌝
          ∗ gB.view.loc (c : Thread nD τ) ↦[(gB.access (gR ci)).set]{fullShare} g) : sProp 𝕄) := by
  refine (pointsTo_biUnion_join (ℓ := gB.view.loc (c : Thread nD τ)) (q := fullShare) Finset.univ (fun k : Fin T => (gRow ci k).view.set)
      (fun k => landed c fI hI fE ci fd k) fd (fun k _ k' _ h => rows_disjoint ci k k' h)).trans ?_
  iintro ⟨%g, %hg, H⟩
  iexists g
  isplitr
  · ipureintro
    exact rows_read c fI hI fE ci g fd fun k => hg k (Finset.mem_univ k)
  · iapply (Entails.of_eq (congrArg (fun S : Finset (Idx (gB.view.loc (c : Thread nD τ))) => (gB.view.loc (c : Thread nD τ) ↦[S]{fullShare} g : sProp 𝕄)) (rows_union ci)))
    iexact H

/-- What the copies have delivered is the chunk's rows and the whole table. -/
theorem rows_join (fd : Buf (Elt F) (gB.view.loc (c : Thread nD τ))) :
    iprop(Eout c fI hI fE ci ∗ bigSep Finset.univ (D c fI hI fE ci fd))
      ⊢ (iprop((eB.view.loc (c : Thread nD τ) ↦[Finset.univ]{fullShare} fE)
        ∗ ∃ g : Buf (Elt F) (gB.view.loc (c : Thread nD τ)), ⌜(gB.access (gR ci)).read (Elt F) g = rowsOf c fI hI fE ci⌝
          ∗ gB.view.loc (c : Thread nD τ) ↦[(gB.access (gR ci)).set]{fullShare} g) : sProp 𝕄) := by
  unfold Eout D
  rw [bigSep_sep']
  iintro ⟨⟨HE, HT⟩, HG, HT2⟩
  isplitl [HE HT HT2]
  · ihave HJ := (toks_join c fI hI fE ci) $$ [HT HT2]
    · iframe
    iapply (Transfers.pointsTo_toks_join fullShare T)
    isplitl [HE]; · iexact HE
    iexact HJ
  iapply (rows_gather c fI hI fE ci fd); iexact HG

/-! ## A chunk's gather -/

/-- Chunk `ci`'s part of the gather buffer, whatever it holds; the copies' semaphore at rest; the table. -/
def gS : sProp 𝕄 := iprop((∃ g : Buf (Elt F) (gB.view.loc (c : Thread nD τ)), gB.view.loc (c : Thread nD τ) ↦[(gB.access (gR ci)).set]{fullShare} g)
  ∗ semVal ((c : Thread nD τ), SemLoc.dma (gsm ci)) 0)
def tabI : sProp 𝕄 := eB.view.loc (c : Thread nD τ) ↦[Finset.univ]{fullShare} fE
/-- All the copies of the chunk's rows are on their way. -/
def issued : sProp 𝕄 := iprop(∃ fd : Buf (Elt F) (gB.view.loc (c : Thread nD τ)), batch c fI hI fE ci fd T 0 ∗ Eout c fI hI fE ci)
/-- The chunk's rows have arrived. -/
def arrived : sProp 𝕄 := iprop((∃ g : Buf (Elt F) (gB.view.loc (c : Thread nD τ)), ⌜(gB.access (gR ci)).read (Elt F) g = rowsOf c fI hI fE ci⌝
          ∗ gB.view.loc (c : Thread nD τ) ↦[(gB.access (gR ci)).set]{fullShare} g)
  ∗ semVal ((c : Thread nD τ), SemLoc.dma (gsm ci)) 0)

theorem issueC_spec (qI : PosShare TreeShare) (Q : Unit → sProp 𝕄) :
    iprop(idsI c fI qI ∗ tabI c fE ∗ gS c ci)
      ⊢ iprop(((idsI c fI qI ∗ issued c fI hI fE ci) -∗ Q ⟨⟩) -∗ wpc c (issueLoop ci) Q) := by
  unfold tabI gS issued
  iintro ⟨HI, HE, ⟨%fd, HG⟩, HS⟩ Hk
  imod (Transfers.batch_alloc' EC (c : Thread nD τ) () N1 (D c fI hI fE ci fd) (sm := .dma (gsm ci)) (E := Set.univ)) $$ HS with HB
  ihave HR := (rows_ready c fI hI fE ci fd) $$ [HE HG]
  · iframe
  icases HR with ⟨HEo, HD⟩
  iapply (issue_spec c fI hI fE ci qI fd Q) $$ [HI HB HD]
  · iframe
  iintro ⟨HI, HB⟩
  iapply Hk
  iframe HI
  iexists fd
  iframe

theorem waitC_spec (l : List Tr) (Q : Unit → sProp 𝕄) :
    iprop(levAts L lv ∗ issued c fI hI fE ci ∗ OW c l)
      ⊢ iprop(((tabI c fE ∗ arrived c fI hI fE ci ∗ OW c l) -∗ Q ⟨⟩) -∗ wpc c (waitLoop ci) Q) := by
  unfold tabI issued arrived
  iintro ⟨#HL, ⟨%fd, HB, HE⟩, HO⟩ Hk
  iapply (wait_spec c fI hI fE ci fd l Q) $$ [HB HO]
  · iframe #; iframe
  iintro ⟨HD, HS, HO⟩
  ihave HR := (rows_join c fI hI fE ci fd) $$ [HE HD]
  · iframe
  icases HR with ⟨HE, HG⟩
  iapply Hk
  iframe

variable (fM : Buf (Elt F) (mB.view.loc (c : Thread nD τ)))
/-- The mask, read. -/
def maskI (qM : PosShare TreeShare) : sProp 𝕄 := mB.view.loc (c : Thread nD τ) ↦[Finset.univ]{qM} fM
/-- The chunk's rows, each times its mask. -/
def Zval : V2 F := flat4 (k0_pay19 (rowsOf c fI hI fE ci) ((mB.access (mR ci)).read (Elt F) fM))

theorem fill_spec (qM : PosShare TreeShare) (Q : PUnit → sProp 𝕄) :
    iprop(arrived c fI hI fE ci ∗ maskI c fM qM ∗ any2 c (zs ci 0))
      ⊢ iprop(((gS c ci ∗ maskI c fM qM ∗ own2 c (zs ci 0) fullShare (Zval c fI hI fE ci fM)) -∗ Q ⟨⟩) -∗ wpc c (fill ci) Q) := by
  unfold fill loadG loadM arrived maskI gS Zval
  simp only [wpc_bind]
  iintro ⟨⟨⟨%g, %hg, HG⟩, HS⟩, HM, HZ⟩ Hk
  iapply (wp_load_rect 𝒱₀ (c : Thread nD τ) none Set.univ (m := gB) (r := gR ci) (S := (gB.access (gR ci)).set) (q := fullShare) (f := g)
    subset_rfl) $$ HG
  iintro HG
  rw [wp_ret]; imodintro
  iapply (wp_load_rect 𝒱₀ (c : Thread nD τ) none Set.univ (m := mB) (r := mR ci) (S := Finset.univ) (q := qM) (f := fM)
    (Finset.subset_univ _)) $$ HM
  iintro HM
  rw [wp_ret]; imodintro
  iapply (wp_loadZA c ci 0 _) $$ HZ
  iintro %Y HZ
  iapply (wp_storeZ c ci 0 _ _) $$ HZ
  iintro HZ
  iapply Hk
  rw [← hg]
  iframe HM HS HZ
  iexists g; iexact HG

theorem gather_spec (l : List Tr) (qI qM : PosShare TreeShare) (Q : PUnit → sProp 𝕄) :
    iprop(levAts L lv ∗ idsI c fI qI ∗ tabI c fE ∗ maskI c fM qM ∗ gS c ci ∗ any2 c (zs ci 0) ∗ OW c l)
      ⊢ iprop(((idsI c fI qI ∗ tabI c fE ∗ maskI c fM qM ∗ gS c ci ∗ own2 c (zs ci 0) fullShare (Zval c fI hI fE ci fM) ∗ OW c l) -∗ Q ⟨⟩)
        -∗ wpc c (gather ci) Q) := by
  unfold gather
  simp only [wpc_bind]
  iintro ⟨#HL, HI, HE, HM, HG, HZ, HO⟩ Hk
  iapply (issueC_spec c fI hI fE ci qI _) $$ [HI HE HG]
  · iframe
  iintro ⟨HI, HG⟩
  iapply (waitC_spec c fI hI fE ci l _) $$ [HG HO]
  · iframe #; iframe
  iintro ⟨HE, HG, HO⟩
  iapply (fill_spec c fI hI fE ci fM qM _) $$ [HG HM HZ]
  · iframe
  iintro ⟨HG, HM, HZ⟩
  iapply Hk
  iframe

end Cert.KernelIdeal.Body

end
-- ==== Proof.BodySpec.lean ====
/-
The whole body: its phases one after the other.
-/
module

public import proofs.«01_k».proof.Proof.Bar
public import proofs.«01_k».proof.Proof.Rows

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Z : Dev nD → Fin 4 → V2 F) (K : GSem nD τ sig → ℕ) (c : Dev nD)
  (fI : Buf (Elt F) (iB.view.loc (c : Thread nD τ))) (hI : ∀ ci k, k0_chk1 (idw c fI ci k))
  (fE : Buf (Elt F) (eB.view.loc (c : Thread nD τ))) (fM : Buf (Elt F) (mB.view.loc (c : Thread nD τ)))
  (hZ : ∀ ci, Zval c fI hI fE ci fM = Z c ci)

/-! ## The order of the levels -/

/-- What is left to send from phase to phase. -/
def l15 : List Tr := []
def l14 : List Tr := diagOf 3 ++ l15
def l13 : List Tr := diagOf 2 ++ l14
def l12 : List Tr := startOf 3 ++ l13
def l11 : List Tr := diagOf 1 ++ l12
def l10 : List Tr := startOf 2 ++ l11
def l9 : List Tr := diagOf 0 ++ l10
def l8 : List Tr := startOf 1 ++ l9
def l7 (z : Fin 4) : List Tr := midOf z 3 ++ l8
def l6 (z : Fin 4) : List Tr := startOf 0 ++ l7 z
def l5 (z : Fin 4) : List Tr := midOf z 2 ++ l6 z
def l4 (z : Fin 4) : List Tr := edgeOf z 3 ++ l5 z
def l3 (z : Fin 4) : List Tr := midOf z 1 ++ l4 z
def l2 (z : Fin 4) : List Tr := edgeOf z 2 ++ l3 z
def l1 (z : Fin 4) : List Tr := midOf z 0 ++ l2 z
def l0 (z : Fin 4) : List Tr := edgeOf z 1 ++ l1 z
theorem sends_eq (z : Fin 4) : sends z = edgeOf z 0 ++ l0 z := rfl

theorem low_mid0 : ∀ c : Dev nD, ∀ y ∈ l2 (zp c), lvR c (0, 0) < lvR (dst c y) y ∧ lvR c (1, 0) < lvR (dst c y) y := by decide
theorem low_mid1 : ∀ c : Dev nD, ∀ y ∈ l4 (zp c), lvR c (0, 1) < lvR (dst c y) y ∧ lvR c (1, 1) < lvR (dst c y) y := by decide
theorem low_mid2 : ∀ c : Dev nD, ∀ y ∈ l6 (zp c), lvR c (0, 2) < lvR (dst c y) y ∧ lvR c (1, 2) < lvR (dst c y) y := by decide
theorem low_start0 : ∀ c : Dev nD, ∀ y ∈ l7 (zp c), lvR c (0, 0) < lvR (dst c y) y ∧ lvR c (1, 0) < lvR (dst c y) y := by decide
theorem low_mid3 : ∀ c : Dev nD, ∀ y ∈ l8, lvR c (0, 3) < lvR (dst c y) y ∧ lvR c (1, 3) < lvR (dst c y) y := by decide
theorem low_start1 : ∀ c : Dev nD, ∀ y ∈ l9, lvR c (0, 1) < lvR (dst c y) y ∧ lvR c (1, 1) < lvR (dst c y) y := by decide
theorem low_diag0 : ∀ c : Dev nD, ∀ y ∈ (4, 0) :: l10, lvR c (2, 0) < lvR (dst c y) y := by decide
theorem low_start2 : ∀ c : Dev nD, ∀ y ∈ l11, lvR c (0, 2) < lvR (dst c y) y ∧ lvR c (1, 2) < lvR (dst c y) y := by decide
theorem low_diag1 : ∀ c : Dev nD, ∀ y ∈ (4, 1) :: l12, lvR c (3, 1) < lvR (dst c y) y := by decide
theorem low_start3 : ∀ c : Dev nD, ∀ y ∈ l13, lvR c (0, 3) < lvR (dst c y) y ∧ lvR c (1, 3) < lvR (dst c y) y := by decide
theorem low_diag2 : ∀ c : Dev nD, ∀ y ∈ (4, 2) :: l14, lvR c (2, 2) < lvR (dst c y) y := by decide
theorem low_diag3 : ∀ c : Dev nD, ∀ y ∈ (4, 3) :: l15, lvR c (3, 3) < lvR (dst c y) y := by decide

/-! ## The pieces of the result, in the order in which they are written -/

abbrev Pc := Finset (Fin 4 × Fin 4)
def s0 : Pc := ∅
def s1 : Pc := insert (0, 0) s0
def s2 : Pc := insert (0, 1) s1
def s3 : Pc := insert (1, 0) s2
def s4 : Pc := insert (0, 2) s3
def s5 : Pc := insert (2, 1) s4
def s6 : Pc := insert (0, 3) s5
def s7 : Pc := insert (1, 2) s6
def s8 : Pc := insert (2, 3) s7
def s9 : Pc := insert (3, 0) (insert (2, 0) s8)
def s10 : Pc := insert (3, 1) (insert (1, 1) s9)
def s11 : Pc := insert (3, 2) (insert (2, 2) s10)
def s12 : Pc := insert (3, 3) (insert (1, 3) s11)
theorem s12_all : s12 = Finset.univ := by decide

/-! ## What the body starts from, and what it leaves -/

/-- A device's part of the protocol and its scratch buffers. -/
def preI : sProp 𝕄 :=
  iprop(bigSep Finset.univ (sigRes (F := F) c) ∗ barRes c ∗ bigSep Finset.univ (sendTok (F := F) c) ∗ bigSep Finset.univ (recvI Z c)
    ∗ bigSep Finset.univ (fun x : Tr => keep (F := F) c x)
    ∗ (bigSep Finset.univ (fun ci : Fin 4 => any2 (F := F) c (zs ci 0)) ∗ bigSep Finset.univ (fun ci : Fin 4 => any2 (F := F) c (zs ci 3))
        ∗ bigSep Finset.univ (fun ci : Fin 4 => any2 (F := F) c (zs ci 4)) ∗ bigSep Finset.univ (fun ci : Fin 4 => any2 (F := F) c (qs ci 0)))
    ∗ bigSep Finset.univ (gS (F := F) c))
def postI : sProp 𝕄 :=
  iprop(barOver (F := F) c ∗ bigSep Finset.univ (ZD Z c) ∗ bigSep Finset.univ (QD Z c) ∗ bigSep Finset.univ (gS (F := F) c))

theorem gather_Z (ci : Fin 4) (l : List Tr) (qI qM : PosShare TreeShare) (hZ : ∀ ci, Zval c fI hI fE ci fM = Z c ci) (Q : PUnit → sProp 𝕄) :
    iprop(ctx Z K ∗ idsI c fI qI ∗ tabI c fE ∗ maskI c fM qM ∗ gS c ci ∗ any2 c (zs ci 0) ∗ ZR Z c ci ∗ OW c l)
      ⊢ iprop(((idsI c fI qI ∗ tabI c fE ∗ maskI c fM qM ∗ gS c ci ∗ ZA Z c ci ∗ OW c l) -∗ Q ⟨⟩)
        -∗ wpc c (gather ci) Q) := by
  unfold ctx ZA
  iintro ⟨⟨-, #HL⟩, HI, HE, HM, HG, HZ, HR, HO⟩ Hk
  iapply (gather_spec c fI hI fE ci fM l qI qM Q) $$ [HI HE HM HG HZ HO]
  · iframe #; iframe
  rw [hZ]
  iintro ⟨HI, HE, HM, HG, HZ, HO⟩
  iapply Hk
  iframe

theorem first_Z (l : List Tr) (qM : PosShare TreeShare) (hZ : ∀ ci, Zval c fI hI fE ci fM = Z c ci) (Q : PUnit → sProp 𝕄) :
    iprop(ctx Z K ∗ issued c fI hI fE 0 ∗ OW c l)
      ⊢ iprop(((tabI c fE ∗ arrived c fI hI fE 0 ∗ OW c l) -∗ Q ⟨⟩) -∗ wpc c (waitLoop 0) Q) := by
  unfold ctx
  iintro ⟨⟨-, #HL⟩, HG, HO⟩ Hk
  iapply (waitC_spec c fI hI fE 0 l Q) $$ [HG HO]
  · iframe #; iframe
  iexact Hk

set_option maxHeartbeats 4000000 in
/-- The body runs from what it starts from to what it leaves, all pieces of the result written. -/
theorem bodyOn_spec (qI qM : PosShare TreeShare) (hZ : ∀ ci, Zval c fI hI fE ci fM = Z c ci) (Q : PUnit → sProp 𝕄) :
    iprop(ctx Z K ∗ preI Z c ∗ (idsI c fI qI ∗ tabI c fE ∗ maskI c fM qM) ∗ outI Z c s0 ∗ OWt c (O₀ c))
      ⊢ iprop(((postI Z c ∗ (idsI c fI qI ∗ tabI c fE ∗ maskI c fM qM) ∗ outI Z c s12 ∗ OW c []) -∗ Q ⟨⟩)
        -∗ wpc c (bodyOn c) Q) := by
  unfold bodyOn preI postI
  simp only [wpc_bind]
  iintro ⟨#HC, ⟨HSg, HB, HSt, HRi, HKp, ⟨HZ0, HZ3, HZ4, HQ0⟩, HG⟩, ⟨HI, HE, HM⟩, HF, HO⟩ Hk
  iapply (signals_spec Z K c _) $$ [HSg HO]
  · iframe #; iframe
  iintro HO
  ihave HG := (Entails.of_eq (fin4 _)) $$ HG
  icases HG with ⟨HG0, HG1, HG2, HG3⟩
  iapply (issueC_spec c fI hI fE 0 qI _) $$ [HI HE HG0]
  · iframe
  iintro ⟨HI, HG0⟩
  iapply (bar_spec Z K c _) $$ [HB HO]
  · iframe #; iframe
  iintro ⟨HB, HP, HO⟩
  ihave HSI := (sends_ready Z c) $$ [HSt HP]
  · iframe
  ihave HCh := (chunks_ready Z c) $$ [HSI HRi HKp HZ3 HZ4]
  · iframe
  icases HCh with ⟨HZR, HQR⟩
  ihave HZR := (Entails.of_eq (fin4 _)) $$ HZR
  icases HZR with ⟨HR0, HR1, HR2, HR3⟩
  ihave HQR := (Entails.of_eq (fin4 _)) $$ HQR
  icases HQR with ⟨HT0, HT1, HT2, HT3⟩
  ihave HZ0 := (Entails.of_eq (fin4 _)) $$ HZ0
  icases HZ0 with ⟨Hz0, Hz1, Hz2, Hz3⟩
  ihave HQ0 := (Entails.of_eq (fin4 _)) $$ HQ0
  icases HQ0 with ⟨Hq0, Hq1, Hq2, Hq3⟩
  rw [sends_eq]
  iapply (first_Z Z K c fI hI fE fM _ qM hZ _) $$ [HG0 HO]
  · iframe #; iframe
  iintro ⟨HE, HG0, HO⟩
  iapply (fill_spec c fI hI fE 0 fM qM _) $$ [HG0 HM Hz0]
  · iframe
  rw [hZ]
  iintro ⟨HG0, HM, Hz0⟩
  iapply (edge_spec Z K 0 (l0 (zp c)) _) $$ [Hz0 HR0 HO]
  · unfold ZA; iframe #; iframe
  iintro ⟨HR0, HO⟩
  iapply (gather_Z Z K c fI hI fE fM 1 _ qI qM hZ _) $$ [HI HE HM HG1 Hz1 HR1 HO]
  · iframe #; iframe
  iintro ⟨HI, HE, HM, HG1, HR1, HO⟩
  unfold l0
  iapply (edge_spec Z K 1 (l1 (zp c)) _) $$ [HR1 HO]
  · iframe #; iframe
  iintro ⟨HR1, HO⟩
  unfold l1
  iapply (mid_spec Z K 0 (l2 (zp c)) (low_mid0 c) _) $$ [HR0 HO]
  · iframe #; iframe
  iintro ⟨HR0, HO⟩
  iapply (gather_Z Z K c fI hI fE fM 2 _ qI qM hZ _) $$ [HI HE HM HG2 Hz2 HR2 HO]
  · iframe #; iframe
  iintro ⟨HI, HE, HM, HG2, HR2, HO⟩
  unfold l2
  iapply (edge_spec Z K 2 (l3 (zp c)) _) $$ [HR2 HO]
  · iframe #; iframe
  iintro ⟨HR2, HO⟩
  unfold l3
  iapply (mid_spec Z K 1 (l4 (zp c)) (low_mid1 c) _) $$ [HR1 HO]
  · iframe #; iframe
  iintro ⟨HR1, HO⟩
  iapply (gather_Z Z K c fI hI fE fM 3 _ qI qM hZ _) $$ [HI HE HM HG3 Hz3 HR3 HO]
  · iframe #; iframe
  iintro ⟨HI, HE, HM, HG3, HR3, HO⟩
  unfold l4
  iapply (edge_spec Z K 3 (l5 (zp c)) _) $$ [HR3 HO]
  · iframe #; iframe
  iintro ⟨HR3, HO⟩
  unfold l5
  iapply (mid_spec Z K 2 (l6 (zp c)) (low_mid2 c) _) $$ [HR2 HO]
  · iframe #; iframe
  iintro ⟨HR2, HO⟩
  unfold l6
  iapply (start_spec Z K c 0 s0 (l7 (zp c)) _ (low_start0 c)) $$ [HR0 Hq0 HT0 HF HO]
  · iframe #; iframe
  iintro ⟨HR0, HT0, HF, HO⟩
  unfold l7
  iapply (mid_spec Z K 3 l8 (low_mid3 c) _) $$ [HR3 HO]
  · iframe #; iframe
  iintro ⟨HR3, HO⟩
  unfold l8
  iapply (start_spec Z K c 1 s1 l9 _ (low_start1 c)) $$ [HR1 Hq1 HT1 HF HO]
  · unfold s1; iframe #; iframe
  iintro ⟨HR1, HT1, HF, HO⟩
  unfold l9
  iapply (diagE_spec Z K c 0 s2 l10 _ rfl (low_diag0 c)) $$ [HT0 HF HO]
  · unfold s2; iframe #; iframe
  iintro ⟨HT0, HF, HO⟩
  unfold l10
  iapply (start_spec Z K c 2 s3 l11 _ (low_start2 c)) $$ [HR2 Hq2 HT2 HF HO]
  · unfold s3; iframe #; iframe
  iintro ⟨HR2, HT2, HF, HO⟩
  unfold l11
  iapply (diagO_spec Z K c 1 s4 l12 _ rfl (low_diag1 c)) $$ [HT1 HF HO]
  · unfold s4; iframe #; iframe
  iintro ⟨HT1, HF, HO⟩
  unfold l12
  iapply (start_spec Z K c 3 s5 l13 _ (low_start3 c)) $$ [HR3 Hq3 HT3 HF HO]
  · unfold s5; iframe #; iframe
  iintro ⟨HR3, HT3, HF, HO⟩
  unfold l13
  iapply (diagE_spec Z K c 2 s6 l14 _ rfl (low_diag2 c)) $$ [HT2 HF HO]
  · unfold s6; iframe #; iframe
  iintro ⟨HT2, HF, HO⟩
  unfold l14
  iapply (diagO_spec Z K c 3 s7 l15 _ rfl (low_diag3 c)) $$ [HT3 HF HO]
  · unfold s7; iframe #; iframe
  iintro ⟨HT3, HF, HO⟩
  unfold l15
  iapply (finE_spec Z K c 0 s8 _ rfl) $$ [HT0 HF HO]
  · unfold s8; iframe #; iframe
  iintro ⟨HT0, HF, HO⟩
  iapply (finO_spec Z K c 1 s9 _ rfl) $$ [HT1 HF HO]
  · unfold s9; iframe #; iframe
  iintro ⟨HT1, HF, HO⟩
  iapply (finE_spec Z K c 2 s10 _ rfl) $$ [HT2 HF HO]
  · unfold s10; iframe #; iframe
  iintro ⟨HT2, HF, HO⟩
  iapply (finO_spec Z K c 3 s11 _ rfl) $$ [HT3 HF HO]
  · unfold s11; iframe #; iframe
  iintro ⟨HT3, HF, HO⟩
  iapply Hk
  rw [fin4 (ZD Z c), fin4 (QD Z c), fin4 (gS (F := F) c)]
  unfold s12
  iframe

end Cert.KernelIdeal.Body

end
-- ==== Proof.Buffers.lean ====
/-
The scratch buffers whole and in the pieces that the body uses.
-/
module

public import proofs.«01_k».proof.Proof.BodySpec
public import Idealize.ShloMosaic.Lib.ValueLayout

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (c : Dev nD)

/-! ## Buffers and their pieces -/

section Pieces

variable {ℓ : Loc nD τ sig} {I : Type} [Fintype I] [DecidableEq I] (P : I → Finset (Idx ℓ)) (hd : ∀ i j, i ≠ j → Disjoint (P i) (P j))
  (hu : Finset.univ.biUnion P = Finset.univ)

include hd hu

/-- A buffer is cut into pieces that cover it; -/
theorem cut (f : Buf (Elt F) ℓ) :
    (ℓ ↦[Finset.univ]{fullShare} f : sProp 𝕄) ⊢ bigSep Finset.univ fun i => iprop(∃ f : Buf (Elt F) ℓ, ℓ ↦[P i]{fullShare} f) := by
  rw [← hu, pointsTo_biUnion Finset.univ P fun i _ j _ h => hd i j h]
  refine big_mono _ fun i => ?_
  iintro H
  iexists f; iexact H

/-- and the pieces make the buffer again. -/
theorem glue :
    (bigSep Finset.univ fun i => iprop(∃ f : Buf (Elt F) ℓ, ℓ ↦[P i]{fullShare} f) : sProp 𝕄)
      ⊢ iprop(∃ f : Buf (Elt F) ℓ, ℓ ↦[Finset.univ]{fullShare} f) := by
  iintro H
  ihave H := (bigSep_exists_pi (Y := fun _ : I => Buf (Elt F) ℓ) Finset.univ (fun i f => iprop(ℓ ↦[P i]{fullShare} f))) $$ H
  icases H with ⟨%fs, H⟩
  ihave H := (pointsTo_biUnion_join Finset.univ P fs (Classical.arbitrary _) fun i _ j _ h => hd i j h) $$ H
  icases H with ⟨%g, -, H⟩
  rw [hu]
  iexists g; iexact H

end Pieces

/-! ### The slots of the two exchange buffers -/

theorem zs_disjoint (p p' : Fin 4 × Fin 5) (h : p ≠ p') : Disjoint (zs p.1 p.2).view.set (zs p'.1 p'.2).view.set := by
  rw [zs_set, zs_set, View.set_slice, View.set_slice]
  refine (Finset.disjoint_map _).mpr ?_
  by_cases h0 : p.1 = p'.1
  · have h1 : p.2.val ≠ p'.2.val := fun e => h (Prod.ext h0 (Fin.ext e))
    refine Rect.unit_disjoint (s := S4x5x128x1024) 1 ?_
    show p.2.val + 1 ≤ p'.2.val ∨ p'.2.val + 1 ≤ p.2.val
    omega
  · have h1 : p.1.val ≠ p'.1.val := fun e => h0 (Fin.ext e)
    refine Rect.unit_disjoint (s := S4x5x128x1024) 0 ?_
    show p.1.val + 1 ≤ p'.1.val ∨ p'.1.val + 1 ≤ p.1.val
    omega
theorem qs_disjoint (p p' : Fin 4 × Fin 4) (h : p ≠ p') : Disjoint (qs p.1 p.2).view.set (qs p'.1 p'.2).view.set := by
  rw [qs_set, qs_set, View.set_slice, View.set_slice]
  refine (Finset.disjoint_map _).mpr ?_
  by_cases h0 : p.1 = p'.1
  · have h1 : p.2.val ≠ p'.2.val := fun e => h (Prod.ext h0 (Fin.ext e))
    refine Rect.unit_disjoint (s := S4x4x128x1024) 1 ?_
    show p.2.val + 1 ≤ p'.2.val ∨ p'.2.val + 1 ≤ p.2.val
    omega
  · have h1 : p.1.val ≠ p'.1.val := fun e => h0 (Fin.ext e)
    refine Rect.unit_disjoint (s := S4x4x128x1024) 0 ?_
    show p.1.val + 1 ≤ p'.1.val ∨ p'.1.val + 1 ≤ p.1.val
    omega
theorem gs_disjoint (ci ci' : Fin 4) (h : ci ≠ ci') : Disjoint (gB.access (gR ci)).set (gB.access (gR ci')).set := by
  have h1 : ci.val ≠ ci'.val := fun e => h (Fin.ext e)
  rw [View.set_slice, View.set_slice]
  refine (Finset.disjoint_map _).mpr (Rect.unit_disjoint (s := S4x128x1024) 0 ?_)
  show ci.val + 1 ≤ ci'.val ∨ ci'.val + 1 ≤ ci.val
  omega

theorem zs_cover : Finset.univ.biUnion (fun p : Fin 4 × Fin 5 => (zs p.1 p.2).view.set) = (Finset.univ : Finset S4x5x128x1024.Idx) := by
  refine Finset.eq_univ_of_forall fun i => Finset.mem_biUnion.mpr ⟨(i 0, i 1), Finset.mem_univ _, ?_⟩
  rw [zs_set, View.set_slice]
  refine Finset.mem_map.mpr ⟨i, Rect.mem_set_unit.2 fun a => ?_, rfl⟩
  match a with
  | 0 => exact ⟨Nat.le_refl _, Nat.lt_succ_self _⟩
  | 1 => exact ⟨Nat.le_refl _, Nat.lt_succ_self _⟩
  | 2 => exact ⟨Nat.zero_le _, (i 2).isLt.trans_eq (Nat.zero_add _).symm⟩
  | 3 => exact ⟨Nat.zero_le _, (i 3).isLt.trans_eq (Nat.zero_add _).symm⟩
theorem qs_cover : Finset.univ.biUnion (fun p : Fin 4 × Fin 4 => (qs p.1 p.2).view.set) = (Finset.univ : Finset S4x4x128x1024.Idx) := by
  refine Finset.eq_univ_of_forall fun i => Finset.mem_biUnion.mpr ⟨(i 0, i 1), Finset.mem_univ _, ?_⟩
  rw [qs_set, View.set_slice]
  refine Finset.mem_map.mpr ⟨i, Rect.mem_set_unit.2 fun a => ?_, rfl⟩
  match a with
  | 0 => exact ⟨Nat.le_refl _, Nat.lt_succ_self _⟩
  | 1 => exact ⟨Nat.le_refl _, Nat.lt_succ_self _⟩
  | 2 => exact ⟨Nat.zero_le _, (i 2).isLt.trans_eq (Nat.zero_add _).symm⟩
  | 3 => exact ⟨Nat.zero_le _, (i 3).isLt.trans_eq (Nat.zero_add _).symm⟩
theorem gs_cover : Finset.univ.biUnion (fun ci : Fin 4 => (gB.access (gR ci)).set) = (Finset.univ : Finset S4x128x1024.Idx) := by
  refine Finset.eq_univ_of_forall fun i => Finset.mem_biUnion.mpr ⟨i 0, Finset.mem_univ _, ?_⟩
  rw [View.set_slice]
  refine Finset.mem_map.mpr ⟨i, Rect.mem_set_unit.2 fun a => ?_, rfl⟩
  match a with
  | 0 => exact ⟨Nat.le_refl _, Nat.lt_succ_self _⟩
  | 1 => exact ⟨Nat.zero_le _, (i 1).isLt.trans_eq (Nat.zero_add _).symm⟩
  | 2 => exact ⟨Nat.zero_le _, (i 2).isLt.trans_eq (Nat.zero_add _).symm⟩

/-- A whole scratch buffer, at some contents. -/
def anyB (b : Ref sig .tc) : sProp 𝕄 := iprop(∃ f : Buf (Elt F) ((c : Thread nD τ).loc b), ((c : Thread nD τ).loc b) ↦{fullShare} f)

theorem z_cut : (anyB c cc0_scratch2 : sProp 𝕄) ⊢ bigSep Finset.univ fun p : Fin 4 × Fin 5 => any2 (F := F) c (zs p.1 p.2) := by
  unfold anyB any2
  iintro ⟨%f, H⟩
  iapply (cut (ℓ := (c : Thread nD τ).loc cc0_scratch2) (fun p : Fin 4 × Fin 5 => (zs p.1 p.2).view.set) zs_disjoint zs_cover f)
  iexact H
theorem z_glue : (bigSep Finset.univ fun p : Fin 4 × Fin 5 => any2 (F := F) c (zs p.1 p.2) : sProp 𝕄) ⊢ anyB c cc0_scratch2 := by
  unfold anyB any2
  exact glue (ℓ := (c : Thread nD τ).loc cc0_scratch2) (fun p : Fin 4 × Fin 5 => (zs p.1 p.2).view.set) zs_disjoint zs_cover
theorem q_cut : (anyB c cc0_scratch3 : sProp 𝕄) ⊢ bigSep Finset.univ fun p : Fin 4 × Fin 4 => any2 (F := F) c (qs p.1 p.2) := by
  unfold anyB any2
  iintro ⟨%f, H⟩
  iapply (cut (ℓ := (c : Thread nD τ).loc cc0_scratch3) (fun p : Fin 4 × Fin 4 => (qs p.1 p.2).view.set) qs_disjoint qs_cover f)
  iexact H
theorem q_glue : (bigSep Finset.univ fun p : Fin 4 × Fin 4 => any2 (F := F) c (qs p.1 p.2) : sProp 𝕄) ⊢ anyB c cc0_scratch3 := by
  unfold anyB any2
  exact glue (ℓ := (c : Thread nD τ).loc cc0_scratch3) (fun p : Fin 4 × Fin 4 => (qs p.1 p.2).view.set) qs_disjoint qs_cover

/-- The gather buffer by chunks, each with its semaphore at zero. -/
theorem g_cut :
    iprop(anyB c cc0_scratch0 ∗ bigSep Finset.univ fun ci : Fin 4 => semVal ((c : Thread nD τ), SemLoc.dma (gsm ci)) 0)
      ⊢ (bigSep Finset.univ (gS (F := F) c) : sProp 𝕄) := by
  unfold anyB gS
  rw [bigSep_sep']
  iintro ⟨⟨%f, H⟩, HS⟩
  isplitr [HS]
  · iapply (cut (ℓ := (c : Thread nD τ).loc cc0_scratch0) (fun ci : Fin 4 => (gB.access (gR ci)).set) gs_disjoint gs_cover f)
    iexact H
  iexact HS
theorem g_glue :
    (bigSep Finset.univ (gS (F := F) c) : sProp 𝕄)
      ⊢ iprop(anyB c cc0_scratch0 ∗ bigSep Finset.univ fun ci : Fin 4 => semVal ((c : Thread nD τ), SemLoc.dma (gsm ci)) 0) := by
  unfold anyB gS
  rw [bigSep_sep']
  iintro ⟨H, HS⟩
  isplitr [HS]
  · iapply (glue (ℓ := (c : Thread nD τ).loc cc0_scratch0) (fun ci : Fin 4 => (gB.access (gR ci)).set) gs_disjoint gs_cover)
    iexact H
  iexact HS

/-! ### What the body needs of them, and gives back -/

/-- The slots of the z buffer and of the quarter buffer, as the body uses them. -/
theorem slots_cut :
    iprop((bigSep Finset.univ fun p : Fin 4 × Fin 5 => any2 (F := F) c (zs p.1 p.2)) ∗ bigSep Finset.univ fun p : Fin 4 × Fin 4 => any2 (F := F) c (qs p.1 p.2))
      ⊢ (iprop((bigSep Finset.univ fun x : Tr => any2 (F := F) c (dstM x))
        ∗ (bigSep Finset.univ (fun ci : Fin 4 => any2 (F := F) c (zs ci 0)) ∗ bigSep Finset.univ (fun ci : Fin 4 => any2 (F := F) c (zs ci 3))
        ∗ bigSep Finset.univ (fun ci : Fin 4 => any2 (F := F) c (zs ci 4)) ∗ bigSep Finset.univ (fun ci : Fin 4 => any2 (F := F) c (qs ci 0)))) : sProp 𝕄) := by
  simp only [bigSep_univ_prod (α := Fin 4) (β := Fin 5), bigSep_univ_prod (α := Fin 4) (β := Fin 4), bigSep_univ_prod (α := Fin 5) (β := Fin 4)]
  rw [fin5 fun s => bigSep Finset.univ fun ci : Fin 4 => any2 (F := F) c (dstM (s, ci))]
  have h5 : ∀ ci : Fin 4, bigSep Finset.univ (fun s : Fin 5 => any2 (F := F) c (zs ci s)) = _ := fun ci => fin5 fun s => any2 (F := F) c (zs ci s)
  have h4 : ∀ ci : Fin 4, bigSep Finset.univ (fun s : Fin 4 => any2 (F := F) c (qs ci s)) = _ := fun ci => fin4 fun s => any2 (F := F) c (qs ci s)
  simp only [h5, h4, bigSep_sep']
  iintro ⟨⟨A0, A1, A2, A3, A4⟩, B0, B1, B2, B3⟩
  isplitl [A1 A2 B1 B2 B3]
  · isplitl [A1]; · iexact A1
    isplitl [A2]; · iexact A2
    isplitl [B1]; · iexact B1
    isplitl [B2]; · iexact B2
    iexact B3
  isplitl [A0]; · iexact A0
  isplitl [A3]; · iexact A3
  isplitl [A4]; · iexact A4
  iexact B0

theorem two (Φ : Bool → sProp 𝕄) : bigSep Finset.univ Φ = iprop(Φ true ∗ Φ false) :=
  bigSep_univ_eq_bigSepL [true, false] (by decide) (by decide) Φ

/-- The slots and the cells back, when the body is over. -/
theorem slots_glue (Z : Dev nD → Fin 4 → V2 F) :
    iprop(bigSep Finset.univ (ZD Z c) ∗ bigSep Finset.univ (QD Z c))
      ⊢ (iprop((bigSep Finset.univ fun p : Fin 4 × Fin 5 => any2 (F := F) c (zs p.1 p.2)) ∗ (bigSep Finset.univ fun p : Fin 4 × Fin 4 => any2 (F := F) c (qs p.1 p.2))
        ∗ bigSep Finset.univ fun b : Cl => rest Z c b) : sProp 𝕄) := by
  rw [bigSep_univ_prod (α := Bool) (β := Tr), two
    fun b : Bool => bigSep Finset.univ fun x : Tr => rest Z c (b, x)]
  simp only [bigSep_univ_prod (α := Fin 4) (β := Fin 5), bigSep_univ_prod (α := Fin 4) (β := Fin 4), bigSep_univ_prod (α := Fin 5) (β := Fin 4)]
  rw [fin5 fun s => bigSep Finset.univ fun ci : Fin 4 => rest Z c (true, (s, ci)), fin5 fun s => bigSep Finset.univ fun ci : Fin 4 => rest Z c (false, (s, ci))]
  have h5 : ∀ ci : Fin 4, bigSep Finset.univ (fun s : Fin 5 => any2 (F := F) c (zs ci s)) = _ := fun ci => fin5 fun s => any2 (F := F) c (zs ci s)
  have h4 : ∀ ci : Fin 4, bigSep Finset.univ (fun s : Fin 4 => any2 (F := F) c (qs ci s)) = _ := fun ci => fin4 fun s => any2 (F := F) c (qs ci s)
  unfold ZD QD
  simp only [h5, h4, bigSep_sep']
  iintro ⟨⟨A0, A1, A2, A3, A4, S0, S1, R0, R1⟩, B0, B1, B2, B3, S2, S3, S4, R2, R3, R4⟩
  isplitl [A0 A1 A2 A3 A4]
  · isplitl [A0]; · iexact A0
    isplitl [A1]; · iexact A1
    isplitl [A2]; · iexact A2
    isplitl [A3]; · iexact A3
    iexact A4
  isplitl [B0 B1 B2 B3]
  · isplitl [B0]; · iexact B0
    isplitl [B1]; · iexact B1
    isplitl [B2]; · iexact B2
    iexact B3
  isplitl [R0 R1 R2 R3 R4]
  · isplitl [R0]; · iexact R0
    isplitl [R1]; · iexact R1
    isplitl [R2]; · iexact R2
    isplitl [R3]; · iexact R3
    iexact R4
  isplitl [S0]; · iexact S0
  isplitl [S1]; · iexact S1
  isplitl [S2]; · iexact S2
  isplitl [S3]; · iexact S3
  iexact S4

/-! ### The result -/

/-- The device that holds quarter `q`, at `c`'s place along z. -/
def qdev (q : Fin 4) (c : Dev nD) : Dev nD := ⟨4 * q.val + c.val % 4, by have := q.isLt; simp only [nD]; omega⟩
theorem pdev_qdev : ∀ (c : Dev nD) (q : Fin 4), ∃ r : Fin 4, qd (pdev r c) = q.val ∧ pdev r c = qdev q c := by decide

/-- The quarter, the chunk and the row that a row of the result is. -/
def rowQ (i : Fin 2048) : Fin 4 := ⟨i.val / 512, by have := i.isLt; omega⟩
def rowC (i : Fin 2048) : Fin 4 := ⟨i.val / 128 % 4, Nat.mod_lt _ (by decide)⟩
def rowR (i : Fin 2048) : Fin 128 := ⟨i.val % 128, Nat.mod_lt _ (by decide)⟩

/-- The whole result on device `c`: every chunk of every quarter, summed over its line. -/
def outVal (Z : Dev nD → Fin 4 → V2 F) : FVec F S2048x1024 .f32 := fun i =>
  extf .f32 (total Z (rowC (i 0)) (qdev (rowQ (i 0)) c)) bitsLt_bf16_f32 (ix2 (n0 := 128) (n1 := 1024) (rowR (i 0)) (i 1))

theorem out_emb (r ci : Fin 4) (i : S2048x1024.Idx) (hr : qd (pdev r c) = (rowQ (i 0)).val) (hc : ci = rowC (i 0)) :
    (oR r c ci).emb (ix2 (n0 := 128) (n1 := 1024) (rowR (i 0)) (i 1)) = i := by
  subst hc
  have h0 := oOff_row r c (rowC (i 0))
  have h1 := oOff_col r c (rowC (i 0))
  rw [hr] at h0
  funext a
  apply Fin.ext
  match a with
  | ⟨0, _⟩ =>
    show oOff r c (rowC (i 0)) 0 + 1 * ((i 0).val % 128) = (i 0).val
    rw [h0]
    show 128 * (4 * ((i 0).val / 512) + (i 0).val / 128 % 4) + 1 * ((i 0).val % 128) = (i 0).val
    omega
  | ⟨1, _⟩ =>
    show oOff r c (rowC (i 0)) 1 + 1 * (i 1).val = (i 1).val
    rw [h1]; omega

theorem out_full (Z : Dev nD → Fin 4 → V2 F) :
    outI Z c s12 ⊢ (((c : Thread nD τ).loc cc0_stg2_0) ↦{fullShare} outVal c Z : sProp 𝕄) := by
  unfold outI
  rw [s12_all]
  iintro ⟨%f, %h, H⟩
  have e : f = outVal c Z := by
    funext i
    obtain ⟨r, hr, hd⟩ := pdev_qdev c (rowQ (i 0))
    have hp := congrFun (h (r, rowC (i 0)) (Finset.mem_univ _)) (ix2 (n0 := 128) (n1 := 1024) (rowR (i 0)) (i 1))
    have he := out_emb c r (rowC (i 0)) i hr rfl
    have hf : f i = pval Z c (r, rowC (i 0)) (ix2 (n0 := 128) (n1 := 1024) (rowR (i 0)) (i 1)) := by
      rw [← hp]
      exact congrArg f he.symm
    rw [hf]
    unfold pval outVal
    rw [hd]
  subst e
  rw [View.set_whole]
  iexact H

end Cert.KernelIdeal.Body

end
-- ==== Proof.Ghost.lean ====
/-
The launch: the cells, the tokens and the credits, and what of them each device is dealt.
-/
module

public import proofs.«01_k».proof.Proof.Buffers
public import Idealize.ShloMosaic.Lib.Pipeline.RegionTalk

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (Z : Dev nD → Fin 4 → V2 F)

/-! ## The kernel's own semaphores -/

/-- Those of the gather, those of the transfers, and the eight that nothing uses. -/
abbrev OK : Type := Fin 4 ⊕ (Cl ⊕ (Bool × Fin 4))
/-- An unused one: second column of the y pair for an even chunk, of the x pair for an odd one. -/
def uS (b : Bool × Fin 4) : DmaSem sig :=
  if odd b.2 then (if b.1 then sm cc0_scratch9 b.2 1 else sm cc0_scratch8 b.2 1)
  else (if b.1 then sm cc0_scratch7 b.2 1 else sm cc0_scratch6 b.2 1)
def osem (k : OK) : SemLoc sig :=
  match k with
  | .inl ci => .dma (gsm ci)
  | .inr (.inl b) => .dma (cS b)
  | .inr (.inr b) => .dma (uS b)
theorem osemFacts : Pipeline.OwnSemFacts spec0 osem := by decide +kernel

/-- The unused ones and the gather's, at rest. -/
def idle (c : Dev nD) : sProp 𝕄 :=
  iprop((bigSep Finset.univ fun ci : Fin 4 => semVal ((c : Thread nD τ), SemLoc.dma (gsm ci)) 0)
    ∗ bigSep Finset.univ fun b : Bool × Fin 4 => semVal ((c : Thread nD τ), SemLoc.dma (uS b)) 0)

theorem ownSems_eq (c : Dev nD) :
    (Pipeline.ownSems0 osem c : sProp 𝕄)
      = iprop((bigSep Finset.univ fun ci : Fin 4 => semVal ((c : Thread nD τ), SemLoc.dma (gsm ci)) 0)
        ∗ (bigSep Finset.univ fun b : Cl => semVal (cC c b) 0)
        ∗ bigSep Finset.univ fun b : Bool × Fin 4 => semVal ((c : Thread nD τ), SemLoc.dma (uS b)) 0) := by
  unfold Pipeline.ownSems0
  rw [bigSep_univ_sum, bigSep_univ_sum]
  rfl

/-! ## The cells and the tokens -/

def barEmb : Dev nD ↪ GSem nD τ sig := ⟨fun c => bC c, fun _ _ h => congrArg (fun g : GSem nD τ sig => g.1.1) h⟩
theorem dma_inj {n n' : DmaSem sig} (h : (SemLoc.dma n : SemLoc sig) = .dma n') : n = n' := by cases h; rfl
def scEmb : Dev nD × Cl ↪ GSem nD τ sig :=
  ⟨fun cb => cC cb.1 cb.2, fun _ _ h => Prod.ext (congrArg (fun g : GSem nD τ sig => g.1.1) h) (cS_inj (dma_inj (congrArg Prod.snd h)))⟩

abbrev barCells : Finset (GSem nD τ sig) := Finset.univ.map barEmb
abbrev scCells : Finset (GSem nD τ sig) := Finset.univ.map scEmb

theorem bar_map (Φ : GSem nD τ sig → sProp 𝕄) : bigSep barCells Φ ⊢ bigSep Finset.univ fun c : Dev nD => Φ (bC c) :=
  Entails.of_eq (bigSep_map (s := Finset.univ) barEmb (Φ := Φ))
theorem sc_map (Φ : GSem nD τ sig → sProp 𝕄) : bigSep scCells Φ ⊢ bigSep Finset.univ fun c : Dev nD => bigSep Finset.univ fun b : Cl => Φ (cC c b) :=
  Entails.of_eq (by rw [bigSep_map, bigSep_univ_prod]; rfl)

/-- A duty's token: unit `j` of a barrier cell, or a landing on a cell of the family. -/
def tokAt (ck : Dev nD × (Fin 4 ⊕ Cl)) : GSem nD τ sig × ℕ × Fin 4 :=
  match ck.2 with
  | .inl j => (bC ck.1, 0, j)
  | .inr b => (cC ck.1 b, 0, 0)
theorem tokAt_inj : Function.Injective tokAt := by
  rintro ⟨c, k⟩ ⟨c', k'⟩ h
  have hg : (tokAt (c, k)).1 = (tokAt (c', k')).1 := congrArg Prod.fst h
  rcases k with j | b <;> rcases k' with j' | b'
  · have hc : c = c' := congrArg (fun g : GSem nD τ sig => g.1.1) hg
    have hj : j = j' := congrArg (fun t : GSem nD τ sig × ℕ × Fin 4 => t.2.2) h
    rw [hc, hj]
  · exact absurd (show (SemLoc.reg barrier0 : SemLoc sig) = .dma (cS b') from congrArg Prod.snd hg) (fun e => by cases e)
  · exact absurd (show (SemLoc.dma (cS b) : SemLoc sig) = .reg barrier0 from congrArg Prod.snd hg) (fun e => by cases e)
  · have hc : c = c' := congrArg (fun g : GSem nD τ sig => g.1.1) hg
    have hb : b = b' := cS_inj (dma_inj (congrArg Prod.snd hg))
    rw [hc, hb]
def toks : Finset (GSem nD τ sig × ℕ × Fin 4) := Finset.univ.map ⟨tokAt, tokAt_inj⟩

theorem disjoint_cells : Disjoint (barCells : Finset (GSem nD τ sig)) scCells := by
  rw [Finset.disjoint_left]
  rintro g h₁ h₂
  obtain ⟨c, -, rfl⟩ := Finset.mem_map.mp h₁
  obtain ⟨cb, -, h⟩ := Finset.mem_map.mp h₂
  exact absurd (show (SemLoc.dma (cS cb.2) : SemLoc sig) = .reg barrier0 from congrArg Prod.snd h) (fun e => by cases e)

/-- The launch element. -/
def u₀ : UU :=
  (initOf (Pipeline.cells cfgs cellOf_inj) (Pipeline.launchToks cfgs cellOf_inj), (launchOf barCells scCells toks, 1))

/-- A resource on one device, nothing on the others. -/
def onDev (X : sProp 𝕄) (c : Dev nD) : sProp 𝕄 := if c = 0 then X else iprop(emp)
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp
/-- The protocol's launch element, until the launch. -/
def G : Dev nD → sProp 𝕄 := onDev (BI.own (ER (launchOf barCells scCells toks)))

theorem fund : (ownU u₀ : sProp 𝕄) ⊢ |={Set.univ}=> iprop(BI.own (EP (initOf (Pipeline.cells cfgs cellOf_inj) (Pipeline.launchToks cfgs cellOf_inj)))
    ∗ bigSep Finset.univ (G (F := F))) := by
  unfold u₀ G
  iintro Hu
  ihave H := (ownU_pair _ _) $$ Hu
  icases H with ⟨HP, HX⟩
  ihave HX := (own_pair_emb embR _ _) $$ HX
  icases HX with ⟨HX, -⟩
  imodintro
  isplitl [HP]; · iexact HP
  rw [bigSep_onDev]; iexact HX

/-! ## What the launch deals a device -/

/-- Its position on its barrier cell, the rights to open its cells, the tokens of the duties it pays. -/
def linear (c : Dev nD) : sProp 𝕄 :=
  iprop(atPos ER (bC c) 0 ∅ 0 ∗ (bigSep Finset.univ fun b : Cl => openTok ER (cC c b))
    ∗ (bigSep Finset.univ fun j : Fin 4 => dutyTok ER (bC (barTo c j)) 0 j)
    ∗ (bigSep Finset.univ fun x : Tr => dutyTok ER (rC (dst c x) x) 0 0)
    ∗ bigSep Finset.univ fun x : Tr => dutyTok ER (sC c x) 0 0)
/-- The records, with round 0 of every barrier cell reached. -/
def records (K : GSem nD τ sig → ℕ) : sProp 𝕄 := iprop(recs Z K ∗ bigSep Finset.univ fun c : Dev nD => reached ER (bC c) 0)
instance records_persistent (K : GSem nD τ sig → ℕ) : BI.Persistent (records Z K) := by unfold records; infer_instance
/-- Its credits. -/
def credits (c : Dev nD) : sProp 𝕄 :=
  iprop(cred (tallyAt (bC c) () 4) ∗ bigSep Finset.univ fun x : Tr => if actR c x = true then cred (tallyAt (rC c x) () N) else iprop(emp))
/-- All of it. -/
def dealt (c : Dev nD) : sProp 𝕄 := iprop((∃ K, records Z K ∗ linear c) ∗ credits c)

theorem toks_eq :
    bigSep toks (fun t => (dutyTok ER t.1 t.2.1 t.2.2 : sProp 𝕄))
      = iprop((bigSep Finset.univ fun c : Dev nD => bigSep Finset.univ fun j : Fin 4 => dutyTok ER (bC c) 0 j)
        ∗ (bigSep Finset.univ fun c : Dev nD => bigSep Finset.univ fun x : Tr => dutyTok ER (rC c x) 0 0)
        ∗ bigSep Finset.univ fun c : Dev nD => bigSep Finset.univ fun x : Tr => dutyTok ER (sC c x) 0 0) := by
  unfold toks
  rw [bigSep_map, bigSep_univ_prod, ← bigSep_sep', ← bigSep_sep']
  refine bigSep_congr fun c _ => ?_
  rw [bigSep_univ_sum, bigSep_univ_prod (α := Bool) (β := Tr), two]
  rfl

/-- Every token goes to the device that pays with it. -/
theorem toks_around :
    bigSep toks (fun t => (dutyTok ER t.1 t.2.1 t.2.2 : sProp 𝕄))
      ⊢ bigSep Finset.univ fun c : Dev nD => iprop((bigSep Finset.univ fun j : Fin 4 => dutyTok ER (bC (barTo c j)) 0 j)
        ∗ (bigSep Finset.univ fun x : Tr => dutyTok ER (rC (dst c x) x) 0 0)
        ∗ bigSep Finset.univ fun x : Tr => (dutyTok ER (sC c x) 0 0 : sProp 𝕄)) := by
  rw [toks_eq, bigSep_sep', bigSep_sep']
  have h1 : (bigSep Finset.univ fun c : Dev nD => bigSep Finset.univ fun j : Fin 4 => (dutyTok ER (bC c) 0 j : sProp 𝕄))
      = bigSep Finset.univ fun c : Dev nD => bigSep Finset.univ fun j : Fin 4 => dutyTok ER (bC (barTo c j)) 0 j := by
    rw [bigSep_univ_comm, bigSep_univ_comm (fun (c : Dev nD) (j : Fin 4) => (dutyTok ER (bC (barTo c j)) 0 j : sProp 𝕄))]
    exact bigSep_congr fun j _ => bigSep_univ_equiv (barEquiv j) fun c : Dev nD => (dutyTok ER (bC c) 0 j : sProp 𝕄)
  have h2 : (bigSep Finset.univ fun c : Dev nD => bigSep Finset.univ fun x : Tr => (dutyTok ER (rC c x) 0 0 : sProp 𝕄))
      = bigSep Finset.univ fun c : Dev nD => bigSep Finset.univ fun x : Tr => dutyTok ER (rC (dst c x) x) 0 0 := by
    rw [bigSep_univ_comm, bigSep_univ_comm (fun (c : Dev nD) (x : Tr) => (dutyTok ER (rC (dst c x) x) 0 0 : sProp 𝕄))]
    exact bigSep_congr fun x _ => bigSep_univ_equiv (dstEquiv x) fun c : Dev nD => (dutyTok ER (rC c x) 0 0 : sProp 𝕄)
  rw [h1, h2]

theorem recs_of (K : GSem nD τ sig → ℕ) :
    (bigSep (barCells ∪ scCells) fun g => cellInv ER (Rd Z) (K g) g) ⊢ (recs Z K : sProp 𝕄) := by
  unfold recs
  refine Entails.of_eq ((bigSep_union disjoint_cells).trans ?_)
  rw [bigSep_map, bigSep_map]
  rfl

/-! ## The credits -/

theorem owedL_bar (d : Dev nD) (l : List Tr) (c : Dev nD) : owedL d l (bC c) () = 0 := by
  induction l with
  | nil => rfl
  | cons x l ih =>
    unfold owedL
    rw [Pi.add_apply, Finsupp.add_apply, ih, tallyAt_ne_cell (fun h => by cases (congrArg Prod.snd h)), Finsupp.zero_apply, Nat.add_zero]

theorem rC_eq {c d : Dev nD} {x y : Tr} (h : rC c x = rC d y) : c = d ∧ x = y := by
  have hs : rS x = rS y := dma_inj (congrArg Prod.snd h)
  have hx : x = y := by
    have := decS_rS x
    rw [hs, decS_rS] at this
    exact (congrArg Prod.snd (Option.some.inj this)).symm
  exact ⟨congrArg (fun g : GSem nD τ sig => g.1.1) h, hx⟩

theorem owedL_recv (d : Dev nD) (l : List Tr) (hl : l.Nodup) (c : Dev nD) (x : Tr) :
    owedL d l (rC c x) () = if x ∈ l ∧ dst d x = c then N else 0 := by
  induction l with
  | nil => rw [if_neg (fun h => by cases h.1)]; rfl
  | cons y l ih =>
    unfold owedL
    rw [Pi.add_apply, Finsupp.add_apply, ih (List.nodup_cons.mp hl).2, tallyAt_apply]
    by_cases hxy : x = y
    · subst hxy
      rw [if_neg (fun h => (List.nodup_cons.mp hl).1 h.1), Nat.zero_add]
      by_cases hd : dst d x = c
      · rw [if_pos ⟨by rw [hd], rfl⟩, if_pos ⟨List.mem_cons_self, hd⟩]
      · rw [if_neg (fun h => hd (rC_eq h.1).1.symm), if_neg (fun h => hd h.2)]
    · rw [if_neg (c := rC c x = rC (dst d y) y ∧ _) (fun h => hxy (rC_eq h.1).2), Nat.add_zero]
      by_cases hm : x ∈ l ∧ dst d x = c
      · rw [if_pos hm, if_pos ⟨List.mem_cons_of_mem _ hm.1, hm.2⟩]
      · rw [if_neg hm, if_neg (fun h => hm ⟨(List.mem_cons.mp h.1).resolve_left hxy, h.2⟩)]

theorem one_at (d c : Dev nD) : (tallyAt (bC d) () 1 : CellTallies nD τ sig Unit) (bC c) () = if c = d then 1 else 0 := by
  rw [tallyAt_apply]
  by_cases h : c = d
  · subst h; rw [if_pos ⟨rfl, rfl⟩, if_pos rfl]
  · rw [if_neg (fun e => h (congrArg (fun g : GSem nD τ sig => g.1.1) e.1)), if_neg h]
theorem one_off (d c : Dev nD) (x : Tr) : (tallyAt (bC d) () 1 : CellTallies nD τ sig Unit) (rC c x) () = 0 := by
  rw [tallyAt_ne_cell (fun h => by cases (congrArg Prod.snd h)), Finsupp.zero_apply]

theorem owed_bar (d c : Dev nD) :
    O₀ d (bC c) () = (if c = barTo d 2 then 1 else 0) + (if c = barTo d 3 then 1 else 0) + (if c = barTo d 1 then 1 else 0)
      + (if c = barTo d 0 then 1 else 0) := by
  unfold O₀
  simp only [Pi.add_apply, Finsupp.add_apply, owedL_bar, one_at, Nat.zero_add]
theorem owed_recv (d c : Dev nD) (x : Tr) : O₀ d (rC c x) () = if d = src c x then (if actR c x = true then N else 0) else 0 := by
  unfold O₀
  simp only [Pi.add_apply, Finsupp.add_apply, one_off, Nat.add_zero]
  rw [owedL_recv d _ (sends_nodup _)]
  by_cases h : d = src c x
  · subst h
    rw [if_pos rfl, ← act_src x c]
    by_cases ha : act (src c x) x = true
    · rw [if_pos ⟨(mem_sends _ _).mpr ha, dst_src x c⟩, if_pos ha]
    · rw [if_neg (fun e => ha ((mem_sends _ _).mp e.1)), if_neg ha]
  · rw [if_neg h, if_neg]
    rintro ⟨-, e⟩
    exact h (by rw [← e, src_dst])

theorem bar_sum : ∀ c : Dev nD, (∑ d : Dev nD, ((if c = barTo d 2 then 1 else 0) + (if c = barTo d 3 then 1 else 0) + (if c = barTo d 1 then 1 else 0)
      + (if c = barTo d 0 then 1 else 0) : ℕ)) = 4 := by decide

theorem launch_bar (c : Dev nD) :
    tallyOn (bC c) (launchCredit (Pipeline.owing O₀) 0 (bC c)) = (tallyAt (bC c) () 4 : CellTallies nD τ sig Unit) := by
  unfold tallyAt; refine congrArg _ (Finsupp.ext fun u => ?_); cases u
  rw [Pipeline.launchCredit_owing, Finsupp.single_eq_same, Finset.sum_congr rfl fun d _ => owed_bar d c, bar_sum]

theorem launch_recv (c : Dev nD) (x : Tr) (h : actR c x = true) :
    tallyOn (rC c x) (launchCredit (Pipeline.owing O₀) 0 (rC c x)) = (tallyAt (rC c x) () N : CellTallies nD τ sig Unit) := by
  unfold tallyAt; refine congrArg _ (Finsupp.ext fun u => ?_); cases u
  rw [Pipeline.launchCredit_owing, Finsupp.single_eq_same, Finset.sum_congr rfl fun d _ => owed_recv d c x,
    Finset.sum_ite_eq' Finset.univ (src c x) fun _ => if actR c x = true then N else 0, if_pos (Finset.mem_univ _), if_pos h]

def rEmb : Tr ↪ SemLoc sig := ⟨fun x => .dma (rS x), fun x y h => (rC_eq (c := 0) (d := 0) (x := x) (y := y) (congrArg (Prod.mk ((0 : Dev nD) : Thread nD τ)) h)).2⟩

theorem creds (c : Dev nD) : (Pipeline.launchCred O₀ c : sProp 𝕄) ⊢ credits c := by
  unfold Pipeline.launchCred credits
  rw [bigSep_univ_at _ (SemLoc.reg barrier0), launch_bar]
  refine sep_mono_right ?_
  have hsub : (Finset.univ.map rEmb : Finset (SemLoc sig)) ⊆ Finset.univ.erase (SemLoc.reg barrier0) := by
    intro s hs
    obtain ⟨x, -, rfl⟩ := Finset.mem_map.mp hs
    exact Finset.mem_erase.mpr ⟨(fun e => by cases e), Finset.mem_univ _⟩
  refine BIBase.Entails.trans (show _ ⊢ bigSep (Finset.univ.map rEmb) _ from bigSep_subset hsub) ?_
  rw [bigSep_map]
  refine big_mono _ fun x => ?_
  split
  · next h => exact Entails.of_eq (congrArg cred (launch_recv c x h))
  · iintro -; iempintro

/-! ## The launch -/

theorem deal (K : GSem nD τ sig → ℕ) (c : Dev nD) : iprop(records Z K ∗ (linear c ∗ credits c)) ⊢ (dealt Z c : sProp 𝕄) := by
  unfold dealt
  iintro ⟨#HR, Hl, Hc⟩
  isplitl [Hl]
  · iexists K
    iframe #; iframe
  iexact Hc

/-- Barrier counters at zero, the launch credits and the launch element make what every device is dealt. -/
theorem launch :
    iprop((bigSep Finset.univ fun c : Dev nD => semVal (bC c) 0) ∗ (bigSep Finset.univ fun c : Dev nD => Pipeline.launchCred O₀ c) ∗ bigSep Finset.univ (G (F := F)))
      ⊢ (|={Set.univ}=> bigSep Finset.univ (dealt Z) : sProp 𝕄) := by
  unfold G
  rw [bigSep_onDev]
  iintro ⟨Hv, Hc, Hu⟩
  imod (Rounds.fund_launch ER (Rd Z) disjoint_cells (fun g _ h => h) toks) $$ [Hv Hu] with ⟨%K, -, #Hinv, #Hr, Hat, Hopen, Htok⟩
  · isplitl [Hv]
    · rw [bigSep_map]; iexact Hv
    · iexact Hu
  imodintro
  iapply (bigSep_with_persistent (R := records Z K) (Φ := fun c => iprop(linear c ∗ credits c)) fun c _ => deal Z K c)
  isplitr
  · unfold records
    isplitr
    · iapply (recs_of Z K); iexact Hinv
    · iapply (bar_map fun g => (reached ER g 0 : sProp 𝕄)); iexact Hr
  rw [bigSep_sep']
  isplitr [Hc]
  · unfold linear
    rw [bigSep_sep', bigSep_sep']
    isplitl [Hat]; · iapply (bar_map fun g => (atPos ER g 0 ∅ 0 : sProp 𝕄)); iexact Hat
    isplitl [Hopen]; · iapply (sc_map fun g => (openTok ER g : sProp 𝕄)); iexact Hopen
    iapply (toks_around (F := F)); iexact Htok
  · iapply (big_mono Finset.univ (creds (F := F))); iexact Hc

end Cert.KernelIdeal.Body

end
-- ==== Proof.Open.lean ====
/-
Entering and leaving the kernel: the semaphores join the protocol at the start and leave it at the end.
-/
module

public import proofs.«01_k».proof.Proof.Ghost
public import proofs.«01_k».proof.Proof.BodySpec

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (Z : Dev nD → Fin 4 → V2 F)

/-! ## Entering -/

/-- Round 0 of every cell of the family, open. -/
def atStart (c : Dev nD) : sProp 𝕄 := bigSep Finset.univ fun b : Cl => iprop(atPos ER (cC c b) 0 ∅ 0 ∗ reached ER (cC c b) 0)
/-- The tokens that a device pays with, and its position on its barrier cell. -/
def purse (c : Dev nD) : sProp 𝕄 :=
  iprop(atPos ER (bC c) 0 ∅ 0 ∗ (bigSep Finset.univ fun j : Fin 4 => dutyTok ER (bC (barTo c j)) 0 j)
    ∗ (bigSep Finset.univ fun x : Tr => dutyTok ER (rC (dst c x) x) 0 0)
    ∗ bigSep Finset.univ fun x : Tr => dutyTok ER (sC c x) 0 0)
/-- What a device holds once its own semaphores have joined the protocol. -/
def entered (c : Dev nD) : sProp 𝕄 := iprop((∃ K, records Z K ∗ purse c ∗ atStart c) ∗ credits c ∗ idle c ∗ levAts L lv)

theorem open_cell (K : GSem nD τ sig → ℕ) (c : Dev nD) (b : Cl) :
    iprop(recs Z K ∗ (openTok ER (cC c b) ∗ semVal (cC c b) 0))
      ⊢ (|={Set.univ}=> iprop(atPos ER (cC c b) 0 ∅ 0 ∗ reached ER (cC c b) 0) : sProp 𝕄) := by
  iintro ⟨#HR, Ho, Hs⟩
  iapply (Rounds.cell_open ER (Rd Z) (g := cC c b) (Set.mem_univ (K (cC c b))))
  isplitr; · iapply (recs_cell Z K c b); iexact HR
  isplitl [Ho] <;> iassumption

theorem open_cells (K : GSem nD τ sig → ℕ) (c : Dev nD) :
    iprop(recs Z K ∗ (bigSep Finset.univ fun b : Cl => openTok ER (cC c b)) ∗ bigSep Finset.univ fun b : Cl => semVal (cC c b) 0)
      ⊢ (|={Set.univ}=> atStart c : sProp 𝕄) := by
  unfold atStart
  refine BIBase.Entails.trans ?_ (bigSep_fupd Finset.univ fun b : Cl => (iprop(atPos ER (cC c b) 0 ∅ 0 ∗ reached ER (cC c b) 0) : sProp 𝕄))
  rw [← bigSep_sep']
  exact bigSep_with_persistent (R := recs Z K) (Φ := fun b : Cl => iprop(openTok ER (cC c b) ∗ semVal (cC c b) 0)) fun b _ => open_cell Z K c b

theorem enter (c : Dev nD) :
    iprop(dealt Z c ∗ Pipeline.ownSems0 osem c ∗ levAts L lv) ⊢ (|={Set.univ}=> entered Z c : sProp 𝕄) := by
  rw [ownSems_eq]
  unfold dealt entered idle linear purse
  iintro ⟨⟨⟨%K, #HR, Hat, Hop, Hj, Hr, Hs⟩, Hc⟩, ⟨Hg, Hv, Hu⟩, #HL⟩
  ihave #HR' := (show records Z K ⊢ recs Z K from by unfold records; exact sep_elim_left) $$ HR
  imod (open_cells Z K c) $$ [Hop Hv] with HA
  · iframe #; iframe
  imodintro
  isplitl [Hat Hj Hr Hs HA]
  · iexists K
    iframe #; iframe
  iframe #; iframe

/-! ## From there to the body -/

theorem at_split (c : Dev nD) :
    atStart c ⊢ (iprop((bigSep Finset.univ fun x : Tr => atPos ER (rC c x) 0 ∅ 0) ∗ (bigSep Finset.univ fun x : Tr => reached ER (rC c x) 0)
      ∗ (bigSep Finset.univ fun x : Tr => atPos ER (sC c x) 0 ∅ 0) ∗ bigSep Finset.univ fun x : Tr => reached ER (sC c x) 0) : sProp 𝕄) := by
  unfold atStart
  rw [bigSep_univ_prod (α := Bool) (β := Tr), two
    fun b : Bool => bigSep Finset.univ fun x : Tr => iprop(atPos ER (cC c (b, x)) 0 ∅ 0 ∗ reached ER (cC c (b, x)) 0), bigSep_sep', bigSep_sep']
  iintro ⟨⟨H1, H2⟩, H3, H4⟩
  isplitl [H1]; · iexact H1
  isplitl [H2]; · iexact H2
  isplitl [H3]; · iexact H3
  iexact H4

theorem send_toks (c : Dev nD) :
    iprop((bigSep Finset.univ fun x : Tr => dutyTok ER (sC c x) 0 0) ∗ (bigSep Finset.univ fun x : Tr => dutyTok ER (rC (dst c x) x) 0 0)
        ∗ (bigSep Finset.univ fun x : Tr => reached ER (sC c x) 0) ∗ bigSep Finset.univ fun x : Tr => atPos ER (sC c x) 0 ∅ 0)
      ⊢ (bigSep Finset.univ (sendTok c) : sProp 𝕄) := by
  rw [← bigSep_sep', ← bigSep_sep', ← bigSep_sep']
  exact BIBase.Entails.rfl

theorem bar_reached (K : GSem nD τ sig → ℕ) (c : Dev nD) : records Z K ⊢ (reached ER (bC c) 0 : sProp 𝕄) := by
  unfold records
  exact sep_elim_right.trans (bigSep_elim (Φ := fun c : Dev nD => (reached ER (bC c) 0 : sProp 𝕄)) (Finset.mem_univ c))

theorem sig_toks (K : GSem nD τ sig → ℕ) (c : Dev nD) :
    iprop(records Z K ∗ (bigSep Finset.univ fun j : Fin 4 => dutyTok ER (bC (barTo c j)) 0 j)
        ∗ bigSep Finset.univ fun j : Fin 4 => barPay (barTo c j) j)
      ⊢ (bigSep Finset.univ (sigRes c) : sProp 𝕄) := by
  rw [← bigSep_sep']
  refine bigSep_with_persistent (R := records Z K) (Φ := fun j : Fin 4 => iprop(dutyTok ER (bC (barTo c j)) 0 j ∗ barPay (barTo c j) j)) fun j _ => ?_
  unfold sigRes
  iintro ⟨#HR, Hd, Hp⟩
  ihave #Hb := (bar_reached Z K (barTo c j)) $$ HR
  iframe #; iframe

/-- The protocol's part, the scratch buffers and the gather's semaphores are what the body starts from. -/
theorem body_ready (K : GSem nD τ sig → ℕ) (c : Dev nD) :
    iprop(records Z K ∗ purse c ∗ atStart c ∗ credits c ∗ (bigSep Finset.univ fun ci : Fin 4 => semVal ((c : Thread nD τ), SemLoc.dma (gsm ci)) 0)
        ∗ (anyB c cc0_scratch0 ∗ anyB c cc0_scratch2 ∗ anyB c cc0_scratch3))
      ⊢ (preI Z c : sProp 𝕄) := by
  unfold purse credits preI barRes
  iintro ⟨#HR, ⟨Hat, Hj, Hr, Hs⟩, HA, ⟨HcB, HcR⟩, Hg, Hb0, Hb2, Hb3⟩
  ihave HA := (at_split c) $$ HA
  icases HA with ⟨Har, #Hrr, Has, #Hrs⟩
  ihave Hz := (z_cut c) $$ Hb2
  ihave Hq := (q_cut c) $$ Hb3
  ihave HS := (slots_cut c) $$ [Hz Hq]
  · iframe
  icases HS with ⟨Hd, H4⟩
  ihave HD := (slots_deal c) $$ [Hd]
  · iframe #; iframe
  icases HD with ⟨Hpay, Hkeep⟩
  ihave HG := (g_cut c) $$ [Hb0 Hg]
  · iframe
  ihave Hsig := (sig_toks Z K c) $$ [Hj Hpay]
  · iframe #; iframe
  ihave Hst := (send_toks c) $$ [Hs Hr Has]
  · iframe #; iframe
  ihave Hrv := (recvs_ready Z c) $$ [Har HcR]
  · iframe
  iframe

/-! ## Leaving -/

theorem close_cell (K : GSem nD τ sig → ℕ) (c : Dev nD) (b : Cl) :
    iprop(recs Z K ∗ rest Z c b) ⊢ (|={Set.univ}=> semVal (cC c b) 0 : sProp 𝕄) := by
  unfold rest
  iintro ⟨#HR, %R, %hR, Hp⟩
  iapply (Rounds.cell_close ER (Rd Z) (Set.mem_univ (K (cC c b))) id hR)
  isplitr; · iapply (recs_cell Z K c b); iexact HR
  iexact Hp
theorem close_bar (K : GSem nD τ sig → ℕ) (c : Dev nD) :
    iprop(recs Z K ∗ barOver c) ⊢ (|={Set.univ}=> semVal (bC c) 0 : sProp 𝕄) := by
  unfold barOver
  iintro ⟨#HR, Hp⟩
  iapply (Rounds.cell_close ER (Rd Z) (Set.mem_univ (K (bC c))) id (duties_later Z _))
  isplitr; · iapply (recs_bar Z K c); iexact HR
  iexact Hp

/-- The semaphores and the scratch buffers as the body leaves them. -/
def leftOver (c : Dev nD) : sProp 𝕄 :=
  iprop(semVal (bC c) 0 ∗ Pipeline.ownSems0 osem c ∗ (anyB c cc0_scratch0 ∗ anyB c cc0_scratch2 ∗ anyB c cc0_scratch3))

theorem leave (K : GSem nD τ sig → ℕ) (c : Dev nD) :
    iprop(recs Z K ∗ postI Z c ∗ bigSep Finset.univ fun b : Bool × Fin 4 => semVal ((c : Thread nD τ), SemLoc.dma (uS b)) 0)
      ⊢ (|={Set.univ}=> leftOver c : sProp 𝕄) := by
  unfold postI leftOver
  rw [ownSems_eq]
  iintro ⟨#HR, ⟨Hb, Hz, Hq, Hg⟩, Hu⟩
  imod (close_bar Z K c) $$ [Hb] with Hb
  · iframe #; iframe
  ihave HS := (slots_glue c Z) $$ [Hz Hq]
  · iframe
  icases HS with ⟨Hz, Hq, Hr⟩
  imod ((bigSep_with_persistent (R := recs Z K) (Φ := fun b : Cl => rest Z c b) fun b _ => close_cell Z K c b).trans
    (bigSep_fupd Finset.univ fun b : Cl => (semVal (cC c b) 0 : sProp 𝕄))) $$ [Hr] with Hr
  · iframe #; iframe
  ihave Hz := (z_glue c) $$ Hz
  ihave Hq := (q_glue c) $$ Hq
  ihave Hg := (g_glue c) $$ Hg
  icases Hg with ⟨Hb0, Hg⟩
  imodintro
  iframe

end Cert.KernelIdeal.Body

end
-- ==== Proof.Parts.lean ====
/-
The printed body is the one written in `Prog.lean`: the printed parts are put together, and on a
device whose place along z is known every condition of both is decided.
-/
module

public import proofs.«01_k».proof.Proof.Prog

@[expose] public section

set_option maxRecDepth 65536

noncomputable section

namespace Cert.KernelIdeal.Body

open Idealize.ShloMosaic Idealize.SL.Sem Cert.KernelIdeal.Gen

variable {F : FTy → Type} [FloatOps F]

/-- A device's place along z is one of four. -/
theorem zw_cases : ∀ d : Dev nD, zw d = 0#32 ∨ zw d = 1#32 ∨ zw d = 2#32 ∨ zw d = 3#32 := by decide

set_option maxHeartbeats 1000000 in
/-- The printed body, on the buffers the launch gives it, is `body`. -/
theorem bodyAt0_eq (t : Fin cfg0.N) : bodyAt0 (F := F) t = body := by
  unfold bodyAt0 body
  rw [cc0_body_eq_skeleton]
  unfold cc0_body_skel
  simp only [k0_part17_eq_skeleton, k0_part17_skel, Prog.bind_assoc, Prog.pure_eq_ret, Prog.bind_ret]
  refine bind_congr fun d => ?_
  rcases zw_cases d with hw | hw | hw | hw <;> unfold zw at hw
  all_goals
    simp (decide := true) only [bodyOn, k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel,
    k0_part24_eq_skeleton, k0_part24_skel, k0_part25_eq_skeleton, k0_part25_skel, k0_part26_eq_skeleton, k0_part26_skel,
    k0_part27_eq_skeleton, k0_part27_skel, k0_part28_eq_skeleton, k0_part28_skel, k0_part29_eq_skeleton, k0_part29_skel,
    k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel,
    k0_part36_eq_skeleton, k0_part36_skel, k0_part37_eq_skeleton, k0_part37_skel, k0_part38_eq_skeleton, k0_part38_skel,
    k0_part39_eq_skeleton, k0_part39_skel, k0_part40_eq_skeleton, k0_part40_skel, k0_part41_eq_skeleton, k0_part41_skel,
    k0_part42_eq_skeleton, k0_part42_skel, k0_part43_eq_skeleton, k0_part43_skel, k0_part44_eq_skeleton, k0_part44_skel,
      k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel,
      hw, k0_cond1, k0_cond2, k0_cond3, k0_cond4, k0_cond5, k0_cond6, k0_cond7, k0_cond8, k0_cond9, k0_cond10, k0_cond11, k0_cond12, k0_cond13, k0_cond14, k0_cond21, k0_cond22, condMM, ↓reduceDIte, ↓reduceIte,
      signals, fill, edge, mid, start, diagE, diagO, finE, finO, gather, piece, sumE, sumM, fwd, edgeR,
      edgeL, mid1, mid2, tot0, tot3, totM, drain0, drainM, drain3,
      Prog.bind_assoc, Prog.pure_eq_ret, Prog.bind_ret]
    rfl

end Cert.KernelIdeal.Body

end
-- ==== Proof.Region.lean ====
/-
The pallas_call as a region of @main: its windows, its body, what it leaves.
-/
module

public import proofs.«01_k».proof.Proof.Open
public import proofs.«01_k».proof.Proof.Parts
public import proofs.«01_k».proof.Proof.Gen.KernelIdeal.Regions
public import proofs.«01_k».proof.Proof.Gen.KernelIdeal.Points
public import Idealize.ShloMosaic.Lib.Pipeline.ValueKit.Geometry

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline

variable {F : FTy → Type} [FloatOps F]

local notation "𝕄" => MT nD τ sig Unit (Elt F) ℕ UU ℕ

variable (V : Dev nD → Valuation τ sig (Elt F))

/-! ## What the windows hold -/

/-- The list of words as the body finds it. -/
def stgI (c : Dev nD) : Buf (Elt F) (iB.view.loc (c : Thread nD τ)) := ((cfg0.win 0).blk t0_0).view.read (Elt F) (V c main_v28)
/-- The mask as the body finds it. -/
def stgM (c : Dev nD) : Buf (Elt F) (mB.view.loc (c : Thread nD τ)) := ((cfg0.win 1).blk t0_0).view.read (Elt F) (V c main_v30)
/-- The device's part of the table. -/
def tab (c : Dev nD) : Buf (Elt F) (eB.view.loc (c : Thread nD τ)) := V c main_arg1

variable (hI : ∀ c ci k, k0_chk1 (idw c (stgI V c) ci k))

/-- What each device gathers. -/
def ZV (c : Dev nD) (ci : Fin 4) : V2 F := Zval c (stgI V c) (hI c) (tab V c) ci (stgM V c)

/-- Before the body, and after it. -/
def Φ0 (c : Dev nD) : sProp 𝕄 :=
  iprop(entered (ZV V hI) c ∗ (anyB c cc0_scratch0 ∗ anyB c cc0_scratch2 ∗ anyB c cc0_scratch3) ∗ tabI c (tab V c) ∗ ∃ r, prngReg c r)
def Φ1 (c : Dev nD) : sProp 𝕄 := iprop(leftOver c ∗ tabI c (tab V c) ∗ ∃ r, prngReg c r)

def dat0 (c : Dev nD) : Dat τ (Elt F) Unit ℕ UU ℕ cfg0 c where
  A w := V c (Proc.devRef .tc (Pipeline.arrRef spec0 w))
  after w _ := match w with
    | ⟨0, _⟩ => stgI V c
    | ⟨1, _⟩ => stgM V c
    | ⟨2, _⟩ => outVal c (ZV V hI)
  Φ t := match t with
    | ⟨0, _⟩ => Φ0 V hI c
    | ⟨_ + 1, _⟩ => Φ1 V c
  q _ := fullShare
  owed t := match t with
    | ⟨0, _⟩ => O₀ c
    | ⟨_ + 1, _⟩ => 0
def pdats (p : Fin 1) (c : Dev nD) : Dat τ (Elt F) Unit ℕ UU ℕ (cfgs p) c := dat0 V hI c

/-! ## The body -/

theorem owns_any (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the pipeline hands the body, and what it wants back. -/
def given (c : Dev nD) : sProp 𝕄 :=
  iprop(Φ0 V hI c ∗ (dat0 V hI c).owesAt () t0_0.castSucc
    ∗ (∃ d, stg c cc0_stg0_0 ((dat0 V hI c).before (0 : Fin 3) t0_0 d))
    ∗ (∃ d, stg c cc0_stg1_0 ((dat0 V hI c).before (1 : Fin 3) t0_0 d))
    ∗ (∃ d, stg c cc0_stg2_0 ((dat0 V hI c).before (2 : Fin 3) t0_0 d)))
def wanted (c : Dev nD) : sProp 𝕄 :=
  iprop(Φ1 V c ∗ (dat0 V hI c).owesAt () t0_0.succ ∗ stg c cc0_stg0_0 (stgI V c) ∗ stg c cc0_stg1_0 (stgM V c)
    ∗ stg c cc0_stg2_0 (outVal c (ZV V hI)))

theorem out_start (Z : Dev nD → Fin 4 → V2 F) (c : Dev nD) (f : Buf (Elt F) ((c : Thread nD τ).loc cc0_stg2_0)) :
    (((c : Thread nD τ).loc cc0_stg2_0) ↦{fullShare} f : sProp 𝕄) ⊢ outI Z c s0 := by
  unfold outI
  rw [show oB.view.set = (Finset.univ : Finset _) from View.set_whole _]
  iintro H
  iexists f
  isplitr; · ipureintro; exact fun p hp => absurd hp (Finset.notMem_empty p)
  iexact H

theorem owes_take (c : Dev nD) : (dat0 V hI c).owesAt () t0_0.castSucc ⊢ (OWt c (O₀ c) : sProp 𝕄) := by
  unfold Dat.owesAt Pipeline.owesWithin OWt
  rw [show (dat0 V hI c).owed t0_0.castSucc = O₀ c from rfl]
  iintro ⟨%W, -, HO⟩
  iexists W; iexact HO
theorem owes_give (c : Dev nD) : OW c [] ⊢ ((dat0 V hI c).owesAt () t0_0.succ : sProp 𝕄) := by
  unfold Dat.owesAt Pipeline.owesWithin Dat.bound OW
  rw [show (dat0 V hI c).owed t0_0.succ = owedL c [] from rfl]
  iintro ⟨%W, HO⟩
  iexists W
  isplitr; · ipureintro; exact fun _ _ => Or.inl trivial
  iexact HO

theorem body_runs (c : Dev nD) : given V hI c ⊢ (wpc c body fun _ => wanted V hI c : sProp 𝕄) := by
  unfold body
  show _ ⊢ wp frame (wpE defs₀ 𝒱₀ (c : Thread nD τ) none) Set.univ (.op .deviceId fun d => bodyOn d) _
  rw [wp_deviceId]
  unfold given Φ0 entered idle
  iintro ⟨⟨⟨⟨%K, #HR, Hp, HA⟩, Hc, ⟨Hg, Hu⟩, #HL⟩, Hb, HE, Hprng⟩, HO, ⟨%d0, %f0, %h0, HI⟩, ⟨%d1, %f1, %h1, HM⟩, ⟨%d2, %f2, -, HF⟩⟩
  have e0 : f0 = stgI V c := by rw [h0]; unfold Dat.before; rw [if_pos (fetch0_0 t0_0)]; rfl
  have e1 : f1 = stgM V c := by rw [h1]; unfold Dat.before; rw [if_pos (fetch0_1 t0_0)]; rfl
  subst e0 e1
  ihave HP := (body_ready (ZV V hI) K c) $$ [Hp HA Hc Hg Hb]
  · iframe #; iframe
  ihave HF := (out_start (ZV V hI) c f2) $$ HF
  ihave HO := (owes_take V hI c) $$ HO
  ihave #HR' := (show records (ZV V hI) K ⊢ recs (ZV V hI) K from by unfold records; exact sep_elim_left) $$ HR
  iapply (wp_fupd frame (wpE defs₀ 𝒱₀ (c : Thread nD τ) none) Set.univ (bodyOn c) fun _ => wanted V hI c)
  iapply (bodyOn_spec (ZV V hI) K c (stgI V c) (hI c) (tab V c) (stgM V c) fullShare fullShare (fun _ => rfl) _) $$ [HP HI HM HE HF HO]
  · unfold ctx idsI maskI
    iframe #; iframe
  iintro ⟨HP, ⟨HI, HE, HM⟩, HF, HO⟩
  imod (leave (ZV V hI) K c) $$ [HP Hu] with HX
  · iframe #; iframe
  ihave HF := (out_full c (ZV V hI)) $$ HF
  ihave HO := (owes_give V hI c) $$ HO
  imodintro
  unfold wanted Φ1 idsI maskI
  isplitl [HX HE Hprng]
  · iframe
  isplitl [HO]; · iexact HO
  isplitl [HI]
  · iexists _; isplitr; · (ipureintro; rfl)
    iexact HI
  isplitl [HM]
  · iexists _; isplitr; · (ipureintro; rfl)
    iexact HM
  iexists _; isplitr; · (ipureintro; rfl)
  iexact HF

theorem body_obligation (c : Dev nD) : BodyObligation (dat0 V hI c) (defs₀ (F := F)) 𝒱₀ () Set.univ := fun t => by
  obtain rfl := fin_N0 t
  rw [bigSep_W0, bigSep_W0]
  simp only [owns_any]
  show given V hI c ⊢ wp frame (wpE defs₀ 𝒱₀ (c : Thread nD τ) none) Set.univ (bodyAt0 t0_0) fun _ => wanted V hI c
  rw [bodyAt0_eq]
  exact body_runs V hI c

/-! ## The region -/

/-- The table is the one buffer outside the windows that the body addresses. -/
abbrev Hs : Finset (DevRef τ sig) := {Proc.devRef .tc main_arg1}
abbrev Sr : Finset (DevRef τ sig) := Pipeline.ucRefs τ sig \ Pipeline.arrRefs spec0
theorem Hs_sub : Hs ⊆ Sr := by decide

theorem held_tab (c : Dev nD) (W : Valuation τ sig (Elt F)) :
    (StableHlo.held (c : Thread nD τ) Hs W : sProp 𝕄) = iprop(((c : Thread nD τ).loc main_arg1) ↦{fullShare} W main_arg1) := by
  unfold StableHlo.held
  rw [BI.bigSep_singleton]

/-- The buffers when the region is over. -/
def Vend (c : Dev nD) : Valuation τ sig (Elt F) := Function.update (V c) main_v31 (outVal c (ZV V hI))
theorem Vend_arg1 (c : Dev nD) : Vend V hI c main_arg1 = V c main_arg1 :=
  Function.update_of_ne (by decide : (Proc.devRef .tc main_arg1 : DevRef τ sig) ≠ Proc.devRef .tc main_v31) _ _
theorem Vend_out (c : Dev nD) : Vend V hI c main_v31 = outVal c (ZV V hI) := by
  unfold Vend; exact Function.update_self _ _ _
theorem Vend_off (c : Dev nD) (b : DevRef τ sig) (h : b ≠ Proc.devRef .tc main_v31) : Vend V hI c b = V c b := Function.update_of_ne h _ _

theorem hin (c : Dev nD) :
    iprop(Pipeline.scopedRest spec0 c ∗ (∃ r, prngReg c r) ∗ StableHlo.held (c : Thread nD τ) Hs (V c) ∗ entered (ZV V hI) c)
      ⊢ (pdats V hI 0 c).Φ 0 := by
  rw [show (pdats V hI 0 c).Φ 0 = Φ0 V hI c from rfl, scopedRest0_eq, held_tab]
  unfold Φ0 anyB tabI tab
  iintro ⟨Hb, Hp, HE, HX⟩
  iframe

theorem hout (c : Dev nD) :
    (pdats V hI 0 c).Φ (Fin.last cfg0.N)
      ⊢ iprop(Pipeline.scopedRest spec0 c ∗ (∃ r, prngReg c r) ∗ StableHlo.held (c : Thread nD τ) Hs (Vend V hI c) ∗ Pipeline.ownSems0 osem c
        ∗ semVal (bC c) 0) := by
  rw [show (pdats V hI 0 c).Φ (Fin.last cfg0.N) = Φ1 V c from rfl, scopedRest0_eq, held_tab, Vend_arg1]
  unfold Φ1 leftOver anyB tabI tab
  iintro ⟨⟨Hb, Ho, Hs⟩, HE, Hp⟩
  iframe

theorem lv_recv (c : Dev nD) (x : Tr) (u : Unit) : 0 < lv (rC c x) u := by
  show 0 < lvS c (.dma (rS x))
  rw [lvS_recv]; exact lvR_pos c x
theorem lv_bar (c : Dev nD) (u : Unit) : 0 < lv (bC c) u := by
  show 0 < lvS c (.reg barrier0)
  rw [lvS_bar]; exact Nat.one_pos

theorem O₀_pos {c : Dev nD} {g : GSem nD τ sig} {u : Unit} (h : 0 < O₀ c g u) : (∃ d x, g = rC d x) ∨ ∃ d, g = bC d := by
  unfold O₀ at h
  simp only [Pi.add_apply, Finsupp.add_apply] at h
  have one : ∀ d : Dev nD, 0 < (tallyAt (bC d) () 1 : CellTallies nD τ sig Unit) g u → g = bC d := fun d hd => by
    rw [tallyAt_apply] at hd
    split at hd
    · next hg => exact hg.1
    · exact absurd hd (Nat.lt_irrefl 0)
  rcases Nat.add_pos_iff_pos_or_pos.mp h with h | h
  · rcases Nat.add_pos_iff_pos_or_pos.mp h with h | h
    · rcases Nat.add_pos_iff_pos_or_pos.mp h with h | h
      · rcases Nat.add_pos_iff_pos_or_pos.mp h with h | h
        · obtain ⟨x, -, e⟩ := owedL_pos h
          exact .inl ⟨_, x, e⟩
        · exact .inr ⟨_, one _ h⟩
      · exact .inr ⟨_, one _ h⟩
    · exact .inr ⟨_, one _ h⟩
  · exact .inr ⟨_, one _ h⟩

theorem owed_cut (c : Dev nD) (t : Fin (cfg0.N + 1)) (g : GSem nD τ sig) (u : Unit) (h : 0 < (pdats V hI 0 c).owed t g u) :
    u ∈ L g ∧ 0 < lv g u := by
  obtain ⟨n, hn⟩ := t
  cases n with
  | zero =>
    rcases O₀_pos (show 0 < O₀ c g u from h) with ⟨d, x, rfl⟩ | ⟨d, rfl⟩
    · exact ⟨by rw [L_tc]; exact Finset.mem_singleton_self _, lv_recv d x u⟩
    · exact ⟨by rw [L_tc]; exact Finset.mem_singleton_self _, lv_bar d u⟩
  | succ n => exact absurd (show 0 < 0 from h) (Nat.lt_irrefl 0)

/-- The staging cells lie below all others. -/
theorem stage_low (c : Dev nD) : ∀ (w : Fin 3) (s : Fin (spec0 w).nbuf), lvS c (.dma ((spec0 w).sem s)) = 0 := by
  revert c; decide +kernel

theorem arr_end (c : Dev nD) (w : Fin 3) :
    (dat0 V hI c).arrAt w cfg0.N = Vend V hI c (Proc.devRef .tc (Pipeline.arrRef spec0 w)) := by
  match w with
  | ⟨0, _⟩ => exact (Dat.arrAt_in (dat := dat0 V hI c) (0 : Fin 3) rfl _).trans (Vend_off V hI c _ (by decide)).symm
  | ⟨1, _⟩ => exact (Dat.arrAt_in (dat := dat0 V hI c) (1 : Fin 3) rfl _).trans (Vend_off V hI c _ (by decide)).symm
  | ⟨2, _⟩ =>
    refine (Dat.arrAt_eq_of_after_last (dat := dat0 V hI c) (2 : Fin 3) t0_0 (by decide +kernel) (outVal c (ZV V hI)) ?_).trans (Vend_out V hI c).symm
    intro j
    rfl

set_option backward.isDefEq.respectTransparency.types false in
/-- The pallas_call, entered from what the launch deals and left with its result written and the barrier at rest. -/
def region : RegionSeg (pcfgs (F := F)) adm (pdats V hI) () defs₀ 𝒱₀ L lv 0 :=
  Pipeline.RegionSeg.ofTalk (pcfgs (F := F)) adm (pdats V hI) () defs₀ 𝒱₀ L lv 0 osem osemFacts
    Hs Sr Hs_sub launch0.toP rfl (fun c => (body_obligation V hI c).loose)
    (fun _ => 0) O₀ (fun c => (zero_add (O₀ c)).symm) (fun _ => rfl) (fun _ => rfl) (fun c w => Dat.share_full _ (fun _ => rfl) w)
    V (Vend V hI) (fun c b hb => Vend_off V hI c b (fun e => by subst e; exact absurd hb (by decide)))
    (dealt (ZV V hI)) (fun c => semVal (bC c) 0) (entered (ZV V hI)) (fun c => semVal (bC c) 0)
    (enter (ZV V hI)) (hin V hI) (hout V hI)
    (fun c => by iintro H; imodintro; iexact H)
    (fun _ => 0)
    ⟨fun c w s => by rw [L_tc]; exact Finset.mem_singleton_self _, fun c w s => Nat.le_of_eq (stage_low c w s), fun c t g i h => owed_cut V hI c t g i h⟩
    (fun _ => iprop(emp))
    (fun c w => rfl) (fun c w => arr_end V hI c w)

end Cert.KernelIdeal.Body

end
-- ==== Proof.Launch.lean ====
/-
The run of @main on the mesh: it ends, every semaphore at rest, the arguments unchanged and every device's result at the
value that the body leaves.
-/
module

public import proofs.«01_k».proof.Proof.Region

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)
  (hI : ∀ c ci k, k0_chk1 (idw c (stgI (V3 m) c) ci k))

/-! ## What rides beside the buffers -/

/-- Up to the region: what the launch deals, the generator's register, and all that is owed. -/
def ride0 (c : Dev nD) : sProp 𝕄 := iprop(dealt (ZV (V3 m) hI) c ∗ (∃ r, prngReg c r) ∗ ∃ W, owes (c : Thread nD τ) (O₀ c) W)
/-- After it: the barrier at rest, and nothing owed. -/
def ride1 (c : Dev nD) : sProp 𝕄 := iprop(semVal (bC c) 0 ∗ ∃ W, owes (c : Thread nD τ) (0 : CellTallies nD τ sig Unit) W)
def ride (i : Fin 2) (c : Dev nD) : sProp 𝕄 := match i with
  | 0 => ride0 m hI c
  | 1 => ride1 c

theorem bufs_split (c : Dev nD) (W : Valuation τ sig (Elt F)) :
    (StableHlo.held (c : Thread nD τ) (Pipeline.ucRefs τ sig) W : sProp 𝕄)
      = iprop(StableHlo.held (c : Thread nD τ) (Pipeline.arrRefs spec0) W ∗ StableHlo.held (c : Thread nD τ) Sr W) :=
  StableHlo.held_sub_split (c : Thread nD τ) (Pipeline.arrRefs_sub_ucRefs spec0 (by decide)) W

theorem region_pre (c : Dev nD) :
    iprop(StableHlo.held (c : Thread nD τ) (Pipeline.ucRefs τ sig) (V3 m c) ∗ ride0 m hI c) ⊢ (region (V3 m) hI).pre c := by
  show _ ⊢ iprop(StableHlo.held (c : Thread nD τ) (Pipeline.arrRefs spec0) (V3 m c) ∗ (∃ r, prngReg c r)
    ∗ (StableHlo.held (c : Thread nD τ) Sr (V3 m c) ∗ emp) ∗ dealt (ZV (V3 m) hI) c ∗ ∃ Wd, owes (c : Thread nD τ) (0 + O₀ c) Wd)
  rw [bufs_split, zero_add]
  unfold ride0
  iintro ⟨⟨Ha, Hr⟩, Hd, Hp, HO⟩
  iframe

theorem region_post (c : Dev nD) :
    (region (V3 m) hI).post c
      ⊢ iprop(StableHlo.held (c : Thread nD τ) (Pipeline.ucRefs τ sig) (Vend (V3 m) hI c) ∗ ride1 c) := by
  show iprop(StableHlo.held (c : Thread nD τ) (Pipeline.arrRefs spec0) (Vend (V3 m) hI c) ∗ (∃ r, prngReg c r)
    ∗ (StableHlo.held (c : Thread nD τ) Sr (Vend (V3 m) hI c) ∗ emp) ∗ semVal (bC c) 0 ∗ ∃ Wd, owes (c : Thread nD τ) (0 : CellTallies nD τ sig Unit) Wd) ⊢ _
  rw [bufs_split]
  unfold ride1
  iintro ⟨Ha, -, ⟨Hr, -⟩, Hb, HO⟩
  iframe

/-! ## The launch -/

theorem unscoped_eq : ∀ sm : SemLoc sig, sm.isScoped .tc = false → sm = .reg barrier0 := by decide +kernel

theorem unscopedSems0_eq (c : Dev nD) : (unscopedSems0 c : sProp 𝕄) = semVal (bC c) 0 := by
  unfold unscopedSems0
  rw [show (Finset.univ.filter fun sm : SemLoc sig => ¬ sm.isScoped .tc) = {SemLoc.reg barrier0} from by decide +kernel, BI.bigSep_singleton]

/-- The state of a device's thread at the start. -/
def T0 (c : Dev nD) : sProp 𝕄 := iprop(StableHlo.held (c : Thread nD τ) (Pipeline.ucRefs τ sig) (V0 m c) ∗ ride0 m hI c)

/-- What a device has at launch, by parts. -/
def own0 (c : Dev nD) : sProp 𝕄 :=
  iprop(StableHlo.held (c : Thread nD τ) (Pipeline.ucRefs τ sig) (V0 m c) ∗ (∃ r, prngReg c r) ∗ ∃ W, owes (c : Thread nD τ) (O₀ c) W)
theorem own0_of (c : Dev nD) :
    iprop(unscopedBufs c (fun b => m ((c : Thread nD τ).loc b)) ∗ unscopedSems0 c
          ∗ owes (c : Thread nD τ) (O₀ c) ∅ ∗ Pipeline.launchCred O₀ c ∗ prngReg c (ρ c) ∗ G c)
      ⊢ (iprop(own0 m c ∗ semVal (bC c) 0 ∗ Pipeline.launchCred O₀ c ∗ G c) : sProp 𝕄) := by
  unfold own0
  rw [unscopedSems0_eq, ← Pipeline.unscopedBufs_held (Ix := Unit) (Name := ℕ) (U := UU) (Lvl := ℕ) c (V0 m c)]
  iintro ⟨Hb, Hs, HO, Hc, Hp, HG⟩
  isplitl [Hb HO Hp]
  · isplitl [Hb]; · iexact Hb
    isplitl [Hp]
    · iexists (ρ c); iexact Hp
    iexists ∅; iexact HO
  iframe

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T0 m hI) : sProp 𝕄) := by
  iintro ⟨H, -⟩
  ihave H := (big_mono Finset.univ (own0_of m ρ)) $$ H
  ihave H := (Entails.of_eq (bigSep_sep' _ _ _)) $$ H
  icases H with ⟨HB, H⟩
  ihave H := (Entails.of_eq (bigSep_sep' _ _ _)) $$ H
  icases H with ⟨Hv, H⟩
  ihave H := (Entails.of_eq (bigSep_sep' _ _ _)) $$ H
  icases H with ⟨Hc, HG⟩
  imod (launch (ZV (V3 m) hI)) $$ [Hv Hc HG] with HD
  · iframe
  imodintro
  ihave H := (Entails.of_eq (bigSep_sep' Finset.univ (own0 m) (dealt (ZV (V3 m) hI))).symm) $$ [HB HD]
  · isplitl [HB]; · iexact HB
    iexact HD
  iapply (big_mono Finset.univ fun c => (show iprop(own0 m c ∗ dealt (ZV (V3 m) hI) c) ⊢ (T0 m hI c : sProp 𝕄) from by
    unfold own0 T0 ride0
    iintro ⟨⟨Hh, Hp, HO⟩, HD⟩
    iframe))
  iexact H

/-! ## The run -/

/-- The state of a device's thread at the end. -/
def Tend (c : Dev nD) : sProp 𝕄 :=
  iprop(StableHlo.held (c : Thread nD τ) (Pipeline.ucRefs τ sig) (Vend (V3 m) hI c) ∗ semVal (bC c) 0)
/-- What it says of the memory. -/
def holds (c : Dev nD) (s : MemSt nD τ sig (Elt F)) : Prop :=
  (∀ b ∈ Pipeline.ucRefs τ sig, s.mem (c, b) = Vend (V3 m) hI c b) ∧ s.sem (bC c) = 0

theorem end_reads (c : Dev nD) (s' : Phys nD τ sig (Elt F)) :
    iprop(Tend m hI c ∗ SI s') ⊢ (|={Set.univ}=> iprop(⌜holds m hI c s'.mem⌝ ∗ SI s') : sProp 𝕄) := by
  unfold Tend holds StableHlo.held
  iintro ⟨⟨Hh, Hb⟩, HSI⟩
  icombine HSI Hb gives %hb
  ihave Hr := (pointsTo_read_all (Pipeline.ucRefs τ sig) (fun b => ((c : Thread nD τ).1, b)) (Vend (V3 m) hI c) s') $$ [Hh HSI]
  · isplitl [Hh] <;> iassumption
  icases Hr with ⟨%h, HSI⟩
  imodintro
  isplitr
  · ipureintro
    exact ⟨h, by simpa using hb⟩
  · iexact HSI

theorem Vend_arg0 (c : Dev nD) : Vend (V3 m) hI c main_arg0 = m ((c : Thread nD τ).loc main_arg0) :=
  (Vend_off (V3 m) hI c _ (by decide)).trans <| (V3_of m c main_arg0 (by decide)).trans <| (V2_of m c main_arg0 (by decide)).trans <| (V1_of m c main_arg0 (by decide)).trans rfl
theorem V3_arg1 (c : Dev nD) : V3 m c main_arg1 = m ((c : Thread nD τ).loc main_arg1) :=
  (V3_of m c main_arg1 (by decide)).trans <| (V2_of m c main_arg1 (by decide)).trans <| (V1_of m c main_arg1 (by decide)).trans rfl

set_option backward.isDefEq.respectTransparency.types false in
/-- Every fair execution of @main ends, and when it has: each device's result holds what the body leaves, the arguments are
    as launched, and every semaphore of the machine is at zero. -/
theorem run_main :
    θ_run defs (onTc (τ := τ) (main (F := F))) ⟨m, fun _ => 0, ρ⟩ (fun r => (∀ c : Dev nD,
      r.2.mem ((c.tc : Thread nD τ).loc main_v31) = outVal c (ZV (V3 m) hI)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_regions_kit_dev_sems (pcfgs (F := F)) adm (pdats (V3 m) hI) () cellOf_inj EP defs₀ 𝒱₀ L lv m ρ main
    (segs m 𝒱₀ L lv (ride m hI) () (pdats (V3 m) hI) (region (V3 m) hI))
    (fun c Q => by
      rewrite [main_chain c, Seg.run_eq_chain,
        show (segs m 𝒱₀ L lv (ride m hI) () (pdats (V3 m) hI) (region (V3 m) hI) c).map Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := O₀) (hL := L_of_ne) (G := G) (u₀ := u₀) (hu₀ := fund)
    (T₀ := T0 m hI) (Tₙ := Tend m hI)
    (hch := fun c => ⟨.rfl, .rfl, .rfl, region_pre m hI c, (region_post m hI c).trans (by
      unfold ride1 Tend
      iintro ⟨Hh, Hb, HO⟩
      isplitr [HO]
      · isplitl [Hh] <;> iassumption
      · iexact HO)⟩)
    (hinit := init m ρ hI) (QY := holds m hI) (hfin := end_reads m hI)
    (hQ := fun s h hs => ⟨fun c =>
        have hm (r : Ref sig .tc) (hr : Proc.devRef .tc r ∈ Pipeline.ucRefs τ sig) := (h c).1 (Proc.devRef .tc r) hr
        ⟨(hm main_v31 (Finset.mem_filter.mpr ⟨StableHlo.devRef_mem_tcRefs main_v31, by decide⟩)).trans (Vend_out (V3 m) hI c),
          (hm main_arg0 (Finset.mem_filter.mpr ⟨StableHlo.devRef_mem_tcRefs main_arg0, by decide⟩)).trans (Vend_arg0 m hI c),
          (hm main_arg1 (Finset.mem_filter.mpr ⟨StableHlo.devRef_mem_tcRefs main_arg1, by decide⟩)).trans ((Vend_arg1 (V3 m) hI c).trans (V3_arg1 m c))⟩,
      sem_eq_zero hs fun c sm hsm => by
        obtain rfl := unscoped_eq sm hsm
        exact (h c).2⟩)

end Cert.KernelIdeal.Body

end
-- ==== Proof.Host.lean ====
/- What the host hands to the kernel: the words of `rows` are addresses inside the device's part of the table. -/
module

public import proofs.«01_k».proof.Proof.Launch
public import Idealize.ShloMosaic.Lib.StableHlo.RunClose

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline

variable {F : FTy → Type} [FloatOps F]

local notation "𝕄" => MT nD τ sig Unit (Elt F) ℕ UU ℕ

/-! ## The host's arithmetic -/

/-- The first address of the chunk of ids that device `c` works on, as the host computes it. -/
def chunkWord (c : Dev nD) : IVec S_ 32 :=
  muli (addi (muli (constantI S_ 32 2#32) (Host.remui (Host.divui (constantI S_ 32 (Dev.word c)) (constantI S_ 32 8#32)) (constantI S_ 32 2#32)))
    (Host.remui (Host.divui (constantI S_ 32 (Dev.word c)) (constantI S_ 32 4#32)) (constantI S_ 32 2#32))) (constantI S_ 32 512#32)
/-- That address, wrapped when it is negative. -/
def startWord (c : Dev nD) : IVec S_ 32 :=
  select (cmpi .slt (chunkWord c) (constantI S_ 32 0#32)) (addi (chunkWord c) (constantI S_ 32 2048#32)) (chunkWord c)
/-- The first row of the table that device `c` holds. -/
def shardWord (c : Dev nD) : IVec S_ 32 :=
  muli (Host.remui (Host.divui (constantI S_ 32 (Dev.word c)) (constantI S_ 32 1#32)) (constantI S_ 32 4#32)) (constantI S_ 32 16384#32)
/-- The device's ids, counted from its first row. -/
def relIds (c : Dev nD) (ids : IVec S2048 32) : IVec S512 32 :=
  subi (Host.dynamicSlice S512 ids (fun _ => (startWord c (Shape.Idx.first h_S_)).toInt) sliceFits_S2048_S512)
    (broadcastInDim S512 ![] bcast_S_S512 (shardWord c))
/-- Which of them the device holds. -/
def ownIds (c : Dev nD) (ids : IVec S2048 32) : IVec S512 1 :=
  andi (cmpi .sge (relIds c ids) (broadcastInDim S512 ![] bcast_S_S512 (constantI S_ 32 0#32)))
    (cmpi .slt (relIds c ids) (broadcastInDim S512 ![] bcast_S_S512 (constantI S_ 32 16384#32)))
/-- The rows to fetch: row 0 stands in for a row that another device holds. -/
def rowWords (c : Dev nD) (ids : IVec S2048 32) : IVec S512 32 :=
  select (ownIds c ids) (relIds c ids) (broadcastInDim S512 ![] bcast_S_S512 (constantI S_ 32 0#32))

variable (m : (a : Loc nD τ sig) → Buf (Elt F) a)

/-- The ids as the launch finds them on device `c`. -/
abbrev idsAt (c : Dev nD) : IVec S2048 32 := m ((c : Thread nD τ).loc main_arg0)

theorem V1_v22 (c : Dev nD) : V1 m c main_v22 = relIds c (idsAt m c) := by
  show StableHlo.after (hostOps0 c) (V0 m c) (Proc.devRef .tc main_v22) = _
  unfold relIds startWord chunkWord shardWord
  after_results_simp_entrywise
  simp only [id, Matrix.cons_val_fin_one]
theorem V1_v27 (c : Dev nD) : V1 m c main_v27 = ownIds c (idsAt m c) := by
  show StableHlo.after (hostOps0 c) (V0 m c) (Proc.devRef .tc main_v27) = _
  unfold ownIds relIds startWord chunkWord shardWord
  after_results_simp_entrywise
  simp only [id, Matrix.cons_val_fin_one]
theorem V1_c12 (c : Dev nD) : V1 m c main_c_12 = constantI S_ 32 0#32 := by
  show StableHlo.after (hostOps0 c) (V0 m c) (Proc.devRef .tc main_c_12) = _
  after_results_simp

/-- The kernel receives the row addresses. -/
theorem V3_v28 (c : Dev nD) : V3 m c main_v28 = rowWords c (idsAt m c) := by
  rw [V3_of m c main_v28 (by decide)]
  have h1 := V1_v22 m c
  have h2 := V1_v27 m c
  have h3 := V1_c12 m c
  show StableHlo.after hostOps0_1 (V1 m c) (Proc.devRef .tc main_v28) = _
  generalize V1 m c = V at h1 h2 h3 ⊢
  unfold rowWords
  rw [← h1, ← h2, ← h3]
  after_results_simp
  rfl
/-- The kernel receives the mask as one column of ones and zeros. -/
theorem V3_v30 (c : Dev nD) :
    V3 m c main_v30 = broadcastInDim S512x1 ![0] bcast_S512_S512x1_0 (uitofp .f32 (ownIds c (idsAt m c)) : FVec F S512 .f32) := by
  have h2 : Gen.V2 m c main_v27 = _ := (V2_of m c main_v27 (by decide)).trans (V1_v27 m c)
  show StableHlo.after hostOps0_2 (Gen.V2 m c) (Proc.devRef .tc main_v30) = _
  generalize Gen.V2 m c = V at h2 ⊢
  rw [← h2]
  after_results_simp

/-- The row addresses reach the kernel's scratch as they are. -/
theorem stgI_eq (c : Dev nD) : stgI (V3 m) c = rowWords c (idsAt m c) := by
  rw [← V3_v28]
  exact Memref.read_access_unit_zero (Elt F) main_v28
    (show (fun a => (win0_0.index t0_0) a * main_v28.ty.shape.size a) = fun _ => 0 from funext fun a => by fin_cases a; decide)
    (fun a => by fin_cases a; decide) _
theorem stgM_eq (c : Dev nD) :
    stgM (V3 m) c = broadcastInDim S512x1 ![0] bcast_S512_S512x1_0 (uitofp .f32 (ownIds c (idsAt m c)) : FVec F S512 .f32) := by
  rw [← V3_v30]
  exact Memref.read_access_unit_zero (Elt F) main_v30
    (show (fun a => (win0_1.index t0_0) a * main_v30.ty.shape.size a) = fun _ => 0 from funext fun a => by fin_cases a <;> decide)
    (fun a => by fin_cases a <;> decide) _

/-- A word picked by the range test lies in the range. -/
theorem pick_lt (w : BitVec 32) :
    (if BitVec.ofBool (BitVec.sle 0#32 w) &&& BitVec.ofBool (BitVec.slt w 16384#32) = 1#1 then w else 0#32).toNat < 16384 := by
  split
  · rename_i h
    have h1 : BitVec.sle 0#32 w = true := by
      by_contra h'; rw [Bool.not_eq_true] at h'; rw [h'] at h; simp at h
    have h2 : BitVec.slt w 16384#32 = true := by
      by_contra h'; rw [Bool.not_eq_true] at h'; rw [h'] at h; simp at h
    simp only [BitVec.sle, BitVec.slt, decide_eq_true_eq] at h1 h2
    have e0 : (0#32).toInt = 0 := by decide
    have e1 : (16384#32).toInt = 16384 := by decide
    have := w.isLt
    rw [e0, BitVec.toInt_eq_toNat_cond w] at h1; rw [e1, BitVec.toInt_eq_toNat_cond w] at h2
    split at h1 <;> omega
  · decide
theorem rowWords_lt (c : Dev nD) (ids : IVec S2048 32) (i : S512.Idx) : (rowWords c ids i).toNat < 16384 := pick_lt _

/-- A row address below the table's height is a row of the table. -/
theorem chk_of_lt {w : BitVec 32} (h : w.toNat < 16384) : k0_chk1 w := by
  intro a
  fin_cases a
  · show w.toNat + 1 ≤ 16384; omega
  · show 0 + 1024 ≤ 1024; omega

/-- Whatever the ids are, the kernel reads rows of the table only. -/
theorem rows_ok (c : Dev nD) (ci : Fin 4) (k : Fin T) : k0_chk1 (idw c (stgI (V3 m) c) ci k) := by
  rw [stgI_eq]
  exact chk_of_lt (rowWords_lt _ _ _)

end Cert.KernelIdeal.Body

end
-- ==== Proof.Words.lean ====
/- The host's words: which id a device looks up at which place, and where the row stands in its part of the table. -/
module

public import proofs.«01_k».proof.Proof.Host
public import Idealize.ShloMosaic.Lib.Pointwise.ShapeOpsCore
public import Idealize.ShloMosaic.Lib.Pointwise.Index
public import Idealize.ShloMosaic.Lib.ValueIdx

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueIdx
open Idealize.ShloMosaic.Pipeline

/-! ## The words that depend on the device alone -/

theorem startWord_val : ∀ c : Dev nD, (startWord c (Shape.Idx.first h_S_)).toInt = ((512 * (c.val / 4) : ℕ) : Int) := by decide +kernel
theorem shardWord_first : ∀ c : Dev nD, shardWord c (Shape.Idx.first h_S_) = BitVec.ofNat 32 (16384 * (c.val % 4)) := by decide +kernel

/-- Place `n` of the ids that device `c` looks up, among all the ids. -/
def atPlace (c : Dev nD) (n : Fin 512) : Fin 2048 := ⟨512 * (c.val / 4) + n.val, by have := c.isLt; have := n.isLt; simp only [nD] at *; omega⟩

/-- A device's id at a place, less the first row of the device's part of the table. -/
theorem relIds_apply (c : Dev nD) (ids : IVec S2048 32) (i : S512.Idx) :
    relIds c ids i = ids (ix1 (n := 2048) (atPlace c (i 0))) - BitVec.ofNat 32 (16384 * (c.val % 4)) := by
  have e1 : Host.dynamicSlice S512 ids (fun _ => (startWord c (Shape.Idx.first h_S_)).toInt) sliceFits_S2048_S512 i
      = ids (ix1 (n := 2048) (atPlace c (i 0))) := by
    rw [Host.dynamicSlice_apply]
    congr 1
    rw [Shape.Idx.norm_def]
    funext a
    obtain rfl : a = 0 := Subsingleton.elim _ _
    apply Fin.ext
    show Host.clampedStart S2048 S512 _ _ 0 + (i 0).val = 512 * (c.val / 4) + (i 0).val
    have hc : Host.clampedStart S2048 S512 sliceFits_S2048_S512.1 (fun _ => (startWord c (Shape.Idx.first h_S_)).toInt) (0 : Fin S2048.rank)
        = 512 * (c.val / 4) :=
      Host.clampedStart_of_le (s := S2048) (t := S512) _ _ (0 : Fin S2048.rank) (512 * (c.val / 4)) (startWord_val c) (by
        have := c.isLt
        simp only [nD] at this
        show 512 * (c.val / 4) + 512 ≤ 2048
        omega)
    rw [hc]
  show Host.dynamicSlice S512 ids (fun _ => (startWord c (Shape.Idx.first h_S_)).toInt) sliceFits_S2048_S512 i - shardWord c _ = _
  rw [e1, ← shardWord_first c]
  rfl

/-! ## The words at a place -/

/-- The range test of one word. -/
def inShard (w : BitVec 32) : BitVec 1 := BitVec.ofBool (BitVec.sle 0#32 w) &&& BitVec.ofBool (BitVec.slt w 16384#32)

theorem inShard_eq (w : BitVec 32) : inShard w = if w.toNat < 16384 then 1#1 else 0#1 := by
  have e0 : (0#32).toInt = 0 := by decide
  have e1 : (16384#32).toInt = 16384 := by decide
  have hw := w.isLt
  have h := BitVec.toInt_eq_toNat_cond w
  unfold inShard
  by_cases hlt : w.toNat < 16384
  · rw [if_pos (by omega)] at h
    have h1 : BitVec.sle 0#32 w = true := by simp only [BitVec.sle, decide_eq_true_eq]; omega
    have h2 : BitVec.slt w 16384#32 = true := by simp only [BitVec.slt, decide_eq_true_eq]; omega
    rw [h1, h2, if_pos hlt]; rfl
  · rw [if_neg hlt]
    by_cases h31 : 2 * w.toNat < 2 ^ 32
    · rw [if_pos h31] at h
      have h2 : BitVec.slt w 16384#32 = false := by
        rw [← Bool.not_eq_true]; simp only [BitVec.slt, decide_eq_true_eq]; omega
      rw [h2]; cases BitVec.sle 0#32 w <;> rfl
    · rw [if_neg h31] at h
      have h1 : BitVec.sle 0#32 w = false := by
        rw [← Bool.not_eq_true]; simp only [BitVec.sle, decide_eq_true_eq]; omega
      rw [h1]; cases BitVec.slt w 16384#32 <;> rfl

/-- An id less the first row of part `z`: the row in the part if the id is in it, out of the part's range if not. -/
theorem sub_toNat (id : BitVec 32) (z : ℕ) (hid : id.toNat < 65536) (hz : z < 4) :
    (id - BitVec.ofNat 32 (16384 * z)).toNat = if 16384 * z ≤ id.toNat then id.toNat - 16384 * z else 2 ^ 32 + id.toNat - 16384 * z := by
  rw [BitVec.toNat_sub, BitVec.toNat_ofNat, Nat.mod_eq_of_lt (show 16384 * z < 2 ^ 32 by omega)]
  split <;> omega

variable (c : Dev nD) (ids : IVec S2048 32) (i : S512.Idx)

/-- The device holds the row at this place just when the id names one of its rows. -/
theorem ownIds_apply (h : (ids (ix1 (n := 2048) (atPlace c (i 0)))).toNat < 65536) :
    ownIds c ids i = if (ids (ix1 (n := 2048) (atPlace c (i 0)))).toNat / 16384 = c.val % 4 then 1#1 else 0#1 := by
  have e := inShard_eq (relIds c ids i)
  rw [relIds_apply, sub_toNat _ _ h (Nat.mod_lt _ (by decide))] at e
  have hz : c.val % 4 < 4 := Nat.mod_lt _ (by decide)
  show inShard (relIds c ids i) = _
  rw [relIds_apply, e]
  split <;> split <;> split <;> first | rfl | (exfalso; omega)

/-- And then the address it fetches is the row's in its part. -/
theorem rowWords_apply (h : (ids (ix1 (n := 2048) (atPlace c (i 0)))).toNat < 65536)
    (ho : (ids (ix1 (n := 2048) (atPlace c (i 0)))).toNat / 16384 = c.val % 4) :
    16384 * (c.val % 4) + (rowWords c ids i).toNat = (ids (ix1 (n := 2048) (atPlace c (i 0)))).toNat := by
  have e : rowWords c ids i = relIds c ids i := by
    show (if ownIds c ids i = 1#1 then relIds c ids i else _) = _
    rw [ownIds_apply c ids i h, if_pos ho, if_pos rfl]
  rw [e, relIds_apply, sub_toNat _ _ h (Nat.mod_lt _ (by decide)), if_pos (by omega)]
  omega

end Cert.KernelIdeal.Body

end
-- ==== Proof.Sum.lean ====
/- The sum along a line of four devices, when one of them alone has a row: that row. -/
module

public import proofs.«01_k».proof.Proof.Proto
public import Idealize.ShloMosaic.PureOps.Ideal
public import Idealize.ShloMosaic.Lib.ValueIdx

@[expose] public section

set_option maxRecDepth 16384

noncomputable section

namespace Cert.KernelIdeal.Body

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ValueIdx
open Idealize.ShloMosaic.Pipeline

/-! ## The line -/

theorem line_n : ∀ c : Dev nD, (zn c).val / 4 = c.val / 4 := by decide
theorem line_m : ∀ c : Dev nD, (zm c).val / 4 = c.val / 4 := by decide

/-- What each device brings to the sum at one place: the value `v` on the device at position `w` of the line, nothing elsewhere. -/
def share (v : EReal) (w p : ℕ) : EReal := if p % 4 = w then v else 0
theorem share_at (v : EReal) (w p k : ℕ) (h : p % 4 = k) : share v w p = if k = w then v else 0 := by unfold share; rw [h]

/-- The four contributions in the four orders in which the devices of a line add them. -/
theorem four0 (v : EReal) (w : ℕ) (hw : w < 4) :
    (if 0 = w then v else 0) + ((if 1 = w then v else 0) + ((if 2 = w then v else 0) + (if 3 = w then v else 0))) = v := by
  interval_cases w <;> simp
theorem four1 (v : EReal) (w : ℕ) (hw : w < 4) :
    ((if 1 = w then v else 0) + (if 0 = w then v else 0)) + ((if 2 = w then v else 0) + (if 3 = w then v else 0)) = v := by
  interval_cases w <;> simp
theorem four2 (v : EReal) (w : ℕ) (hw : w < 4) :
    ((if 2 = w then v else 0) + ((if 1 = w then v else 0) + (if 0 = w then v else 0))) + (if 3 = w then v else 0) = v := by
  interval_cases w <;> simp
theorem four3 (v : EReal) (w : ℕ) (hw : w < 4) :
    (if 3 = w then v else 0) + ((if 2 = w then v else 0) + ((if 1 = w then v else 0) + (if 0 = w then v else 0))) = v := by
  interval_cases w <;> simp

theorem at0 : ∀ c : Dev nD, zp c = 0 → c.val % 4 = 0 ∧ (zn c).val % 4 = 1 ∧ (zn (zn c)).val % 4 = 2 ∧ (zn (zn (zn c))).val % 4 = 3 := by decide
theorem atPart : ∀ c : Dev nD, zp c = 1 → c.val % 4 = 1 ∧ (zm c).val % 4 = 0 ∧ (zn c).val % 4 = 2 ∧ (zn (zn c)).val % 4 = 3 := by decide
theorem at2 : ∀ c : Dev nD, zp c = 2 → c.val % 4 = 2 ∧ (zm c).val % 4 = 1 ∧ (zm (zm c)).val % 4 = 0 ∧ (zn c).val % 4 = 3 := by decide
theorem at3 : ∀ c : Dev nD, zp c = 3 → c.val % 4 = 3 ∧ (zm c).val % 4 = 2 ∧ (zm (zm c)).val % 4 = 1 ∧ (zm (zm (zm c))).val % 4 = 0 := by decide

section
variable (Z : Dev nD → Fin 4 → V2 Ideal) (ci : Fin 4) (c : Dev nD) (ix : S128x1024.Idx)

/-- One device's contribution at a place. -/
abbrev zat (d : Dev nD) : EReal := Z d ci ix

theorem total0 (h : zp c = 0) : (total Z ci c ix : EReal)
    = zat Z ci ix c + (zat Z ci ix (zn c) + (zat Z ci ix (zn (zn c)) + zat Z ci ix (zn (zn (zn c))))) := by
  unfold total; rw [h]; rfl
theorem total1 (h : zp c = 1) : (total Z ci c ix : EReal)
    = (zat Z ci ix c + zat Z ci ix (zm c)) + (zat Z ci ix (zn c) + zat Z ci ix (zn (zn c))) := by
  unfold total; rw [h]; rfl
theorem total2 (h : zp c = 2) : (total Z ci c ix : EReal)
    = (zat Z ci ix c + (zat Z ci ix (zm c) + zat Z ci ix (zm (zm c)))) + zat Z ci ix (zn c) := by
  unfold total; rw [h]; rfl
theorem total3 (h : zp c = 3) : (total Z ci c ix : EReal)
    = zat Z ci ix c + (zat Z ci ix (zm c) + (zat Z ci ix (zm (zm c)) + zat Z ci ix (zm (zm (zm c))))) := by
  unfold total; rw [h]; rfl

/-- Whatever the way round, the line's sum of such contributions is `v`. -/
theorem total_share (v : EReal) (w : ℕ) (hw : w < 4)
    (h : ∀ d : Dev nD, d.val / 4 = c.val / 4 → zat Z ci ix d = share v w d.val) :
    (total Z ci c ix : EReal) = v := by
  have key : ∀ (d : Dev nD) (k : ℕ), d.val / 4 = c.val / 4 → d.val % 4 = k → zat Z ci ix d = if k = w then v else 0 :=
    fun d k h1 h2 => (h d h1).trans (share_at v w _ k h2)
  have l1 := line_n c
  have l2 := (line_n (zn c)).trans l1
  have l3 := (line_n (zn (zn c))).trans l2
  have r1 := line_m c
  have r2 := (line_m (zm c)).trans r1
  have r3 := (line_m (zm (zm c))).trans r2
  obtain hz | hz | hz | hz := (by decide : ∀ k : Fin 4, k = 0 ∨ k = 1 ∨ k = 2 ∨ k = 3) (zp c)
  · obtain ⟨p0, p1, p2, p3⟩ := at0 c hz
    rw [total0 Z ci c ix hz, key _ _ rfl p0, key _ _ l1 p1, key _ _ l2 p2, key _ _ l3 p3]
    exact four0 v w hw
  · obtain ⟨p0, p1, p2, p3⟩ := atPart c hz
    rw [total1 Z ci c ix hz, key _ _ rfl p0, key _ _ r1 p1, key _ _ l1 p2, key _ _ l2 p3]
    exact four1 v w hw
  · obtain ⟨p0, p1, p2, p3⟩ := at2 c hz
    rw [total2 Z ci c ix hz, key _ _ rfl p0, key _ _ r1 p1, key _ _ r2 p2, key _ _ l1 p3]
    exact four2 v w hw
  · obtain ⟨p0, p1, p2, p3⟩ := at3 c hz
    rw [total3 Z ci c ix hz, key _ _ rfl p0, key _ _ r1 p1, key _ _ r2 p2, key _ _ r3 p3]
    exact four3 v w hw

end

end Cert.KernelIdeal.Body

end
-- ==== Proof.Masked.lean ====
/- A device's contribution to one chunk of the result: the rows it holds, and zero in the place of the others. -/
module

public import proofs.«01_k».proof.Proof.Words
public import proofs.«01_k».proof.Proof.Sum
public import Idealize.ShloMosaic.Lib.Pointwise.ShapeOpsCore
public import Idealize.ShloMosaic.Lib.Pointwise.Reshape
public import Idealize.ShloMosaic.PureOps.Ideal
public import Idealize.ShloMosaic.Lib.ValueIdx

@[expose] public section

set_option maxRecDepth 16384

noncomputable section

namespace Cert.KernelIdeal.Body

open Idealize.ShloMosaic hiding ix1 ix2 ix3
open Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline

section
variable {F : FTy → Type} [FloatOps F]
variable (c : Dev nD) (fI : Buf (Elt F) (iB.view.loc (c : Thread nD τ))) (hI : ∀ ci k, k0_chk1 (idw c fI ci k))
  (fE : Buf (Elt F) (eB.view.loc (c : Thread nD τ))) (fM : Buf (Elt F) (mB.view.loc (c : Thread nD τ))) (ci : Fin 4)

/-- Row `r` of chunk `ci` among the device's 512 places. -/
def inChunk (ci : Fin 4) (r : Fin 128) : Fin 512 := ⟨128 * ci.val + r.val, by have := ci.isLt; have := r.isLt; omega⟩

theorem iOff_val : ∀ (ci : Fin 4) (r : Fin 128), iOff ci (kk r) 0 = (inChunk ci r).val := by decide +kernel

/-- The word that the kernel reads for row `r` of chunk `ci`. -/
theorem idw_val (r : Fin 128) : idw c fI ci (kk r) = fI (ix1 (n := 512) (inChunk ci r)) := by
  show fI ((Rect.unit (s := S512) (iOff ci (kk r)) S1.size (iinb ci (kk r))).emb _) = _
  congr 1
  funext a
  obtain rfl : a = 0 := Subsingleton.elim _ _
  apply Fin.ext
  show iOff ci (kk r) 0 + 1 * 0 = (inChunk ci r).val
  rw [iOff_val, Nat.mul_zero, Nat.add_zero]

theorem row_lt (hJ : ∀ ci k, k0_chk1 (idw c fI ci k)) (r : Fin 128) : (idw c fI ci (kk r)).toNat < 16384 := by
  have := hJ ci (kk r) 0
  change (idw c fI ci (kk r)).toNat + 1 ≤ 16384 at this
  omega

/-- Column `j` of the row that the word names. -/
theorem rowAt_val (r : Fin 128) (j : Fin 1024) :
    rowAt c fI hI fE ci (kk r) (ix1 (n := 1024) j)
      = fE (ix2 (n0 := 16384) (n1 := 1024) ⟨(idw c fI ci (kk r)).toNat, row_lt c fI ci hI r⟩ j) := by
  have e : Shape.reshapeEquiv squeezes_S1x1024_S1024.numel_eq (ix1 (n := 1024) j) = ix2 (n0 := 1) (n1 := 1024) (⟨0, Nat.one_pos⟩ : Fin 1) j :=
    Shape.reshapeEquiv_eq_of_rowMajor _ (by
      rw [Shape.rowMajor_val_two, Shape.rowMajor_val_one]
      show 0 * 1024 + j.val = j.val
      omega)
  show fE ((Rect.unit (s := S16384x1024) (k0_off3 (idw c fI ci (kk r))) S1x1024.size (k0_off3_inb _ (hI ci (kk r)))).emb
    (Shape.reshapeEquiv squeezes_S1x1024_S1024.numel_eq (ix1 (n := 1024) j))) = _
  rw [e]
  congr 1
  funext a
  apply Fin.ext
  match a with
  | ⟨0, _⟩ => show (idw c fI ci (kk r)).toNat + 1 * 0 = (idw c fI ci (kk r)).toNat; omega
  | ⟨1, _⟩ => show 0 + 1 * j.val = j.val; omega

/-- The chunk's rows as a matrix. -/
theorem rows_val (r : Fin 128) (j : Fin 1024) :
    shapeCast S128x1024 (rowsOf c fI hI fE ci) shapeCasts_S1x128x1024_S128x1024 (ix2 (n0 := 128) (n1 := 1024) r j)
      = fE (ix2 (n0 := 16384) (n1 := 1024) ⟨(idw c fI ci (kk r)).toNat, row_lt c fI ci hI r⟩ j) := by
  have e : Shape.reshapeEquiv shapeCasts_S1x128x1024_S128x1024 (ix2 (n0 := 128) (n1 := 1024) r j)
      = ix3 (⟨0, Nat.one_pos⟩ : Fin 1) r j :=
    Shape.reshapeEquiv_eq_of_rowMajor _ (by
      rw [Shape.rowMajor_val_three, Shape.rowMajor_val_two]
      show (0 * 128 + r.val) * 1024 + j.val = r.val * 1024 + j.val
      omega)
  show rowsOf c fI hI fE ci (Shape.reshapeEquiv shapeCasts_S1x128x1024_S128x1024 (ix2 (n0 := 128) (n1 := 1024) r j)) = _
  rw [e]
  exact rowAt_val c fI hI fE ci r j

/-- The mask as a matrix of equal columns. -/
theorem mask_val (r : Fin 128) (j : Fin 1024) :
    broadcastTo S128x1024 (shapeCast S128x1 ((mB.access (mR ci)).read (Elt F) fM) shapeCasts_S128x1_S128x1) broadcasts_S128x1_S128x1024
        (ix2 (n0 := 128) (n1 := 1024) r j)
      = fM (ix2 (n0 := 512) (n1 := 1) (inChunk ci r) ⟨0, Nat.one_pos⟩) := by
  have e := Idealize.ShloMosaic.shapeCast_id (s := S128x1) (α := Elt F .f32) ((mB.access (mR ci)).read (Elt F) fM) shapeCasts_S128x1_S128x1
  refine (congrArg (fun w => broadcastTo S128x1024 w broadcasts_S128x1_S128x1024 (ix2 (n0 := 128) (n1 := 1024) r j)) e).trans ?_
  show fM ((mR ci).emb _) = _
  congr 1
  funext a
  apply Fin.ext
  match a with
  | ⟨0, _⟩ => show 128 * ci.val + 1 * r.val = 128 * ci.val + r.val; omega
  | ⟨1, _⟩ => rfl

/-- One place of a device's contribution: the fetched row's, times the mask's. -/
theorem Zval_apply (r : Fin 128) (j : Fin 1024) :
    Zval c fI hI fE ci fM (ix2 (n0 := 128) (n1 := 1024) r j)
      = FloatOps.truncf .bf16 bitsLt_bf16_f32 (FloatOps.mulf
          (fE (ix2 (n0 := 16384) (n1 := 1024) ⟨(idw c fI ci (kk r)).toNat, row_lt c fI ci hI r⟩ j))
          (fM (ix2 (n0 := 512) (n1 := 1) (inChunk ci r) ⟨0, Nat.one_pos⟩))) := by
  rw [← rows_val c fI hI fE ci r j, ← mask_val c fM ci r j]
  unfold Zval k0_pay19
  exact congrFun (flat4_un4 _) _
end

/-- Over the reals: the row if the device holds it, zero if not. -/
theorem Z_apply (m : (a : Loc nD τ sig) → Buf (Elt Ideal) a) (d : Dev nD) (ci : Fin 4) (r : Fin 128) (j : Fin 1024)
    (h : (idsAt m d (ix1 (n := 2048) (atPlace d (inChunk ci r)))).toNat < 65536) (v : EReal)
    (hv : ∀ a : Fin 16384, 16384 * (d.val % 4) + a.val = (idsAt m d (ix1 (n := 2048) (atPlace d (inChunk ci r)))).toNat →
      (tab (V3 m) d (ix2 (n0 := 16384) (n1 := 1024) a j) : EReal) = v) :
    zat (ZV (V3 m) (rows_ok m)) ci (ix2 (n0 := 128) (n1 := 1024) r j) d
      = share v ((idsAt m d (ix1 (n := 2048) (atPlace d (inChunk ci r)))).toNat / 16384) d.val := by
  have e := Zval_apply d (stgI (V3 m) d) (rows_ok m d) (tab (V3 m) d) (stgM (V3 m) d) ci r j
  have em : (stgM (V3 m) d (ix2 (n0 := 512) (n1 := 1) (inChunk ci r) ⟨0, Nat.one_pos⟩) : EReal)
      = (((ownIds d (idsAt m d) (ix1 (n := 512) (inChunk ci r))).toNat : ℝ) : EReal) := by
    rw [stgM_eq]
    show (((ownIds d (idsAt m d) _).toNat : ℝ) : EReal) = _
    congr 4
    funext a
    obtain rfl : a = 0 := Subsingleton.elim _ _
    rfl
  have ho := ownIds_apply d (idsAt m d) (ix1 (n := 512) (inChunk ci r)) h
  change ownIds d (idsAt m d) (ix1 (n := 512) (inChunk ci r))
    = if (idsAt m d (ix1 (n := 2048) (atPlace d (inChunk ci r)))).toNat / 16384 = d.val % 4 then 1#1 else 0#1 at ho
  have e' : zat (ZV (V3 m) (rows_ok m)) ci (ix2 (n0 := 128) (n1 := 1024) r j) d
      = HMul.hMul (α := EReal) (β := EReal) (tab (V3 m) d (ix2 (n0 := 16384) (n1 := 1024) ⟨(idw d (stgI (V3 m) d) ci (kk r)).toNat, row_lt d _ ci (rows_ok m d) r⟩ j))
        (stgM (V3 m) d (ix2 (n0 := 512) (n1 := 1) (inChunk ci r) ⟨0, Nat.one_pos⟩)) := e
  rw [e', em, ho]
  unfold share
  by_cases hd : (idsAt m d (ix1 (n := 2048) (atPlace d (inChunk ci r)))).toNat / 16384 = d.val % 4
  · rw [if_pos hd, if_pos hd.symm]
    have hw : idw d (stgI (V3 m) d) ci (kk r) = rowWords d (idsAt m d) (ix1 (n := 512) (inChunk ci r)) := by
      rw [idw_val, stgI_eq]
    have hr := rowWords_apply d (idsAt m d) (ix1 (n := 512) (inChunk ci r)) h hd
    rw [hv _ (by show _ + (idw d (stgI (V3 m) d) ci (kk r)).toNat = _; rw [hw]; exact hr)]
    simp
  · rw [if_neg hd, if_neg (fun h' => hd h'.symm)]
    simp

end Cert.KernelIdeal.Body

end
-- ==== Proof.Values.lean ====
/- The value of the kernel's result over the reals: row `i` is the table's row named by the `i`-th id. -/
module

public import proofs.«01_k».proof.Proof.Masked

@[expose] public section

set_option maxRecDepth 16384

noncomputable section

namespace Cert.KernelIdeal.Body

open Idealize.ShloMosaic hiding ix1 ix2 ix3
open Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline

/-- The four devices of the line that sums a row of the result hold that row's place. -/
theorem place_of_row (c d : Dev nD) (i : Fin 2048) (hd : d.val / 4 = (qdev (rowQ i) c).val / 4) :
    atPlace d (inChunk (rowC i) (rowR i)) = i := by
  have hq : (qdev (rowQ i) c).val / 4 = i.val / 512 := by
    show (4 * (i.val / 512) + c.val % 4) / 4 = i.val / 512
    omega
  apply Fin.ext
  show 512 * (d.val / 4) + (128 * (i.val / 128 % 4) + i.val % 128) = i.val
  omega

/-- Every device ends with the table's rows that the ids name, if all devices have the same ids, each id names a row, and device `d`'s
    part of the table is block `d % 4` of the whole. -/
theorem outVal_apply (m : (a : Loc nD τ sig) → Buf (Elt Ideal) a) (ids : IVec S2048 32)
    (hids : ∀ d : Dev nD, idsAt m d = ids) (hr : ∀ i : Fin 2048, (ids (ix1 (n := 2048) i)).toNat < 65536)
    (E : Fin 65536 → Fin 1024 → EReal)
    (hE : ∀ (d : Dev nD) (a : Fin 16384) (j : Fin 1024) (b : Fin 65536), 16384 * (d.val % 4) + a.val = b.val →
      (tab (V3 m) d (ix2 (n0 := 16384) (n1 := 1024) a j) : EReal) = E b j)
    (c : Dev nD) (i : Fin 2048) (j : Fin 1024) :
    (outVal c (ZV (V3 m) (rows_ok m)) (ix2 (n0 := 2048) (n1 := 1024) i j) : EReal) = E ⟨(ids (ix1 (n := 2048) i)).toNat, hr i⟩ j := by
  have hb := hr i
  show (total (ZV (V3 m) (rows_ok m)) (rowC i) (qdev (rowQ i) c) (ix2 (n0 := 128) (n1 := 1024) (rowR i) j) : EReal) = _
  refine total_share _ _ _ _ _ ((ids (ix1 (n := 2048) i)).toNat / 16384) (by omega) fun d hd => ?_
  have hp := place_of_row c d i hd
  have hid : idsAt m d (ix1 (n := 2048) (atPlace d (inChunk (rowC i) (rowR i)))) = ids (ix1 (n := 2048) i) := by rw [hp, hids]
  have hz := Z_apply m d (rowC i) (rowR i) j (by rw [hid]; exact hb) (E ⟨(ids (ix1 (n := 2048) i)).toNat, hb⟩ j)
    (fun a ha => hE d a j _ (by rw [ha, hid]))
  rw [hid] at hz
  exact hz

end Cert.KernelIdeal.Body

end
-- ==== Proof.Lookup.lean ====
/- The value of the reference: row `i` of its result is the table's row named by the `i`-th id. -/
module

public import proofs.«01_k».proof.Proof.Gen.ReferenceIdeal.Run
public import Idealize.ShloMosaic.Lib.ValueIdx

@[expose] public section

set_option maxRecDepth 16384

noncomputable section

namespace Cert.ReferenceIdeal.Value

open Cert.ReferenceIdeal Cert.ReferenceIdeal.Gen Idealize.ShloMosaic.TcCoe Idealize.SL.Sem Idealize.ShloMosaic.StableHlo
open Idealize.ShloMosaic Idealize.ShloMosaic.ValueIdx

section
variable {α : Type}

private abbrev dims := gather_S65536x1024_S2048x1_S2048x1024_1_0_n_n_0_1_11024

/-- The gather's result at row `i` is the operand's row named by the `i`-th index, brought into the operand. -/
theorem gather_row (x : S65536x1024.Idx → α) (idx : IVec S2048x1 32) (i : Fin 2048) (j : Fin 1024) :
    Host.gather gather_S65536x1024_S2048x1_S2048x1024_1_0_n_n_0_1_11024 x idx (ix2 (n0 := 2048) (n1 := 1024) i j)
      = x (ix2 (n0 := 65536) (n1 := 1024)
          ⟨min (idx (ix2 (n0 := 2048) (n1 := 1) i ⟨0, Nat.one_pos⟩)).toInt.toNat 65535, by omega⟩ j) := by
  unfold Host.gather
  refine congrArg x (funext fun a => Fin.ext ?_)
  show dims.start (ix2 (n0 := 2048) (n1 := 1024) i j) idx a + dims.batchCoord (ix2 (n0 := 2048) (n1 := 1024) i j) a
    + dims.offCoord (ix2 (n0 := 2048) (n1 := 1024) i j) a = _
  rw [GatherDims.batchCoord_eq_zero _ _ _ (fun h => absurd h List.not_mem_nil), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    have at_row : dims.siIdx (ix2 (n0 := 2048) (n1 := 1024) i j) ⟨List.idxOf (0 : Fin 2) dims.startIndexMap,
        List.idxOf_lt_length_iff.2 (List.mem_singleton.mpr rfl)⟩ = ix2 (n0 := 2048) (n1 := 1) i ⟨0, Nat.one_pos⟩ :=
      funext fun b => Fin.ext (match b with | ⟨0, _⟩ => rfl | ⟨1, _⟩ => rfl)
    exact (dif_pos (show (0 : Fin 2) ∈ dims.startIndexMap from List.mem_singleton.mpr rfl)).trans
      (congrArg (fun k => min (idx k).toInt.toNat 65535) at_row)
  | ⟨1, _⟩ =>
    have s0 : dims.start (ix2 (n0 := 2048) (n1 := 1024) i j) idx (1 : Fin 2) = 0 := by
      unfold GatherDims.start
      exact dif_neg (by decide)
    have o1 : dims.offCoord (ix2 (n0 := 2048) (n1 := 1024) i j) (1 : Fin 2) = j.val := rfl
    exact (congrArg₂ (· + ·) s0 o1).trans (Nat.zero_add _)
end

/-- An id that names a row is not negative, so the index is the id. -/
theorem index_of_id (w : BitVec 32) (h : w.toNat < 65536) : (BitVec.slt w 0#32) = false ∧ w.toInt.toNat = w.toNat := by
  have e := BitVec.toInt_eq_toNat_cond w
  rw [if_pos (by omega)] at e
  refine ⟨?_, by rw [e]; rfl⟩
  simp only [BitVec.slt, decide_eq_false_iff_not]
  have e0 : (0#32).toInt = 0 := by decide
  omega

/-- Row `i` of the reference's result, at column `j`. -/
theorem lookup_apply {F : FTy → Type} [FloatOps F] (E : FVec F S65536x1024 .f32) (ids : IVec S2048 32) (i : Fin 2048) (j : Fin 1024)
    (h : (ids (ix1 (n := 2048) i)).toNat < 65536) :
    Host.gather gather_S65536x1024_S2048x1_S2048x1024_1_0_n_n_0_1_11024 E
        (broadcastInDim S2048x1 ![0] bcast_S2048_S2048x1_0
          (select (cmpi .slt ids (broadcastInDim S2048 ![] bcast_S_S2048 (constantI S_ 32 0#32)))
            (addi ids (broadcastInDim S2048 ![] bcast_S_S2048 (constantI S_ 32 65536#32))) ids))
        (ix2 (n0 := 2048) (n1 := 1024) i j)
      = E (ix2 (n0 := 65536) (n1 := 1024) ⟨(ids (ix1 (n := 2048) i)).toNat, h⟩ j) := by
  rw [gather_row]
  obtain ⟨h1, h2⟩ := index_of_id _ h
  have pick : (broadcastInDim S2048x1 ![0] bcast_S2048_S2048x1_0
          (select (cmpi .slt ids (broadcastInDim S2048 ![] bcast_S_S2048 (constantI S_ 32 0#32)))
            (addi ids (broadcastInDim S2048 ![] bcast_S_S2048 (constantI S_ 32 65536#32))) ids))
        (ix2 (n0 := 2048) (n1 := 1) i ⟨0, Nat.one_pos⟩) = ids (ix1 (n := 2048) i) := by
    have at_i : ∀ v : IVec S2048 32, broadcastInDim S2048x1 ![0] bcast_S2048_S2048x1_0 v (ix2 (n0 := 2048) (n1 := 1) i ⟨0, Nat.one_pos⟩)
        = v (ix1 (n := 2048) i) := fun v => congrArg v (funext fun a => by obtain rfl : a = 0 := Subsingleton.elim _ _; rfl)
    rw [at_i]
    show (if BitVec.ofBool (BitVec.slt (ids (ix1 (n := 2048) i)) 0#32) = 1#1 then _ else ids (ix1 (n := 2048) i)) = _
    rw [h1]
    rfl
  refine congrArg E (congrArg (fun k => ix2 (n0 := 65536) (n1 := 1024) k j) (Fin.ext ?_))
  refine (congrArg (fun w : BitVec 32 => min w.toInt.toNat 65535) pick).trans ?_
  show min (BitVec.toInt (ids (ix1 (n := 2048) i))).toNat 65535 = (ids (ix1 (n := 2048) i)).toNat
  rw [h2]
  exact Nat.min_eq_left (by omega)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_range_KernelIdeal
public import proofs.«01_k».proof.Proof.Gen.Pre_ids_in_range_ReferenceIdeal
public import proofs.«01_k».proof.Proof.Host
public import proofs.«01_k».proof.Proof.Values
public import proofs.«01_k».proof.Proof.Lookup
public import proofs.«01_k».proof.Proof.Kernel.Host

@[expose] public section

noncomputable section

namespace Cert.Proof

open Idealize.ShloMosaic hiding ix1 ix2 ix3
open Idealize.ShloMosaic.ValueIdx Idealize.ShloMosaic.TcCoe Idealize.SL.Sem

/-- The kernel at the machine's floats runs, keeps its arguments and leaves every counter at zero: no word it reads from the table's
    addresses lies outside the table, whatever the ids are. -/
theorem frame_kernel : Cert.quiescent_Kernel := fun m ρ _ =>
  (θ_run Cert.Kernel.defs _ _).mono (fun _ h => ⟨fun c => (h.1 c).2, h.2⟩)
    (Cert.Kernel.Body.run_main m ρ (Cert.Kernel.Body.rows_ok m))

/-- The same over the extended reals. -/
theorem frame_kernelIdeal : Cert.quiescent_KernelIdeal := fun m ρ _ =>
  (θ_run Cert.KernelIdeal.defs _ _).mono (fun _ h => ⟨fun c => (h.1 c).2, h.2⟩)
    (Cert.KernelIdeal.Body.run_main m ρ (Cert.KernelIdeal.Body.rows_ok m))

/-- The reference runs on the host alone and has no counter. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- What the kernel's precondition says of one id. -/
theorem id_lt (w : BitVec 32)
    (h : BitVec.ofBool (BitVec.sle 0#32 w) &&& BitVec.ofBool (BitVec.slt w 65536#32) = 1#1) : w.toNat < 65536 := by
  have e0 : (0#32).toInt = 0 := by decide
  have e1 : (65536#32).toInt = 65536 := by decide
  have h1 : BitVec.sle 0#32 w = true := by
    by_contra h'; rw [Bool.not_eq_true] at h'; rw [h'] at h; simp at h
  have h2 : BitVec.slt w 65536#32 = true := by
    by_contra h'; rw [Bool.not_eq_true] at h'; rw [h'] at h; simp at h
  simp only [BitVec.sle, BitVec.slt, decide_eq_true_eq] at h1 h2
  have := w.isLt
  rw [e0, BitVec.toInt_eq_toNat_cond w] at h1; rw [e1, BitVec.toInt_eq_toNat_cond w] at h2
  split at h1 <;> omega

/-- Every device's result is the reference's: at row `i` both hold the whole table's row that the `i`-th id names. -/
theorem algebraic : Cert.algebraic_KernelIdeal_ReferenceIdeal_pre_ids_in_range_KernelIdeal := by
  intro m g m' g' hpre hin
  have hr : ∀ i : Fin 2048, ((m' (((0 : Dev Cert.ReferenceIdeal.nD).tc : Thread Cert.ReferenceIdeal.nD Cert.ReferenceIdeal.τ).loc
      Cert.ReferenceIdeal.main_arg0) : IVec ⟨1, ![2048]⟩ 32) (ix1 (n := 2048) i)).toNat < 65536 := fun i => by
    have h := congrFun (hpre 0) (ix1 (n := 2048) i)
    rw [(hin 0).1] at h
    exact id_lt _ h
  refine ⟨_, ?_, (θ_run Cert.ReferenceIdeal.defs _ _).mono (fun r h => h 0) (Cert.ReferenceIdeal.Value.run m' g')⟩
  refine (θ_run Cert.KernelIdeal.defs _ _).mono (fun r h c => ?_)
    (Cert.KernelIdeal.Body.run_main m g (Cert.KernelIdeal.Body.rows_ok m))
  refine ⟨(h.1 c).1.trans (funext fun ix => ?_), (h.1 c).2⟩
  obtain ⟨i, j, rfl⟩ : ∃ (i : Fin 2048) (j : Fin 1024), ix = ix2 (n0 := 2048) (n1 := 1024) i j :=
    ⟨ix 0, ix 1, funext fun a => match a with | ⟨0, _⟩ => rfl | ⟨1, _⟩ => rfl⟩
  refine Eq.trans (Cert.KernelIdeal.Body.outVal_apply m
    (m' (((0 : Dev Cert.ReferenceIdeal.nD).tc : Thread Cert.ReferenceIdeal.nD Cert.ReferenceIdeal.τ).loc Cert.ReferenceIdeal.main_arg0))
    (fun d => (hin d).1) hr
    (fun b j => m' (((0 : Dev Cert.ReferenceIdeal.nD).tc : Thread Cert.ReferenceIdeal.nD Cert.ReferenceIdeal.τ).loc
      Cert.ReferenceIdeal.main_arg1) (ix2 (n0 := 65536) (n1 := 1024) b j))
    (fun d a j b hb => ?_) c i j) (Cert.ReferenceIdeal.Value.lookup_apply (F := Ideal) _ _ i j (hr i)).symm
  refine (congrFun ((Cert.KernelIdeal.Body.V3_arg1 m d).trans (hin d).2) (ix2 (n0 := 16384) (n1 := 1024) a j)).trans ?_
  rw [Layout.blockN_apply]
  refine congrArg _ (funext fun k => Fin.ext ?_)
  match k with
  | ⟨0, _⟩ =>
    show (d.val / 1 % 4 * 1 + 0) * 16384 + a.val = b.val
    omega
  | ⟨1, _⟩ =>
    show 0 * 1024 + j.val = j.val
    omega

theorem claim : Cert.Claim :=
  ⟨Cert.Kernel.Gen.facts, Cert.KernelIdeal.Gen.facts, Cert.ReferenceIdeal.Gen.facts,
    Cert.Pre_ids_in_range_KernelIdeal.Gen.facts, Cert.Pre_ids_in_range_ReferenceIdeal.Gen.facts,
    frame_kernel, frame_kernelIdeal, fun m g _ => frame_kernelIdeal m g trivial,
    frame_reference, fun m g _ => frame_reference m g trivial, trivial, algebraic⟩

end Cert.Proof

end
